-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelProjRw (m : (ℓ : Loc Cert.KernelProjRw.nD Cert.KernelProjRw.τ Cert.KernelProjRw.sig) → Buf (Elt Bits) ℓ) : Prop :=
  True

def Pre_KernelProjRwIdeal (m : (ℓ : Loc Cert.KernelProjRwIdeal.nD Cert.KernelProjRwIdeal.τ Cert.KernelProjRwIdeal.sig) → Buf (Elt Ideal) ℓ) : Prop :=
  True

def Pre_ReferenceProjRwIdeal (m : (ℓ : Loc Cert.ReferenceProjRwIdeal.nD Cert.ReferenceProjRwIdeal.τ Cert.ReferenceProjRwIdeal.sig) → Buf (Elt Ideal) ℓ) : Prop :=
  True

def Pre_KernelProjRt (m : (ℓ : Loc Cert.KernelProjRt.nD Cert.KernelProjRt.τ Cert.KernelProjRt.sig) → Buf (Elt Bits) ℓ) : Prop :=
  True

def Pre_KernelProjRtIdeal (m : (ℓ : Loc Cert.KernelProjRtIdeal.nD Cert.KernelProjRtIdeal.τ Cert.KernelProjRtIdeal.sig) → Buf (Elt Ideal) ℓ) : Prop :=
  True

def Pre_ReferenceProjRtIdeal (m : (ℓ : Loc Cert.ReferenceProjRtIdeal.nD Cert.ReferenceProjRtIdeal.τ Cert.ReferenceProjRtIdeal.sig) → Buf (Elt Ideal) ℓ) : Prop :=
  True

def Pre_KernelProjSd (m : (ℓ : Loc Cert.KernelProjSd.nD Cert.KernelProjSd.τ Cert.KernelProjSd.sig) → Buf (Elt Bits) ℓ) : Prop :=
  True

def Pre_KernelProjSdIdeal (m : (ℓ : Loc Cert.KernelProjSdIdeal.nD Cert.KernelProjSdIdeal.τ Cert.KernelProjSdIdeal.sig) → Buf (Elt Ideal) ℓ) : Prop :=
  True

def Pre_ReferenceProjSdIdeal (m : (ℓ : Loc Cert.ReferenceProjSdIdeal.nD Cert.ReferenceProjSdIdeal.τ Cert.ReferenceProjSdIdeal.sig) → Buf (Elt Ideal) ℓ) : Prop :=
  True

def Pre_KernelProjGd (m : (ℓ : Loc Cert.KernelProjGd.nD Cert.KernelProjGd.τ Cert.KernelProjGd.sig) → Buf (Elt Bits) ℓ) : Prop :=
  True

def Pre_KernelProjGdIdeal (m : (ℓ : Loc Cert.KernelProjGdIdeal.nD Cert.KernelProjGdIdeal.τ Cert.KernelProjGdIdeal.sig) → Buf (Elt Ideal) ℓ) : Prop :=
  True

def Pre_ReferenceProjGdIdeal (m : (ℓ : Loc Cert.ReferenceProjGdIdeal.nD Cert.ReferenceProjGdIdeal.τ Cert.ReferenceProjGdIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMergeLast (m : (ℓ : Loc Cert.KernelMergeLast.nD Cert.KernelMergeLast.τ Cert.KernelMergeLast.sig) → Buf (Elt Bits) ℓ) : Prop :=
  True

def Pre_KernelMergeLastIdeal (m : (ℓ : Loc Cert.KernelMergeLastIdeal.nD Cert.KernelMergeLastIdeal.τ Cert.KernelMergeLastIdeal.sig) → Buf (Elt Ideal) ℓ) : Prop :=
  True

def Pre_ReferenceMergeLastIdeal (m : (ℓ : Loc Cert.ReferenceMergeLastIdeal.nD Cert.ReferenceMergeLastIdeal.τ Cert.ReferenceMergeLastIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelProjRw [hKernelProjRw : Cert.KernelProjRw.Facts] : Prop :=
  ∀ (m : (ℓ : Loc Cert.KernelProjRw.nD Cert.KernelProjRw.τ Cert.KernelProjRw.sig) → Buf (Elt Bits) ℓ) (g : Dev Cert.KernelProjRw.nD → PrngReg), Pre_KernelProjRw m →
    θ_run (Cert.KernelProjRw.defs (F := Bits)) (onTc (τ := Cert.KernelProjRw.τ) (Cert.KernelProjRw.main (F := Bits))) ⟨m, fun _ => 0, g⟩ (fun r => (∀ c : Dev Cert.KernelProjRw.nD,
      r.2.mem ((c.tc : Thread Cert.KernelProjRw.nD Cert.KernelProjRw.τ).loc Cert.KernelProjRw.main_arg0) = m ((c.tc : Thread Cert.KernelProjRw.nD Cert.KernelProjRw.τ).loc Cert.KernelProjRw.main_arg0)
      ∧ r.2.mem ((c.tc : Thread Cert.KernelProjRw.nD Cert.KernelProjRw.τ).loc Cert.KernelProjRw.main_arg1) = m ((c.tc : Thread Cert.KernelProjRw.nD Cert.KernelProjRw.τ).loc Cert.KernelProjRw.main_arg1)
      ∧ r.2.mem ((c.tc : Thread Cert.KernelProjRw.nD Cert.KernelProjRw.τ).loc Cert.KernelProjRw.main_arg2) = m ((c.tc : Thread Cert.KernelProjRw.nD Cert.KernelProjRw.τ).loc Cert.KernelProjRw.main_arg2))
      ∧ r.2.sem = fun _ => 0)

def quiescent_KernelProjRwIdeal [hKernelProjRwIdeal : Cert.KernelProjRwIdeal.Facts] : Prop :=
  ∀ (m : (ℓ : Loc Cert.KernelProjRwIdeal.nD Cert.KernelProjRwIdeal.τ Cert.KernelProjRwIdeal.sig) → Buf (Elt Ideal) ℓ) (g : Dev Cert.KernelProjRwIdeal.nD → PrngReg), Pre_KernelProjRwIdeal m →
    θ_run (Cert.KernelProjRwIdeal.defs (F := Ideal)) (onTc (τ := Cert.KernelProjRwIdeal.τ) (Cert.KernelProjRwIdeal.main (F := Ideal))) ⟨m, fun _ => 0, g⟩ (fun r => (∀ c : Dev Cert.KernelProjRwIdeal.nD,
      r.2.mem ((c.tc : Thread Cert.KernelProjRwIdeal.nD Cert.KernelProjRwIdeal.τ).loc Cert.KernelProjRwIdeal.main_arg0) = m ((c.tc : Thread Cert.KernelProjRwIdeal.nD Cert.KernelProjRwIdeal.τ).loc Cert.KernelProjRwIdeal.main_arg0)
      ∧ r.2.mem ((c.tc : Thread Cert.KernelProjRwIdeal.nD Cert.KernelProjRwIdeal.τ).loc Cert.KernelProjRwIdeal.main_arg1) = m ((c.tc : Thread Cert.KernelProjRwIdeal.nD Cert.KernelProjRwIdeal.τ).loc Cert.KernelProjRwIdeal.main_arg1)
      ∧ r.2.mem ((c.tc : Thread Cert.KernelProjRwIdeal.nD Cert.KernelProjRwIdeal.τ).loc Cert.KernelProjRwIdeal.main_arg2) = m ((c.tc : Thread Cert.KernelProjRwIdeal.nD Cert.KernelProjRwIdeal.τ).loc Cert.KernelProjRwIdeal.main_arg2))
      ∧ r.2.sem = fun _ => 0)

def quiescent_ReferenceProjRwIdeal [hReferenceProjRwIdeal : Cert.ReferenceProjRwIdeal.Facts] : Prop :=
  ∀ (m : (ℓ : Loc Cert.ReferenceProjRwIdeal.nD Cert.ReferenceProjRwIdeal.τ Cert.ReferenceProjRwIdeal.sig) → Buf (Elt Ideal) ℓ) (g : Dev Cert.ReferenceProjRwIdeal.nD → PrngReg), Pre_ReferenceProjRwIdeal m →
    θ_run (Cert.ReferenceProjRwIdeal.defs (F := Ideal)) (onTc (τ := Cert.ReferenceProjRwIdeal.τ) (Cert.ReferenceProjRwIdeal.main (F := Ideal))) ⟨m, fun _ => 0, g⟩ (fun r => (∀ c : Dev Cert.ReferenceProjRwIdeal.nD,
      r.2.mem ((c.tc : Thread Cert.ReferenceProjRwIdeal.nD Cert.ReferenceProjRwIdeal.τ).loc Cert.ReferenceProjRwIdeal.main_arg0) = m ((c.tc : Thread Cert.ReferenceProjRwIdeal.nD Cert.ReferenceProjRwIdeal.τ).loc Cert.ReferenceProjRwIdeal.main_arg0)
      ∧ r.2.mem ((c.tc : Thread Cert.ReferenceProjRwIdeal.nD Cert.ReferenceProjRwIdeal.τ).loc Cert.ReferenceProjRwIdeal.main_arg1) = m ((c.tc : Thread Cert.ReferenceProjRwIdeal.nD Cert.ReferenceProjRwIdeal.τ).loc Cert.ReferenceProjRwIdeal.main_arg1)
      ∧ r.2.mem ((c.tc : Thread Cert.ReferenceProjRwIdeal.nD Cert.ReferenceProjRwIdeal.τ).loc Cert.ReferenceProjRwIdeal.main_arg2) = m ((c.tc : Thread Cert.ReferenceProjRwIdeal.nD Cert.ReferenceProjRwIdeal.τ).loc Cert.ReferenceProjRwIdeal.main_arg2))
      ∧ r.2.sem = fun _ => 0)

def quiescent_KernelProjRt [hKernelProjRt : Cert.KernelProjRt.Facts] : Prop :=
  ∀ (m : (ℓ : Loc Cert.KernelProjRt.nD Cert.KernelProjRt.τ Cert.KernelProjRt.sig) → Buf (Elt Bits) ℓ) (g : Dev Cert.KernelProjRt.nD → PrngReg), Pre_KernelProjRt m →
    θ_run (Cert.KernelProjRt.defs (F := Bits)) (onTc (τ := Cert.KernelProjRt.τ) (Cert.KernelProjRt.main (F := Bits))) ⟨m, fun _ => 0, g⟩ (fun r => (∀ c : Dev Cert.KernelProjRt.nD,
      r.2.mem ((c.tc : Thread Cert.KernelProjRt.nD Cert.KernelProjRt.τ).loc Cert.KernelProjRt.main_arg0) = m ((c.tc : Thread Cert.KernelProjRt.nD Cert.KernelProjRt.τ).loc Cert.KernelProjRt.main_arg0)
      ∧ r.2.mem ((c.tc : Thread Cert.KernelProjRt.nD Cert.KernelProjRt.τ).loc Cert.KernelProjRt.main_arg1) = m ((c.tc : Thread Cert.KernelProjRt.nD Cert.KernelProjRt.τ).loc Cert.KernelProjRt.main_arg1)
      ∧ r.2.mem ((c.tc : Thread Cert.KernelProjRt.nD Cert.KernelProjRt.τ).loc Cert.KernelProjRt.main_arg2) = m ((c.tc : Thread Cert.KernelProjRt.nD Cert.KernelProjRt.τ).loc Cert.KernelProjRt.main_arg2))
      ∧ r.2.sem = fun _ => 0)

def quiescent_KernelProjRtIdeal [hKernelProjRtIdeal : Cert.KernelProjRtIdeal.Facts] : Prop :=
  ∀ (m : (ℓ : Loc Cert.KernelProjRtIdeal.nD Cert.KernelProjRtIdeal.τ Cert.KernelProjRtIdeal.sig) → Buf (Elt Ideal) ℓ) (g : Dev Cert.KernelProjRtIdeal.nD → PrngReg), Pre_KernelProjRtIdeal m →
    θ_run (Cert.KernelProjRtIdeal.defs (F := Ideal)) (onTc (τ := Cert.KernelProjRtIdeal.τ) (Cert.KernelProjRtIdeal.main (F := Ideal))) ⟨m, fun _ => 0, g⟩ (fun r => (∀ c : Dev Cert.KernelProjRtIdeal.nD,
      r.2.mem ((c.tc : Thread Cert.KernelProjRtIdeal.nD Cert.KernelProjRtIdeal.τ).loc Cert.KernelProjRtIdeal.main_arg0) = m ((c.tc : Thread Cert.KernelProjRtIdeal.nD Cert.KernelProjRtIdeal.τ).loc Cert.KernelProjRtIdeal.main_arg0)
      ∧ r.2.mem ((c.tc : Thread Cert.KernelProjRtIdeal.nD Cert.KernelProjRtIdeal.τ).loc Cert.KernelProjRtIdeal.main_arg1) = m ((c.tc : Thread Cert.KernelProjRtIdeal.nD Cert.KernelProjRtIdeal.τ).loc Cert.KernelProjRtIdeal.main_arg1)
      ∧ r.2.mem ((c.tc : Thread Cert.KernelProjRtIdeal.nD Cert.KernelProjRtIdeal.τ).loc Cert.KernelProjRtIdeal.main_arg2) = m ((c.tc : Thread Cert.KernelProjRtIdeal.nD Cert.KernelProjRtIdeal.τ).loc Cert.KernelProjRtIdeal.main_arg2))
      ∧ r.2.sem = fun _ => 0)

def quiescent_ReferenceProjRtIdeal [hReferenceProjRtIdeal : Cert.ReferenceProjRtIdeal.Facts] : Prop :=
  ∀ (m : (ℓ : Loc Cert.ReferenceProjRtIdeal.nD Cert.ReferenceProjRtIdeal.τ Cert.ReferenceProjRtIdeal.sig) → Buf (Elt Ideal) ℓ) (g : Dev Cert.ReferenceProjRtIdeal.nD → PrngReg), Pre_ReferenceProjRtIdeal m →
    θ_run (Cert.ReferenceProjRtIdeal.defs (F := Ideal)) (onTc (τ := Cert.ReferenceProjRtIdeal.τ) (Cert.ReferenceProjRtIdeal.main (F := Ideal))) ⟨m, fun _ => 0, g⟩ (fun r => (∀ c : Dev Cert.ReferenceProjRtIdeal.nD,
      r.2.mem ((c.tc : Thread Cert.ReferenceProjRtIdeal.nD Cert.ReferenceProjRtIdeal.τ).loc Cert.ReferenceProjRtIdeal.main_arg0) = m ((c.tc : Thread Cert.ReferenceProjRtIdeal.nD Cert.ReferenceProjRtIdeal.τ).loc Cert.ReferenceProjRtIdeal.main_arg0)
      ∧ r.2.mem ((c.tc : Thread Cert.ReferenceProjRtIdeal.nD Cert.ReferenceProjRtIdeal.τ).loc Cert.ReferenceProjRtIdeal.main_arg1) = m ((c.tc : Thread Cert.ReferenceProjRtIdeal.nD Cert.ReferenceProjRtIdeal.τ).loc Cert.ReferenceProjRtIdeal.main_arg1)
      ∧ r.2.mem ((c.tc : Thread Cert.ReferenceProjRtIdeal.nD Cert.ReferenceProjRtIdeal.τ).loc Cert.ReferenceProjRtIdeal.main_arg2) = m ((c.tc : Thread Cert.ReferenceProjRtIdeal.nD Cert.ReferenceProjRtIdeal.τ).loc Cert.ReferenceProjRtIdeal.main_arg2))
      ∧ r.2.sem = fun _ => 0)

def quiescent_KernelProjSd [hKernelProjSd : Cert.KernelProjSd.Facts] : Prop :=
  ∀ (m : (ℓ : Loc Cert.KernelProjSd.nD Cert.KernelProjSd.τ Cert.KernelProjSd.sig) → Buf (Elt Bits) ℓ) (g : Dev Cert.KernelProjSd.nD → PrngReg), Pre_KernelProjSd m →
    θ_run (Cert.KernelProjSd.defs (F := Bits)) (onTc (τ := Cert.KernelProjSd.τ) (Cert.KernelProjSd.main (F := Bits))) ⟨m, fun _ => 0, g⟩ (fun r => (∀ c : Dev Cert.KernelProjSd.nD,
      r.2.mem ((c.tc : Thread Cert.KernelProjSd.nD Cert.KernelProjSd.τ).loc Cert.KernelProjSd.main_arg0) = m ((c.tc : Thread Cert.KernelProjSd.nD Cert.KernelProjSd.τ).loc Cert.KernelProjSd.main_arg0)
      ∧ r.2.mem ((c.tc : Thread Cert.KernelProjSd.nD Cert.KernelProjSd.τ).loc Cert.KernelProjSd.main_arg1) = m ((c.tc : Thread Cert.KernelProjSd.nD Cert.KernelProjSd.τ).loc Cert.KernelProjSd.main_arg1)
      ∧ r.2.mem ((c.tc : Thread Cert.KernelProjSd.nD Cert.KernelProjSd.τ).loc Cert.KernelProjSd.main_arg2) = m ((c.tc : Thread Cert.KernelProjSd.nD Cert.KernelProjSd.τ).loc Cert.KernelProjSd.main_arg2))
      ∧ r.2.sem = fun _ => 0)

def quiescent_KernelProjSdIdeal [hKernelProjSdIdeal : Cert.KernelProjSdIdeal.Facts] : Prop :=
  ∀ (m : (ℓ : Loc Cert.KernelProjSdIdeal.nD Cert.KernelProjSdIdeal.τ Cert.KernelProjSdIdeal.sig) → Buf (Elt Ideal) ℓ) (g : Dev Cert.KernelProjSdIdeal.nD → PrngReg), Pre_KernelProjSdIdeal m →
    θ_run (Cert.KernelProjSdIdeal.defs (F := Ideal)) (onTc (τ := Cert.KernelProjSdIdeal.τ) (Cert.KernelProjSdIdeal.main (F := Ideal))) ⟨m, fun _ => 0, g⟩ (fun r => (∀ c : Dev Cert.KernelProjSdIdeal.nD,
      r.2.mem ((c.tc : Thread Cert.KernelProjSdIdeal.nD Cert.KernelProjSdIdeal.τ).loc Cert.KernelProjSdIdeal.main_arg0) = m ((c.tc : Thread Cert.KernelProjSdIdeal.nD Cert.KernelProjSdIdeal.τ).loc Cert.KernelProjSdIdeal.main_arg0)
      ∧ r.2.mem ((c.tc : Thread Cert.KernelProjSdIdeal.nD Cert.KernelProjSdIdeal.τ).loc Cert.KernelProjSdIdeal.main_arg1) = m ((c.tc : Thread Cert.KernelProjSdIdeal.nD Cert.KernelProjSdIdeal.τ).loc Cert.KernelProjSdIdeal.main_arg1)
      ∧ r.2.mem ((c.tc : Thread Cert.KernelProjSdIdeal.nD Cert.KernelProjSdIdeal.τ).loc Cert.KernelProjSdIdeal.main_arg2) = m ((c.tc : Thread Cert.KernelProjSdIdeal.nD Cert.KernelProjSdIdeal.τ).loc Cert.KernelProjSdIdeal.main_arg2))
      ∧ r.2.sem = fun _ => 0)

def quiescent_ReferenceProjSdIdeal [hReferenceProjSdIdeal : Cert.ReferenceProjSdIdeal.Facts] : Prop :=
  ∀ (m : (ℓ : Loc Cert.ReferenceProjSdIdeal.nD Cert.ReferenceProjSdIdeal.τ Cert.ReferenceProjSdIdeal.sig) → Buf (Elt Ideal) ℓ) (g : Dev Cert.ReferenceProjSdIdeal.nD → PrngReg), Pre_ReferenceProjSdIdeal m →
    θ_run (Cert.ReferenceProjSdIdeal.defs (F := Ideal)) (onTc (τ := Cert.ReferenceProjSdIdeal.τ) (Cert.ReferenceProjSdIdeal.main (F := Ideal))) ⟨m, fun _ => 0, g⟩ (fun r => (∀ c : Dev Cert.ReferenceProjSdIdeal.nD,
      r.2.mem ((c.tc : Thread Cert.ReferenceProjSdIdeal.nD Cert.ReferenceProjSdIdeal.τ).loc Cert.ReferenceProjSdIdeal.main_arg0) = m ((c.tc : Thread Cert.ReferenceProjSdIdeal.nD Cert.ReferenceProjSdIdeal.τ).loc Cert.ReferenceProjSdIdeal.main_arg0)
      ∧ r.2.mem ((c.tc : Thread Cert.ReferenceProjSdIdeal.nD Cert.ReferenceProjSdIdeal.τ).loc Cert.ReferenceProjSdIdeal.main_arg1) = m ((c.tc : Thread Cert.ReferenceProjSdIdeal.nD Cert.ReferenceProjSdIdeal.τ).loc Cert.ReferenceProjSdIdeal.main_arg1)
      ∧ r.2.mem ((c.tc : Thread Cert.ReferenceProjSdIdeal.nD Cert.ReferenceProjSdIdeal.τ).loc Cert.ReferenceProjSdIdeal.main_arg2) = m ((c.tc : Thread Cert.ReferenceProjSdIdeal.nD Cert.ReferenceProjSdIdeal.τ).loc Cert.ReferenceProjSdIdeal.main_arg2))
      ∧ r.2.sem = fun _ => 0)

def quiescent_KernelProjGd [hKernelProjGd : Cert.KernelProjGd.Facts] : Prop :=
  ∀ (m : (ℓ : Loc Cert.KernelProjGd.nD Cert.KernelProjGd.τ Cert.KernelProjGd.sig) → Buf (Elt Bits) ℓ) (g : Dev Cert.KernelProjGd.nD → PrngReg), Pre_KernelProjGd m →
    θ_run (Cert.KernelProjGd.defs (F := Bits)) (onTc (τ := Cert.KernelProjGd.τ) (Cert.KernelProjGd.main (F := Bits))) ⟨m, fun _ => 0, g⟩ (fun r => (∀ c : Dev Cert.KernelProjGd.nD,
      r.2.mem ((c.tc : Thread Cert.KernelProjGd.nD Cert.KernelProjGd.τ).loc Cert.KernelProjGd.main_arg0) = m ((c.tc : Thread Cert.KernelProjGd.nD Cert.KernelProjGd.τ).loc Cert.KernelProjGd.main_arg0)
      ∧ r.2.mem ((c.tc : Thread Cert.KernelProjGd.nD Cert.KernelProjGd.τ).loc Cert.KernelProjGd.main_arg1) = m ((c.tc : Thread Cert.KernelProjGd.nD Cert.KernelProjGd.τ).loc Cert.KernelProjGd.main_arg1)
      ∧ r.2.mem ((c.tc : Thread Cert.KernelProjGd.nD Cert.KernelProjGd.τ).loc Cert.KernelProjGd.main_arg2) = m ((c.tc : Thread Cert.KernelProjGd.nD Cert.KernelProjGd.τ).loc Cert.KernelProjGd.main_arg2))
      ∧ r.2.sem = fun _ => 0)

def quiescent_KernelProjGdIdeal [hKernelProjGdIdeal : Cert.KernelProjGdIdeal.Facts] : Prop :=
  ∀ (m : (ℓ : Loc Cert.KernelProjGdIdeal.nD Cert.KernelProjGdIdeal.τ Cert.KernelProjGdIdeal.sig) → Buf (Elt Ideal) ℓ) (g : Dev Cert.KernelProjGdIdeal.nD → PrngReg), Pre_KernelProjGdIdeal m →
    θ_run (Cert.KernelProjGdIdeal.defs (F := Ideal)) (onTc (τ := Cert.KernelProjGdIdeal.τ) (Cert.KernelProjGdIdeal.main (F := Ideal))) ⟨m, fun _ => 0, g⟩ (fun r => (∀ c : Dev Cert.KernelProjGdIdeal.nD,
      r.2.mem ((c.tc : Thread Cert.KernelProjGdIdeal.nD Cert.KernelProjGdIdeal.τ).loc Cert.KernelProjGdIdeal.main_arg0) = m ((c.tc : Thread Cert.KernelProjGdIdeal.nD Cert.KernelProjGdIdeal.τ).loc Cert.KernelProjGdIdeal.main_arg0)
      ∧ r.2.mem ((c.tc : Thread Cert.KernelProjGdIdeal.nD Cert.KernelProjGdIdeal.τ).loc Cert.KernelProjGdIdeal.main_arg1) = m ((c.tc : Thread Cert.KernelProjGdIdeal.nD Cert.KernelProjGdIdeal.τ).loc Cert.KernelProjGdIdeal.main_arg1)
      ∧ r.2.mem ((c.tc : Thread Cert.KernelProjGdIdeal.nD Cert.KernelProjGdIdeal.τ).loc Cert.KernelProjGdIdeal.main_arg2) = m ((c.tc : Thread Cert.KernelProjGdIdeal.nD Cert.KernelProjGdIdeal.τ).loc Cert.KernelProjGdIdeal.main_arg2))
      ∧ r.2.sem = fun _ => 0)

def quiescent_ReferenceProjGdIdeal [hReferenceProjGdIdeal : Cert.ReferenceProjGdIdeal.Facts] : Prop :=
  ∀ (m : (ℓ : Loc Cert.ReferenceProjGdIdeal.nD Cert.ReferenceProjGdIdeal.τ Cert.ReferenceProjGdIdeal.sig) → Buf (Elt Ideal) ℓ) (g : Dev Cert.ReferenceProjGdIdeal.nD → PrngReg), Pre_ReferenceProjGdIdeal m →
    θ_run (Cert.ReferenceProjGdIdeal.defs (F := Ideal)) (onTc (τ := Cert.ReferenceProjGdIdeal.τ) (Cert.ReferenceProjGdIdeal.main (F := Ideal))) ⟨m, fun _ => 0, g⟩ (fun r => (∀ c : Dev Cert.ReferenceProjGdIdeal.nD,
      r.2.mem ((c.tc : Thread Cert.ReferenceProjGdIdeal.nD Cert.ReferenceProjGdIdeal.τ).loc Cert.ReferenceProjGdIdeal.main_arg0) = m ((c.tc : Thread Cert.ReferenceProjGdIdeal.nD Cert.ReferenceProjGdIdeal.τ).loc Cert.ReferenceProjGdIdeal.main_arg0)
      ∧ r.2.mem ((c.tc : Thread Cert.ReferenceProjGdIdeal.nD Cert.ReferenceProjGdIdeal.τ).loc Cert.ReferenceProjGdIdeal.main_arg1) = m ((c.tc : Thread Cert.ReferenceProjGdIdeal.nD Cert.ReferenceProjGdIdeal.τ).loc Cert.ReferenceProjGdIdeal.main_arg1)
      ∧ r.2.mem ((c.tc : Thread Cert.ReferenceProjGdIdeal.nD Cert.ReferenceProjGdIdeal.τ).loc Cert.ReferenceProjGdIdeal.main_arg2) = m ((c.tc : Thread Cert.ReferenceProjGdIdeal.nD Cert.ReferenceProjGdIdeal.τ).loc Cert.ReferenceProjGdIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9))
      ∧ r.2.sem = fun _ => 0)

def quiescent_KernelMergeLast [hKernelMergeLast : Cert.KernelMergeLast.Facts] : Prop :=
  ∀ (m : (ℓ : Loc Cert.KernelMergeLast.nD Cert.KernelMergeLast.τ Cert.KernelMergeLast.sig) → Buf (Elt Bits) ℓ) (g : Dev Cert.KernelMergeLast.nD → PrngReg), Pre_KernelMergeLast m →
    θ_run (Cert.KernelMergeLast.defs (F := Bits)) (onTc (τ := Cert.KernelMergeLast.τ) (Cert.KernelMergeLast.main (F := Bits))) ⟨m, fun _ => 0, g⟩ (fun r => (∀ c : Dev Cert.KernelMergeLast.nD,
      r.2.mem ((c.tc : Thread Cert.KernelMergeLast.nD Cert.KernelMergeLast.τ).loc Cert.KernelMergeLast.main_arg0) = m ((c.tc : Thread Cert.KernelMergeLast.nD Cert.KernelMergeLast.τ).loc Cert.KernelMergeLast.main_arg0)
      ∧ r.2.mem ((c.tc : Thread Cert.KernelMergeLast.nD Cert.KernelMergeLast.τ).loc Cert.KernelMergeLast.main_arg1) = m ((c.tc : Thread Cert.KernelMergeLast.nD Cert.KernelMergeLast.τ).loc Cert.KernelMergeLast.main_arg1)
      ∧ r.2.mem ((c.tc : Thread Cert.KernelMergeLast.nD Cert.KernelMergeLast.τ).loc Cert.KernelMergeLast.main_arg2) = m ((c.tc : Thread Cert.KernelMergeLast.nD Cert.KernelMergeLast.τ).loc Cert.KernelMergeLast.main_arg2)
      ∧ r.2.mem ((c.tc : Thread Cert.KernelMergeLast.nD Cert.KernelMergeLast.τ).loc Cert.KernelMergeLast.main_arg3) = m ((c.tc : Thread Cert.KernelMergeLast.nD Cert.KernelMergeLast.τ).loc Cert.KernelMergeLast.main_arg3)
      ∧ r.2.mem ((c.tc : Thread Cert.KernelMergeLast.nD Cert.KernelMergeLast.τ).loc Cert.KernelMergeLast.main_arg4) = m ((c.tc : Thread Cert.KernelMergeLast.nD Cert.KernelMergeLast.τ).loc Cert.KernelMergeLast.main_arg4)
      ∧ r.2.mem ((c.tc : Thread Cert.KernelMergeLast.nD Cert.KernelMergeLast.τ).loc Cert.KernelMergeLast.main_arg5) = m ((c.tc : Thread Cert.KernelMergeLast.nD Cert.KernelMergeLast.τ).loc Cert.KernelMergeLast.main_arg5)
      ∧ r.2.mem ((c.tc : Thread Cert.KernelMergeLast.nD Cert.KernelMergeLast.τ).loc Cert.KernelMergeLast.main_arg6) = m ((c.tc : Thread Cert.KernelMergeLast.nD Cert.KernelMergeLast.τ).loc Cert.KernelMergeLast.main_arg6)
      ∧ r.2.mem ((c.tc : Thread Cert.KernelMergeLast.nD Cert.KernelMergeLast.τ).loc Cert.KernelMergeLast.main_arg7) = m ((c.tc : Thread Cert.KernelMergeLast.nD Cert.KernelMergeLast.τ).loc Cert.KernelMergeLast.main_arg7)
      ∧ r.2.mem ((c.tc : Thread Cert.KernelMergeLast.nD Cert.KernelMergeLast.τ).loc Cert.KernelMergeLast.main_arg8) = m ((c.tc : Thread Cert.KernelMergeLast.nD Cert.KernelMergeLast.τ).loc Cert.KernelMergeLast.main_arg8)
      ∧ r.2.mem ((c.tc : Thread Cert.KernelMergeLast.nD Cert.KernelMergeLast.τ).loc Cert.KernelMergeLast.main_arg9) = m ((c.tc : Thread Cert.KernelMergeLast.nD Cert.KernelMergeLast.τ).loc Cert.KernelMergeLast.main_arg9))
      ∧ r.2.sem = fun _ => 0)

def quiescent_KernelMergeLastIdeal [hKernelMergeLastIdeal : Cert.KernelMergeLastIdeal.Facts] : Prop :=
  ∀ (m : (ℓ : Loc Cert.KernelMergeLastIdeal.nD Cert.KernelMergeLastIdeal.τ Cert.KernelMergeLastIdeal.sig) → Buf (Elt Ideal) ℓ) (g : Dev Cert.KernelMergeLastIdeal.nD → PrngReg), Pre_KernelMergeLastIdeal m →
    θ_run (Cert.KernelMergeLastIdeal.defs (F := Ideal)) (onTc (τ := Cert.KernelMergeLastIdeal.τ) (Cert.KernelMergeLastIdeal.main (F := Ideal))) ⟨m, fun _ => 0, g⟩ (fun r => (∀ c : Dev Cert.KernelMergeLastIdeal.nD,
      r.2.mem ((c.tc : Thread Cert.KernelMergeLastIdeal.nD Cert.KernelMergeLastIdeal.τ).loc Cert.KernelMergeLastIdeal.main_arg0) = m ((c.tc : Thread Cert.KernelMergeLastIdeal.nD Cert.KernelMergeLastIdeal.τ).loc Cert.KernelMergeLastIdeal.main_arg0)
      ∧ r.2.mem ((c.tc : Thread Cert.KernelMergeLastIdeal.nD Cert.KernelMergeLastIdeal.τ).loc Cert.KernelMergeLastIdeal.main_arg1) = m ((c.tc : Thread Cert.KernelMergeLastIdeal.nD Cert.KernelMergeLastIdeal.τ).loc Cert.KernelMergeLastIdeal.main_arg1)
      ∧ r.2.mem ((c.tc : Thread Cert.KernelMergeLastIdeal.nD Cert.KernelMergeLastIdeal.τ).loc Cert.KernelMergeLastIdeal.main_arg2) = m ((c.tc : Thread Cert.KernelMergeLastIdeal.nD Cert.KernelMergeLastIdeal.τ).loc Cert.KernelMergeLastIdeal.main_arg2)
      ∧ r.2.mem ((c.tc : Thread Cert.KernelMergeLastIdeal.nD Cert.KernelMergeLastIdeal.τ).loc Cert.KernelMergeLastIdeal.main_arg3) = m ((c.tc : Thread Cert.KernelMergeLastIdeal.nD Cert.KernelMergeLastIdeal.τ).loc Cert.KernelMergeLastIdeal.main_arg3)
      ∧ r.2.mem ((c.tc : Thread Cert.KernelMergeLastIdeal.nD Cert.KernelMergeLastIdeal.τ).loc Cert.KernelMergeLastIdeal.main_arg4) = m ((c.tc : Thread Cert.KernelMergeLastIdeal.nD Cert.KernelMergeLastIdeal.τ).loc Cert.KernelMergeLastIdeal.main_arg4)
      ∧ r.2.mem ((c.tc : Thread Cert.KernelMergeLastIdeal.nD Cert.KernelMergeLastIdeal.τ).loc Cert.KernelMergeLastIdeal.main_arg5) = m ((c.tc : Thread Cert.KernelMergeLastIdeal.nD Cert.KernelMergeLastIdeal.τ).loc Cert.KernelMergeLastIdeal.main_arg5)
      ∧ r.2.mem ((c.tc : Thread Cert.KernelMergeLastIdeal.nD Cert.KernelMergeLastIdeal.τ).loc Cert.KernelMergeLastIdeal.main_arg6) = m ((c.tc : Thread Cert.KernelMergeLastIdeal.nD Cert.KernelMergeLastIdeal.τ).loc Cert.KernelMergeLastIdeal.main_arg6)
      ∧ r.2.mem ((c.tc : Thread Cert.KernelMergeLastIdeal.nD Cert.KernelMergeLastIdeal.τ).loc Cert.KernelMergeLastIdeal.main_arg7) = m ((c.tc : Thread Cert.KernelMergeLastIdeal.nD Cert.KernelMergeLastIdeal.τ).loc Cert.KernelMergeLastIdeal.main_arg7)
      ∧ r.2.mem ((c.tc : Thread Cert.KernelMergeLastIdeal.nD Cert.KernelMergeLastIdeal.τ).loc Cert.KernelMergeLastIdeal.main_arg8) = m ((c.tc : Thread Cert.KernelMergeLastIdeal.nD Cert.KernelMergeLastIdeal.τ).loc Cert.KernelMergeLastIdeal.main_arg8)
      ∧ r.2.mem ((c.tc : Thread Cert.KernelMergeLastIdeal.nD Cert.KernelMergeLastIdeal.τ).loc Cert.KernelMergeLastIdeal.main_arg9) = m ((c.tc : Thread Cert.KernelMergeLastIdeal.nD Cert.KernelMergeLastIdeal.τ).loc Cert.KernelMergeLastIdeal.main_arg9))
      ∧ r.2.sem = fun _ => 0)

def quiescent_ReferenceMergeLastIdeal [hReferenceMergeLastIdeal : Cert.ReferenceMergeLastIdeal.Facts] : Prop :=
  ∀ (m : (ℓ : Loc Cert.ReferenceMergeLastIdeal.nD Cert.ReferenceMergeLastIdeal.τ Cert.ReferenceMergeLastIdeal.sig) → Buf (Elt Ideal) ℓ) (g : Dev Cert.ReferenceMergeLastIdeal.nD → PrngReg), Pre_ReferenceMergeLastIdeal m →
    θ_run (Cert.ReferenceMergeLastIdeal.defs (F := Ideal)) (onTc (τ := Cert.ReferenceMergeLastIdeal.τ) (Cert.ReferenceMergeLastIdeal.main (F := Ideal))) ⟨m, fun _ => 0, g⟩ (fun r => (∀ c : Dev Cert.ReferenceMergeLastIdeal.nD,
      r.2.mem ((c.tc : Thread Cert.ReferenceMergeLastIdeal.nD Cert.ReferenceMergeLastIdeal.τ).loc Cert.ReferenceMergeLastIdeal.main_arg0) = m ((c.tc : Thread Cert.ReferenceMergeLastIdeal.nD Cert.ReferenceMergeLastIdeal.τ).loc Cert.ReferenceMergeLastIdeal.main_arg0)
      ∧ r.2.mem ((c.tc : Thread Cert.ReferenceMergeLastIdeal.nD Cert.ReferenceMergeLastIdeal.τ).loc Cert.ReferenceMergeLastIdeal.main_arg1) = m ((c.tc : Thread Cert.ReferenceMergeLastIdeal.nD Cert.ReferenceMergeLastIdeal.τ).loc Cert.ReferenceMergeLastIdeal.main_arg1)
      ∧ r.2.mem ((c.tc : Thread Cert.ReferenceMergeLastIdeal.nD Cert.ReferenceMergeLastIdeal.τ).loc Cert.ReferenceMergeLastIdeal.main_arg2) = m ((c.tc : Thread Cert.ReferenceMergeLastIdeal.nD Cert.ReferenceMergeLastIdeal.τ).loc Cert.ReferenceMergeLastIdeal.main_arg2)
      ∧ r.2.mem ((c.tc : Thread Cert.ReferenceMergeLastIdeal.nD Cert.ReferenceMergeLastIdeal.τ).loc Cert.ReferenceMergeLastIdeal.main_arg3) = m ((c.tc : Thread Cert.ReferenceMergeLastIdeal.nD Cert.ReferenceMergeLastIdeal.τ).loc Cert.ReferenceMergeLastIdeal.main_arg3)
      ∧ r.2.mem ((c.tc : Thread Cert.ReferenceMergeLastIdeal.nD Cert.ReferenceMergeLastIdeal.τ).loc Cert.ReferenceMergeLastIdeal.main_arg4) = m ((c.tc : Thread Cert.ReferenceMergeLastIdeal.nD Cert.ReferenceMergeLastIdeal.τ).loc Cert.ReferenceMergeLastIdeal.main_arg4)
      ∧ r.2.mem ((c.tc : Thread Cert.ReferenceMergeLastIdeal.nD Cert.ReferenceMergeLastIdeal.τ).loc Cert.ReferenceMergeLastIdeal.main_arg5) = m ((c.tc : Thread Cert.ReferenceMergeLastIdeal.nD Cert.ReferenceMergeLastIdeal.τ).loc Cert.ReferenceMergeLastIdeal.main_arg5)
      ∧ r.2.mem ((c.tc : Thread Cert.ReferenceMergeLastIdeal.nD Cert.ReferenceMergeLastIdeal.τ).loc Cert.ReferenceMergeLastIdeal.main_arg6) = m ((c.tc : Thread Cert.ReferenceMergeLastIdeal.nD Cert.ReferenceMergeLastIdeal.τ).loc Cert.ReferenceMergeLastIdeal.main_arg6)
      ∧ r.2.mem ((c.tc : Thread Cert.ReferenceMergeLastIdeal.nD Cert.ReferenceMergeLastIdeal.τ).loc Cert.ReferenceMergeLastIdeal.main_arg7) = m ((c.tc : Thread Cert.ReferenceMergeLastIdeal.nD Cert.ReferenceMergeLastIdeal.τ).loc Cert.ReferenceMergeLastIdeal.main_arg7)
      ∧ r.2.mem ((c.tc : Thread Cert.ReferenceMergeLastIdeal.nD Cert.ReferenceMergeLastIdeal.τ).loc Cert.ReferenceMergeLastIdeal.main_arg8) = m ((c.tc : Thread Cert.ReferenceMergeLastIdeal.nD Cert.ReferenceMergeLastIdeal.τ).loc Cert.ReferenceMergeLastIdeal.main_arg8)
      ∧ r.2.mem ((c.tc : Thread Cert.ReferenceMergeLastIdeal.nD Cert.ReferenceMergeLastIdeal.τ).loc Cert.ReferenceMergeLastIdeal.main_arg9) = m ((c.tc : Thread Cert.ReferenceMergeLastIdeal.nD Cert.ReferenceMergeLastIdeal.τ).loc Cert.ReferenceMergeLastIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelProjRw_KernelProjRwIdeal : Prop :=
  True

def algebraic_KernelProjRwIdeal_ReferenceProjRwIdeal [hKernelProjRwIdeal : Cert.KernelProjRwIdeal.Facts] [hReferenceProjRwIdeal : Cert.ReferenceProjRwIdeal.Facts] : Prop :=
  ∀ (m : (ℓ : Loc Cert.KernelProjRwIdeal.nD Cert.KernelProjRwIdeal.τ Cert.KernelProjRwIdeal.sig) → Buf (Elt Ideal) ℓ) (g : Dev Cert.KernelProjRwIdeal.nD → PrngReg)
    (m' : (ℓ : Loc Cert.ReferenceProjRwIdeal.nD Cert.ReferenceProjRwIdeal.τ Cert.ReferenceProjRwIdeal.sig) → Buf (Elt Ideal) ℓ) (g' : Dev Cert.ReferenceProjRwIdeal.nD → PrngReg), Pre_KernelProjRwIdeal m →
    (∀ c : Dev Cert.KernelProjRwIdeal.nD,
      m' ((c.tc : Thread Cert.ReferenceProjRwIdeal.nD Cert.ReferenceProjRwIdeal.τ).loc Cert.ReferenceProjRwIdeal.main_arg0) = m ((c.tc : Thread Cert.KernelProjRwIdeal.nD Cert.KernelProjRwIdeal.τ).loc Cert.KernelProjRwIdeal.main_arg0)
      ∧ m' ((c.tc : Thread Cert.ReferenceProjRwIdeal.nD Cert.ReferenceProjRwIdeal.τ).loc Cert.ReferenceProjRwIdeal.main_arg1) = m ((c.tc : Thread Cert.KernelProjRwIdeal.nD Cert.KernelProjRwIdeal.τ).loc Cert.KernelProjRwIdeal.main_arg1)
      ∧ m' ((c.tc : Thread Cert.ReferenceProjRwIdeal.nD Cert.ReferenceProjRwIdeal.τ).loc Cert.ReferenceProjRwIdeal.main_arg2) = m ((c.tc : Thread Cert.KernelProjRwIdeal.nD Cert.KernelProjRwIdeal.τ).loc Cert.KernelProjRwIdeal.main_arg2)) →
    ∃ (v0 : (c : Dev Cert.KernelProjRwIdeal.nD) → Buf (Elt Ideal) ((c.tc : Thread Cert.KernelProjRwIdeal.nD Cert.KernelProjRwIdeal.τ).loc Cert.KernelProjRwIdeal.main_v31)),
      θ_run (Cert.KernelProjRwIdeal.defs (F := Ideal)) (onTc (τ := Cert.KernelProjRwIdeal.τ) (Cert.KernelProjRwIdeal.main (F := Ideal))) ⟨m, fun _ => 0, g⟩ (fun r => ∀ c : Dev Cert.KernelProjRwIdeal.nD,
          r.2.mem ((c.tc : Thread Cert.KernelProjRwIdeal.nD Cert.KernelProjRwIdeal.τ).loc Cert.KernelProjRwIdeal.main_v31) = v0 c
          ∧ r.2.mem ((c.tc : Thread Cert.KernelProjRwIdeal.nD Cert.KernelProjRwIdeal.τ).loc Cert.KernelProjRwIdeal.main_arg0) = m ((c.tc : Thread Cert.KernelProjRwIdeal.nD Cert.KernelProjRwIdeal.τ).loc Cert.KernelProjRwIdeal.main_arg0)
          ∧ r.2.mem ((c.tc : Thread Cert.KernelProjRwIdeal.nD Cert.KernelProjRwIdeal.τ).loc Cert.KernelProjRwIdeal.main_arg1) = m ((c.tc : Thread Cert.KernelProjRwIdeal.nD Cert.KernelProjRwIdeal.τ).loc Cert.KernelProjRwIdeal.main_arg1)
          ∧ r.2.mem ((c.tc : Thread Cert.KernelProjRwIdeal.nD Cert.KernelProjRwIdeal.τ).loc Cert.KernelProjRwIdeal.main_arg2) = m ((c.tc : Thread Cert.KernelProjRwIdeal.nD Cert.KernelProjRwIdeal.τ).loc Cert.KernelProjRwIdeal.main_arg2))
      ∧ θ_run (Cert.ReferenceProjRwIdeal.defs (F := Ideal)) (onTc (τ := Cert.ReferenceProjRwIdeal.τ) (Cert.ReferenceProjRwIdeal.main (F := Ideal))) ⟨m', fun _ => 0, g'⟩ (fun r => ∀ c : Dev Cert.ReferenceProjRwIdeal.nD,
          r.2.mem ((c.tc : Thread Cert.ReferenceProjRwIdeal.nD Cert.ReferenceProjRwIdeal.τ).loc Cert.ReferenceProjRwIdeal.main_v14) = v0 c
          ∧ r.2.mem ((c.tc : Thread Cert.ReferenceProjRwIdeal.nD Cert.ReferenceProjRwIdeal.τ).loc Cert.ReferenceProjRwIdeal.main_arg0) = m' ((c.tc : Thread Cert.ReferenceProjRwIdeal.nD Cert.ReferenceProjRwIdeal.τ).loc Cert.ReferenceProjRwIdeal.main_arg0)
          ∧ r.2.mem ((c.tc : Thread Cert.ReferenceProjRwIdeal.nD Cert.ReferenceProjRwIdeal.τ).loc Cert.ReferenceProjRwIdeal.main_arg1) = m' ((c.tc : Thread Cert.ReferenceProjRwIdeal.nD Cert.ReferenceProjRwIdeal.τ).loc Cert.ReferenceProjRwIdeal.main_arg1)
          ∧ r.2.mem ((c.tc : Thread Cert.ReferenceProjRwIdeal.nD Cert.ReferenceProjRwIdeal.τ).loc Cert.ReferenceProjRwIdeal.main_arg2) = m' ((c.tc : Thread Cert.ReferenceProjRwIdeal.nD Cert.ReferenceProjRwIdeal.τ).loc Cert.ReferenceProjRwIdeal.main_arg2))

def preserves_KernelProjRt_KernelProjRtIdeal : Prop :=
  True

def algebraic_KernelProjRtIdeal_ReferenceProjRtIdeal [hKernelProjRtIdeal : Cert.KernelProjRtIdeal.Facts] [hReferenceProjRtIdeal : Cert.ReferenceProjRtIdeal.Facts] : Prop :=
  ∀ (m : (ℓ : Loc Cert.KernelProjRtIdeal.nD Cert.KernelProjRtIdeal.τ Cert.KernelProjRtIdeal.sig) → Buf (Elt Ideal) ℓ) (g : Dev Cert.KernelProjRtIdeal.nD → PrngReg)
    (m' : (ℓ : Loc Cert.ReferenceProjRtIdeal.nD Cert.ReferenceProjRtIdeal.τ Cert.ReferenceProjRtIdeal.sig) → Buf (Elt Ideal) ℓ) (g' : Dev Cert.ReferenceProjRtIdeal.nD → PrngReg), Pre_KernelProjRtIdeal m →
    (∀ c : Dev Cert.KernelProjRtIdeal.nD,
      m' ((c.tc : Thread Cert.ReferenceProjRtIdeal.nD Cert.ReferenceProjRtIdeal.τ).loc Cert.ReferenceProjRtIdeal.main_arg0) = m ((c.tc : Thread Cert.KernelProjRtIdeal.nD Cert.KernelProjRtIdeal.τ).loc Cert.KernelProjRtIdeal.main_arg0)
      ∧ m' ((c.tc : Thread Cert.ReferenceProjRtIdeal.nD Cert.ReferenceProjRtIdeal.τ).loc Cert.ReferenceProjRtIdeal.main_arg1) = m ((c.tc : Thread Cert.KernelProjRtIdeal.nD Cert.KernelProjRtIdeal.τ).loc Cert.KernelProjRtIdeal.main_arg1)
      ∧ m' ((c.tc : Thread Cert.ReferenceProjRtIdeal.nD Cert.ReferenceProjRtIdeal.τ).loc Cert.ReferenceProjRtIdeal.main_arg2) = m ((c.tc : Thread Cert.KernelProjRtIdeal.nD Cert.KernelProjRtIdeal.τ).loc Cert.KernelProjRtIdeal.main_arg2)) →
    ∃ (v0 : (c : Dev Cert.KernelProjRtIdeal.nD) → Buf (Elt Ideal) ((c.tc : Thread Cert.KernelProjRtIdeal.nD Cert.KernelProjRtIdeal.τ).loc Cert.KernelProjRtIdeal.main_v31)),
      θ_run (Cert.KernelProjRtIdeal.defs (F := Ideal)) (onTc (τ := Cert.KernelProjRtIdeal.τ) (Cert.KernelProjRtIdeal.main (F := Ideal))) ⟨m, fun _ => 0, g⟩ (fun r => ∀ c : Dev Cert.KernelProjRtIdeal.nD,
          r.2.mem ((c.tc : Thread Cert.KernelProjRtIdeal.nD Cert.KernelProjRtIdeal.τ).loc Cert.KernelProjRtIdeal.main_v31) = v0 c
          ∧ r.2.mem ((c.tc : Thread Cert.KernelProjRtIdeal.nD Cert.KernelProjRtIdeal.τ).loc Cert.KernelProjRtIdeal.main_arg0) = m ((c.tc : Thread Cert.KernelProjRtIdeal.nD Cert.KernelProjRtIdeal.τ).loc Cert.KernelProjRtIdeal.main_arg0)
          ∧ r.2.mem ((c.tc : Thread Cert.KernelProjRtIdeal.nD Cert.KernelProjRtIdeal.τ).loc Cert.KernelProjRtIdeal.main_arg1) = m ((c.tc : Thread Cert.KernelProjRtIdeal.nD Cert.KernelProjRtIdeal.τ).loc Cert.KernelProjRtIdeal.main_arg1)
          ∧ r.2.mem ((c.tc : Thread Cert.KernelProjRtIdeal.nD Cert.KernelProjRtIdeal.τ).loc Cert.KernelProjRtIdeal.main_arg2) = m ((c.tc : Thread Cert.KernelProjRtIdeal.nD Cert.KernelProjRtIdeal.τ).loc Cert.KernelProjRtIdeal.main_arg2))
      ∧ θ_run (Cert.ReferenceProjRtIdeal.defs (F := Ideal)) (onTc (τ := Cert.ReferenceProjRtIdeal.τ) (Cert.ReferenceProjRtIdeal.main (F := Ideal))) ⟨m', fun _ => 0, g'⟩ (fun r => ∀ c : Dev Cert.ReferenceProjRtIdeal.nD,
          r.2.mem ((c.tc : Thread Cert.ReferenceProjRtIdeal.nD Cert.ReferenceProjRtIdeal.τ).loc Cert.ReferenceProjRtIdeal.main_v14) = v0 c
          ∧ r.2.mem ((c.tc : Thread Cert.ReferenceProjRtIdeal.nD Cert.ReferenceProjRtIdeal.τ).loc Cert.ReferenceProjRtIdeal.main_arg0) = m' ((c.tc : Thread Cert.ReferenceProjRtIdeal.nD Cert.ReferenceProjRtIdeal.τ).loc Cert.ReferenceProjRtIdeal.main_arg0)
          ∧ r.2.mem ((c.tc : Thread Cert.ReferenceProjRtIdeal.nD Cert.ReferenceProjRtIdeal.τ).loc Cert.ReferenceProjRtIdeal.main_arg1) = m' ((c.tc : Thread Cert.ReferenceProjRtIdeal.nD Cert.ReferenceProjRtIdeal.τ).loc Cert.ReferenceProjRtIdeal.main_arg1)
          ∧ r.2.mem ((c.tc : Thread Cert.ReferenceProjRtIdeal.nD Cert.ReferenceProjRtIdeal.τ).loc Cert.ReferenceProjRtIdeal.main_arg2) = m' ((c.tc : Thread Cert.ReferenceProjRtIdeal.nD Cert.ReferenceProjRtIdeal.τ).loc Cert.ReferenceProjRtIdeal.main_arg2))

def preserves_KernelProjSd_KernelProjSdIdeal : Prop :=
  True

def algebraic_KernelProjSdIdeal_ReferenceProjSdIdeal [hKernelProjSdIdeal : Cert.KernelProjSdIdeal.Facts] [hReferenceProjSdIdeal : Cert.ReferenceProjSdIdeal.Facts] : Prop :=
  ∀ (m : (ℓ : Loc Cert.KernelProjSdIdeal.nD Cert.KernelProjSdIdeal.τ Cert.KernelProjSdIdeal.sig) → Buf (Elt Ideal) ℓ) (g : Dev Cert.KernelProjSdIdeal.nD → PrngReg)
    (m' : (ℓ : Loc Cert.ReferenceProjSdIdeal.nD Cert.ReferenceProjSdIdeal.τ Cert.ReferenceProjSdIdeal.sig) → Buf (Elt Ideal) ℓ) (g' : Dev Cert.ReferenceProjSdIdeal.nD → PrngReg), Pre_KernelProjSdIdeal m →
    (∀ c : Dev Cert.KernelProjSdIdeal.nD,
      m' ((c.tc : Thread Cert.ReferenceProjSdIdeal.nD Cert.ReferenceProjSdIdeal.τ).loc Cert.ReferenceProjSdIdeal.main_arg0) = m ((c.tc : Thread Cert.KernelProjSdIdeal.nD Cert.KernelProjSdIdeal.τ).loc Cert.KernelProjSdIdeal.main_arg0)
      ∧ m' ((c.tc : Thread Cert.ReferenceProjSdIdeal.nD Cert.ReferenceProjSdIdeal.τ).loc Cert.ReferenceProjSdIdeal.main_arg1) = m ((c.tc : Thread Cert.KernelProjSdIdeal.nD Cert.KernelProjSdIdeal.τ).loc Cert.KernelProjSdIdeal.main_arg1)
      ∧ m' ((c.tc : Thread Cert.ReferenceProjSdIdeal.nD Cert.ReferenceProjSdIdeal.τ).loc Cert.ReferenceProjSdIdeal.main_arg2) = m ((c.tc : Thread Cert.KernelProjSdIdeal.nD Cert.KernelProjSdIdeal.τ).loc Cert.KernelProjSdIdeal.main_arg2)) →
    ∃ (v0 : (c : Dev Cert.KernelProjSdIdeal.nD) → Buf (Elt Ideal) ((c.tc : Thread Cert.KernelProjSdIdeal.nD Cert.KernelProjSdIdeal.τ).loc Cert.KernelProjSdIdeal.main_v31)),
      θ_run (Cert.KernelProjSdIdeal.defs (F := Ideal)) (onTc (τ := Cert.KernelProjSdIdeal.τ) (Cert.KernelProjSdIdeal.main (F := Ideal))) ⟨m, fun _ => 0, g⟩ (fun r => ∀ c : Dev Cert.KernelProjSdIdeal.nD,
          r.2.mem ((c.tc : Thread Cert.KernelProjSdIdeal.nD Cert.KernelProjSdIdeal.τ).loc Cert.KernelProjSdIdeal.main_v31) = v0 c
          ∧ r.2.mem ((c.tc : Thread Cert.KernelProjSdIdeal.nD Cert.KernelProjSdIdeal.τ).loc Cert.KernelProjSdIdeal.main_arg0) = m ((c.tc : Thread Cert.KernelProjSdIdeal.nD Cert.KernelProjSdIdeal.τ).loc Cert.KernelProjSdIdeal.main_arg0)
          ∧ r.2.mem ((c.tc : Thread Cert.KernelProjSdIdeal.nD Cert.KernelProjSdIdeal.τ).loc Cert.KernelProjSdIdeal.main_arg1) = m ((c.tc : Thread Cert.KernelProjSdIdeal.nD Cert.KernelProjSdIdeal.τ).loc Cert.KernelProjSdIdeal.main_arg1)
          ∧ r.2.mem ((c.tc : Thread Cert.KernelProjSdIdeal.nD Cert.KernelProjSdIdeal.τ).loc Cert.KernelProjSdIdeal.main_arg2) = m ((c.tc : Thread Cert.KernelProjSdIdeal.nD Cert.KernelProjSdIdeal.τ).loc Cert.KernelProjSdIdeal.main_arg2))
      ∧ θ_run (Cert.ReferenceProjSdIdeal.defs (F := Ideal)) (onTc (τ := Cert.ReferenceProjSdIdeal.τ) (Cert.ReferenceProjSdIdeal.main (F := Ideal))) ⟨m', fun _ => 0, g'⟩ (fun r => ∀ c : Dev Cert.ReferenceProjSdIdeal.nD,
          r.2.mem ((c.tc : Thread Cert.ReferenceProjSdIdeal.nD Cert.ReferenceProjSdIdeal.τ).loc Cert.ReferenceProjSdIdeal.main_v15) = v0 c
          ∧ r.2.mem ((c.tc : Thread Cert.ReferenceProjSdIdeal.nD Cert.ReferenceProjSdIdeal.τ).loc Cert.ReferenceProjSdIdeal.main_arg0) = m' ((c.tc : Thread Cert.ReferenceProjSdIdeal.nD Cert.ReferenceProjSdIdeal.τ).loc Cert.ReferenceProjSdIdeal.main_arg0)
          ∧ r.2.mem ((c.tc : Thread Cert.ReferenceProjSdIdeal.nD Cert.ReferenceProjSdIdeal.τ).loc Cert.ReferenceProjSdIdeal.main_arg1) = m' ((c.tc : Thread Cert.ReferenceProjSdIdeal.nD Cert.ReferenceProjSdIdeal.τ).loc Cert.ReferenceProjSdIdeal.main_arg1)
          ∧ r.2.mem ((c.tc : Thread Cert.ReferenceProjSdIdeal.nD Cert.ReferenceProjSdIdeal.τ).loc Cert.ReferenceProjSdIdeal.main_arg2) = m' ((c.tc : Thread Cert.ReferenceProjSdIdeal.nD Cert.ReferenceProjSdIdeal.τ).loc Cert.ReferenceProjSdIdeal.main_arg2))

def preserves_KernelProjGd_KernelProjGdIdeal : Prop :=
  True

def algebraic_KernelProjGdIdeal_ReferenceProjGdIdeal [hKernelProjGdIdeal : Cert.KernelProjGdIdeal.Facts] [hReferenceProjGdIdeal : Cert.ReferenceProjGdIdeal.Facts] : Prop :=
  ∀ (m : (ℓ : Loc Cert.KernelProjGdIdeal.nD Cert.KernelProjGdIdeal.τ Cert.KernelProjGdIdeal.sig) → Buf (Elt Ideal) ℓ) (g : Dev Cert.KernelProjGdIdeal.nD → PrngReg)
    (m' : (ℓ : Loc Cert.ReferenceProjGdIdeal.nD Cert.ReferenceProjGdIdeal.τ Cert.ReferenceProjGdIdeal.sig) → Buf (Elt Ideal) ℓ) (g' : Dev Cert.ReferenceProjGdIdeal.nD → PrngReg), Pre_KernelProjGdIdeal m →
    (∀ c : Dev Cert.KernelProjGdIdeal.nD,
      m' ((c.tc : Thread Cert.ReferenceProjGdIdeal.nD Cert.ReferenceProjGdIdeal.τ).loc Cert.ReferenceProjGdIdeal.main_arg0) = m ((c.tc : Thread Cert.KernelProjGdIdeal.nD Cert.KernelProjGdIdeal.τ).loc Cert.KernelProjGdIdeal.main_arg0)
      ∧ m' ((c.tc : Thread Cert.ReferenceProjGdIdeal.nD Cert.ReferenceProjGdIdeal.τ).loc Cert.ReferenceProjGdIdeal.main_arg1) = m ((c.tc : Thread Cert.KernelProjGdIdeal.nD Cert.KernelProjGdIdeal.τ).loc Cert.KernelProjGdIdeal.main_arg1)
      ∧ m' ((c.tc : Thread Cert.ReferenceProjGdIdeal.nD Cert.ReferenceProjGdIdeal.τ).loc Cert.ReferenceProjGdIdeal.main_arg2) = m ((c.tc : Thread Cert.KernelProjGdIdeal.nD Cert.KernelProjGdIdeal.τ).loc Cert.KernelProjGdIdeal.main_arg2)) →
    ∃ (v0 : (c : Dev Cert.KernelProjGdIdeal.nD) → Buf (Elt Ideal) ((c.tc : Thread Cert.KernelProjGdIdeal.nD Cert.KernelProjGdIdeal.τ).loc Cert.KernelProjGdIdeal.main_v31)),
      θ_run (Cert.KernelProjGdIdeal.defs (F := Ideal)) (onTc (τ := Cert.KernelProjGdIdeal.τ) (Cert.KernelProjGdIdeal.main (F := Ideal))) ⟨m, fun _ => 0, g⟩ (fun r => ∀ c : Dev Cert.KernelProjGdIdeal.nD,
          r.2.mem ((c.tc : Thread Cert.KernelProjGdIdeal.nD Cert.KernelProjGdIdeal.τ).loc Cert.KernelProjGdIdeal.main_v31) = v0 c
          ∧ r.2.mem ((c.tc : Thread Cert.KernelProjGdIdeal.nD Cert.KernelProjGdIdeal.τ).loc Cert.KernelProjGdIdeal.main_arg0) = m ((c.tc : Thread Cert.KernelProjGdIdeal.nD Cert.KernelProjGdIdeal.τ).loc Cert.KernelProjGdIdeal.main_arg0)
          ∧ r.2.mem ((c.tc : Thread Cert.KernelProjGdIdeal.nD Cert.KernelProjGdIdeal.τ).loc Cert.KernelProjGdIdeal.main_arg1) = m ((c.tc : Thread Cert.KernelProjGdIdeal.nD Cert.KernelProjGdIdeal.τ).loc Cert.KernelProjGdIdeal.main_arg1)
          ∧ r.2.mem ((c.tc : Thread Cert.KernelProjGdIdeal.nD Cert.KernelProjGdIdeal.τ).loc Cert.KernelProjGdIdeal.main_arg2) = m ((c.tc : Thread Cert.KernelProjGdIdeal.nD Cert.KernelProjGdIdeal.τ).loc Cert.KernelProjGdIdeal.main_arg2))
      ∧ θ_run (Cert.ReferenceProjGdIdeal.defs (F := Ideal)) (onTc (τ := Cert.ReferenceProjGdIdeal.τ) (Cert.ReferenceProjGdIdeal.main (F := Ideal))) ⟨m', fun _ => 0, g'⟩ (fun r => ∀ c : Dev Cert.ReferenceProjGdIdeal.nD,
          r.2.mem ((c.tc : Thread Cert.ReferenceProjGdIdeal.nD Cert.ReferenceProjGdIdeal.τ).loc Cert.ReferenceProjGdIdeal.main_v15) = v0 c
          ∧ r.2.mem ((c.tc : Thread Cert.ReferenceProjGdIdeal.nD Cert.ReferenceProjGdIdeal.τ).loc Cert.ReferenceProjGdIdeal.main_arg0) = m' ((c.tc : Thread Cert.ReferenceProjGdIdeal.nD Cert.ReferenceProjGdIdeal.τ).loc Cert.ReferenceProjGdIdeal.main_arg0)
          ∧ r.2.mem ((c.tc : Thread Cert.ReferenceProjGdIdeal.nD Cert.ReferenceProjGdIdeal.τ).loc Cert.ReferenceProjGdIdeal.main_arg1) = m' ((c.tc : Thread Cert.ReferenceProjGdIdeal.nD Cert.ReferenceProjGdIdeal.τ).loc Cert.ReferenceProjGdIdeal.main_arg1)
          ∧ r.2.mem ((c.tc : Thread Cert.ReferenceProjGdIdeal.nD Cert.ReferenceProjGdIdeal.τ).loc Cert.ReferenceProjGdIdeal.main_arg2) = m' ((c.tc : Thread Cert.ReferenceProjGdIdeal.nD Cert.ReferenceProjGdIdeal.τ).loc Cert.ReferenceProjGdIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)) →
    ∃ (v0 : (c : Dev Cert.KernelMergeIdeal.nD) → Buf (Elt Ideal) ((c.tc : Thread Cert.KernelMergeIdeal.nD Cert.KernelMergeIdeal.τ).loc Cert.KernelMergeIdeal.main_v34)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v34) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v54) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9))

def preserves_KernelMergeLast_KernelMergeLastIdeal : Prop :=
  True

def algebraic_KernelMergeLastIdeal_ReferenceMergeLastIdeal [hKernelMergeLastIdeal : Cert.KernelMergeLastIdeal.Facts] [hReferenceMergeLastIdeal : Cert.ReferenceMergeLastIdeal.Facts] : Prop :=
  ∀ (m : (ℓ : Loc Cert.KernelMergeLastIdeal.nD Cert.KernelMergeLastIdeal.τ Cert.KernelMergeLastIdeal.sig) → Buf (Elt Ideal) ℓ) (g : Dev Cert.KernelMergeLastIdeal.nD → PrngReg)
    (m' : (ℓ : Loc Cert.ReferenceMergeLastIdeal.nD Cert.ReferenceMergeLastIdeal.τ Cert.ReferenceMergeLastIdeal.sig) → Buf (Elt Ideal) ℓ) (g' : Dev Cert.ReferenceMergeLastIdeal.nD → PrngReg), Pre_KernelMergeLastIdeal m →
    (∀ c : Dev Cert.KernelMergeLastIdeal.nD,
      m' ((c.tc : Thread Cert.ReferenceMergeLastIdeal.nD Cert.ReferenceMergeLastIdeal.τ).loc Cert.ReferenceMergeLastIdeal.main_arg0) = m ((c.tc : Thread Cert.KernelMergeLastIdeal.nD Cert.KernelMergeLastIdeal.τ).loc Cert.KernelMergeLastIdeal.main_arg0)
      ∧ m' ((c.tc : Thread Cert.ReferenceMergeLastIdeal.nD Cert.ReferenceMergeLastIdeal.τ).loc Cert.ReferenceMergeLastIdeal.main_arg1) = m ((c.tc : Thread Cert.KernelMergeLastIdeal.nD Cert.KernelMergeLastIdeal.τ).loc Cert.KernelMergeLastIdeal.main_arg1)
      ∧ m' ((c.tc : Thread Cert.ReferenceMergeLastIdeal.nD Cert.ReferenceMergeLastIdeal.τ).loc Cert.ReferenceMergeLastIdeal.main_arg2) = m ((c.tc : Thread Cert.KernelMergeLastIdeal.nD Cert.KernelMergeLastIdeal.τ).loc Cert.KernelMergeLastIdeal.main_arg2)
      ∧ m' ((c.tc : Thread Cert.ReferenceMergeLastIdeal.nD Cert.ReferenceMergeLastIdeal.τ).loc Cert.ReferenceMergeLastIdeal.main_arg3) = m ((c.tc : Thread Cert.KernelMergeLastIdeal.nD Cert.KernelMergeLastIdeal.τ).loc Cert.KernelMergeLastIdeal.main_arg3)
      ∧ m' ((c.tc : Thread Cert.ReferenceMergeLastIdeal.nD Cert.ReferenceMergeLastIdeal.τ).loc Cert.ReferenceMergeLastIdeal.main_arg4) = m ((c.tc : Thread Cert.KernelMergeLastIdeal.nD Cert.KernelMergeLastIdeal.τ).loc Cert.KernelMergeLastIdeal.main_arg4)
      ∧ m' ((c.tc : Thread Cert.ReferenceMergeLastIdeal.nD Cert.ReferenceMergeLastIdeal.τ).loc Cert.ReferenceMergeLastIdeal.main_arg5) = m ((c.tc : Thread Cert.KernelMergeLastIdeal.nD Cert.KernelMergeLastIdeal.τ).loc Cert.KernelMergeLastIdeal.main_arg5)
      ∧ m' ((c.tc : Thread Cert.ReferenceMergeLastIdeal.nD Cert.ReferenceMergeLastIdeal.τ).loc Cert.ReferenceMergeLastIdeal.main_arg6) = m ((c.tc : Thread Cert.KernelMergeLastIdeal.nD Cert.KernelMergeLastIdeal.τ).loc Cert.KernelMergeLastIdeal.main_arg6)
      ∧ m' ((c.tc : Thread Cert.ReferenceMergeLastIdeal.nD Cert.ReferenceMergeLastIdeal.τ).loc Cert.ReferenceMergeLastIdeal.main_arg7) = m ((c.tc : Thread Cert.KernelMergeLastIdeal.nD Cert.KernelMergeLastIdeal.τ).loc Cert.KernelMergeLastIdeal.main_arg7)
      ∧ m' ((c.tc : Thread Cert.ReferenceMergeLastIdeal.nD Cert.ReferenceMergeLastIdeal.τ).loc Cert.ReferenceMergeLastIdeal.main_arg8) = m ((c.tc : Thread Cert.KernelMergeLastIdeal.nD Cert.KernelMergeLastIdeal.τ).loc Cert.KernelMergeLastIdeal.main_arg8)
      ∧ m' ((c.tc : Thread Cert.ReferenceMergeLastIdeal.nD Cert.ReferenceMergeLastIdeal.τ).loc Cert.ReferenceMergeLastIdeal.main_arg9) = m ((c.tc : Thread Cert.KernelMergeLastIdeal.nD Cert.KernelMergeLastIdeal.τ).loc Cert.KernelMergeLastIdeal.main_arg9)) →
    ∃ (v0 : (c : Dev Cert.KernelMergeLastIdeal.nD) → Buf (Elt Ideal) ((c.tc : Thread Cert.KernelMergeLastIdeal.nD Cert.KernelMergeLastIdeal.τ).loc Cert.KernelMergeLastIdeal.main_v34)),
      θ_run (Cert.KernelMergeLastIdeal.defs (F := Ideal)) (onTc (τ := Cert.KernelMergeLastIdeal.τ) (Cert.KernelMergeLastIdeal.main (F := Ideal))) ⟨m, fun _ => 0, g⟩ (fun r => ∀ c : Dev Cert.KernelMergeLastIdeal.nD,
          r.2.mem ((c.tc : Thread Cert.KernelMergeLastIdeal.nD Cert.KernelMergeLastIdeal.τ).loc Cert.KernelMergeLastIdeal.main_v34) = v0 c
          ∧ r.2.mem ((c.tc : Thread Cert.KernelMergeLastIdeal.nD Cert.KernelMergeLastIdeal.τ).loc Cert.KernelMergeLastIdeal.main_arg0) = m ((c.tc : Thread Cert.KernelMergeLastIdeal.nD Cert.KernelMergeLastIdeal.τ).loc Cert.KernelMergeLastIdeal.main_arg0)
          ∧ r.2.mem ((c.tc : Thread Cert.KernelMergeLastIdeal.nD Cert.KernelMergeLastIdeal.τ).loc Cert.KernelMergeLastIdeal.main_arg1) = m ((c.tc : Thread Cert.KernelMergeLastIdeal.nD Cert.KernelMergeLastIdeal.τ).loc Cert.KernelMergeLastIdeal.main_arg1)
          ∧ r.2.mem ((c.tc : Thread Cert.KernelMergeLastIdeal.nD Cert.KernelMergeLastIdeal.τ).loc Cert.KernelMergeLastIdeal.main_arg2) = m ((c.tc : Thread Cert.KernelMergeLastIdeal.nD Cert.KernelMergeLastIdeal.τ).loc Cert.KernelMergeLastIdeal.main_arg2)
          ∧ r.2.mem ((c.tc : Thread Cert.KernelMergeLastIdeal.nD Cert.KernelMergeLastIdeal.τ).loc Cert.KernelMergeLastIdeal.main_arg3) = m ((c.tc : Thread Cert.KernelMergeLastIdeal.nD Cert.KernelMergeLastIdeal.τ).loc Cert.KernelMergeLastIdeal.main_arg3)
          ∧ r.2.mem ((c.tc : Thread Cert.KernelMergeLastIdeal.nD Cert.KernelMergeLastIdeal.τ).loc Cert.KernelMergeLastIdeal.main_arg4) = m ((c.tc : Thread Cert.KernelMergeLastIdeal.nD Cert.KernelMergeLastIdeal.τ).loc Cert.KernelMergeLastIdeal.main_arg4)
          ∧ r.2.mem ((c.tc : Thread Cert.KernelMergeLastIdeal.nD Cert.KernelMergeLastIdeal.τ).loc Cert.KernelMergeLastIdeal.main_arg5) = m ((c.tc : Thread Cert.KernelMergeLastIdeal.nD Cert.KernelMergeLastIdeal.τ).loc Cert.KernelMergeLastIdeal.main_arg5)
          ∧ r.2.mem ((c.tc : Thread Cert.KernelMergeLastIdeal.nD Cert.KernelMergeLastIdeal.τ).loc Cert.KernelMergeLastIdeal.main_arg6) = m ((c.tc : Thread Cert.KernelMergeLastIdeal.nD Cert.KernelMergeLastIdeal.τ).loc Cert.KernelMergeLastIdeal.main_arg6)
          ∧ r.2.mem ((c.tc : Thread Cert.KernelMergeLastIdeal.nD Cert.KernelMergeLastIdeal.τ).loc Cert.KernelMergeLastIdeal.main_arg7) = m ((c.tc : Thread Cert.KernelMergeLastIdeal.nD Cert.KernelMergeLastIdeal.τ).loc Cert.KernelMergeLastIdeal.main_arg7)
          ∧ r.2.mem ((c.tc : Thread Cert.KernelMergeLastIdeal.nD Cert.KernelMergeLastIdeal.τ).loc Cert.KernelMergeLastIdeal.main_arg8) = m ((c.tc : Thread Cert.KernelMergeLastIdeal.nD Cert.KernelMergeLastIdeal.τ).loc Cert.KernelMergeLastIdeal.main_arg8)
          ∧ r.2.mem ((c.tc : Thread Cert.KernelMergeLastIdeal.nD Cert.KernelMergeLastIdeal.τ).loc Cert.KernelMergeLastIdeal.main_arg9) = m ((c.tc : Thread Cert.KernelMergeLastIdeal.nD Cert.KernelMergeLastIdeal.τ).loc Cert.KernelMergeLastIdeal.main_arg9))
      ∧ θ_run (Cert.ReferenceMergeLastIdeal.defs (F := Ideal)) (onTc (τ := Cert.ReferenceMergeLastIdeal.τ) (Cert.ReferenceMergeLastIdeal.main (F := Ideal))) ⟨m', fun _ => 0, g'⟩ (fun r => ∀ c : Dev Cert.ReferenceMergeLastIdeal.nD,
          r.2.mem ((c.tc : Thread Cert.ReferenceMergeLastIdeal.nD Cert.ReferenceMergeLastIdeal.τ).loc Cert.ReferenceMergeLastIdeal.main_v67) = v0 c
          ∧ r.2.mem ((c.tc : Thread Cert.ReferenceMergeLastIdeal.nD Cert.ReferenceMergeLastIdeal.τ).loc Cert.ReferenceMergeLastIdeal.main_arg0) = m' ((c.tc : Thread Cert.ReferenceMergeLastIdeal.nD Cert.ReferenceMergeLastIdeal.τ).loc Cert.ReferenceMergeLastIdeal.main_arg0)
          ∧ r.2.mem ((c.tc : Thread Cert.ReferenceMergeLastIdeal.nD Cert.ReferenceMergeLastIdeal.τ).loc Cert.ReferenceMergeLastIdeal.main_arg1) = m' ((c.tc : Thread Cert.ReferenceMergeLastIdeal.nD Cert.ReferenceMergeLastIdeal.τ).loc Cert.ReferenceMergeLastIdeal.main_arg1)
          ∧ r.2.mem ((c.tc : Thread Cert.ReferenceMergeLastIdeal.nD Cert.ReferenceMergeLastIdeal.τ).loc Cert.ReferenceMergeLastIdeal.main_arg2) = m' ((c.tc : Thread Cert.ReferenceMergeLastIdeal.nD Cert.ReferenceMergeLastIdeal.τ).loc Cert.ReferenceMergeLastIdeal.main_arg2)
          ∧ r.2.mem ((c.tc : Thread Cert.ReferenceMergeLastIdeal.nD Cert.ReferenceMergeLastIdeal.τ).loc Cert.ReferenceMergeLastIdeal.main_arg3) = m' ((c.tc : Thread Cert.ReferenceMergeLastIdeal.nD Cert.ReferenceMergeLastIdeal.τ).loc Cert.ReferenceMergeLastIdeal.main_arg3)
          ∧ r.2.mem ((c.tc : Thread Cert.ReferenceMergeLastIdeal.nD Cert.ReferenceMergeLastIdeal.τ).loc Cert.ReferenceMergeLastIdeal.main_arg4) = m' ((c.tc : Thread Cert.ReferenceMergeLastIdeal.nD Cert.ReferenceMergeLastIdeal.τ).loc Cert.ReferenceMergeLastIdeal.main_arg4)
          ∧ r.2.mem ((c.tc : Thread Cert.ReferenceMergeLastIdeal.nD Cert.ReferenceMergeLastIdeal.τ).loc Cert.ReferenceMergeLastIdeal.main_arg5) = m' ((c.tc : Thread Cert.ReferenceMergeLastIdeal.nD Cert.ReferenceMergeLastIdeal.τ).loc Cert.ReferenceMergeLastIdeal.main_arg5)
          ∧ r.2.mem ((c.tc : Thread Cert.ReferenceMergeLastIdeal.nD Cert.ReferenceMergeLastIdeal.τ).loc Cert.ReferenceMergeLastIdeal.main_arg6) = m' ((c.tc : Thread Cert.ReferenceMergeLastIdeal.nD Cert.ReferenceMergeLastIdeal.τ).loc Cert.ReferenceMergeLastIdeal.main_arg6)
          ∧ r.2.mem ((c.tc : Thread Cert.ReferenceMergeLastIdeal.nD Cert.ReferenceMergeLastIdeal.τ).loc Cert.ReferenceMergeLastIdeal.main_arg7) = m' ((c.tc : Thread Cert.ReferenceMergeLastIdeal.nD Cert.ReferenceMergeLastIdeal.τ).loc Cert.ReferenceMergeLastIdeal.main_arg7)
          ∧ r.2.mem ((c.tc : Thread Cert.ReferenceMergeLastIdeal.nD Cert.ReferenceMergeLastIdeal.τ).loc Cert.ReferenceMergeLastIdeal.main_arg8) = m' ((c.tc : Thread Cert.ReferenceMergeLastIdeal.nD Cert.ReferenceMergeLastIdeal.τ).loc Cert.ReferenceMergeLastIdeal.main_arg8)
          ∧ r.2.mem ((c.tc : Thread Cert.ReferenceMergeLastIdeal.nD Cert.ReferenceMergeLastIdeal.τ).loc Cert.ReferenceMergeLastIdeal.main_arg9) = m' ((c.tc : Thread Cert.ReferenceMergeLastIdeal.nD Cert.ReferenceMergeLastIdeal.τ).loc Cert.ReferenceMergeLastIdeal.main_arg9))

def Claim : Prop :=
  ∃ (hKernel : Cert.Kernel.Facts) (hKernelIdeal : Cert.KernelIdeal.Facts) (hReferenceIdeal : Cert.ReferenceIdeal.Facts) (hKernelProjRw : Cert.KernelProjRw.Facts) (hKernelProjRwIdeal : Cert.KernelProjRwIdeal.Facts) (hReferenceProjRwIdeal : Cert.ReferenceProjRwIdeal.Facts) (hKernelProjRt : Cert.KernelProjRt.Facts) (hKernelProjRtIdeal : Cert.KernelProjRtIdeal.Facts) (hReferenceProjRtIdeal : Cert.ReferenceProjRtIdeal.Facts) (hKernelProjSd : Cert.KernelProjSd.Facts) (hKernelProjSdIdeal : Cert.KernelProjSdIdeal.Facts) (hReferenceProjSdIdeal : Cert.ReferenceProjSdIdeal.Facts) (hKernelProjGd : Cert.KernelProjGd.Facts) (hKernelProjGdIdeal : Cert.KernelProjGdIdeal.Facts) (hReferenceProjGdIdeal : Cert.ReferenceProjGdIdeal.Facts) (hKernelMerge : Cert.KernelMerge.Facts) (hKernelMergeIdeal : Cert.KernelMergeIdeal.Facts) (hReferenceMergeIdeal : Cert.ReferenceMergeIdeal.Facts) (hKernelMergeLast : Cert.KernelMergeLast.Facts) (hKernelMergeLastIdeal : Cert.KernelMergeLastIdeal.Facts) (hReferenceMergeLastIdeal : Cert.ReferenceMergeLastIdeal.Facts),
    quiescent_Kernel (hKernel := hKernel)
    ∧ quiescent_KernelIdeal (hKernelIdeal := hKernelIdeal)
    ∧ quiescent_ReferenceIdeal (hReferenceIdeal := hReferenceIdeal)
    ∧ quiescent_KernelProjRw (hKernelProjRw := hKernelProjRw)
    ∧ quiescent_KernelProjRwIdeal (hKernelProjRwIdeal := hKernelProjRwIdeal)
    ∧ quiescent_ReferenceProjRwIdeal (hReferenceProjRwIdeal := hReferenceProjRwIdeal)
    ∧ quiescent_KernelProjRt (hKernelProjRt := hKernelProjRt)
    ∧ quiescent_KernelProjRtIdeal (hKernelProjRtIdeal := hKernelProjRtIdeal)
    ∧ quiescent_ReferenceProjRtIdeal (hReferenceProjRtIdeal := hReferenceProjRtIdeal)
    ∧ quiescent_KernelProjSd (hKernelProjSd := hKernelProjSd)
    ∧ quiescent_KernelProjSdIdeal (hKernelProjSdIdeal := hKernelProjSdIdeal)
    ∧ quiescent_ReferenceProjSdIdeal (hReferenceProjSdIdeal := hReferenceProjSdIdeal)
    ∧ quiescent_KernelProjGd (hKernelProjGd := hKernelProjGd)
    ∧ quiescent_KernelProjGdIdeal (hKernelProjGdIdeal := hKernelProjGdIdeal)
    ∧ quiescent_ReferenceProjGdIdeal (hReferenceProjGdIdeal := hReferenceProjGdIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMergeLast (hKernelMergeLast := hKernelMergeLast)
    ∧ quiescent_KernelMergeLastIdeal (hKernelMergeLastIdeal := hKernelMergeLastIdeal)
    ∧ quiescent_ReferenceMergeLastIdeal (hReferenceMergeLastIdeal := hReferenceMergeLastIdeal)
    ∧ preserves_Kernel_KernelIdeal
    ∧ algebraic_KernelIdeal_ReferenceIdeal (hKernelIdeal := hKernelIdeal) (hReferenceIdeal := hReferenceIdeal)
    ∧ preserves_KernelProjRw_KernelProjRwIdeal
    ∧ algebraic_KernelProjRwIdeal_ReferenceProjRwIdeal (hKernelProjRwIdeal := hKernelProjRwIdeal) (hReferenceProjRwIdeal := hReferenceProjRwIdeal)
    ∧ preserves_KernelProjRt_KernelProjRtIdeal
    ∧ algebraic_KernelProjRtIdeal_ReferenceProjRtIdeal (hKernelProjRtIdeal := hKernelProjRtIdeal) (hReferenceProjRtIdeal := hReferenceProjRtIdeal)
    ∧ preserves_KernelProjSd_KernelProjSdIdeal
    ∧ algebraic_KernelProjSdIdeal_ReferenceProjSdIdeal (hKernelProjSdIdeal := hKernelProjSdIdeal) (hReferenceProjSdIdeal := hReferenceProjSdIdeal)
    ∧ preserves_KernelProjGd_KernelProjGdIdeal
    ∧ algebraic_KernelProjGdIdeal_ReferenceProjGdIdeal (hKernelProjGdIdeal := hKernelProjGdIdeal) (hReferenceProjGdIdeal := hReferenceProjGdIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMergeLast_KernelMergeLastIdeal
    ∧ algebraic_KernelMergeLastIdeal_ReferenceMergeLastIdeal (hKernelMergeLastIdeal := hKernelMergeLastIdeal) (hReferenceMergeLastIdeal := hReferenceMergeLastIdeal)
-- ==== Kernel.lean ====
abbrev S8x4096x1536 : Shape := ⟨3, ![8, 4096, 1536]⟩
abbrev S512 : Shape := ⟨1, ![512]⟩
abbrev S_ : Shape := ⟨0, ![]⟩
abbrev S15 : Shape := ⟨1, ![15]⟩
abbrev S1 : Shape := ⟨1, ![1]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x16x2 : Shape := ⟨3, ![4096, 16, 2]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S256 : Shape := ⟨1, ![256]⟩
abbrev S1x256 : Shape := ⟨2, ![1, 256]⟩
abbrev S1x4096x256 : Shape := ⟨3, ![1, 4096, 256]⟩
abbrev S2x4096x256 : Shape := ⟨3, ![2, 4096, 256]⟩
abbrev S8 : Shape := ⟨1, ![8]⟩
abbrev S2x4 : Shape := ⟨2, ![2, 4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x1x64x64 : Shape := ⟨4, ![1, 1, 64, 64]⟩
abbrev S2x4x1x1 : Shape := ⟨4, ![2, 4, 1, 1]⟩
abbrev S2x4x64x64 : Shape := ⟨4, ![2, 4, 64, 64]⟩
abbrev S4x4 : Shape := ⟨2, ![4, 4]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2x4x32 : Shape := ⟨3, ![2, 4, 32]⟩
abbrev S2x128 : Shape := ⟨2, ![2, 128]⟩
abbrev S2x1x128 : Shape := ⟨3, ![2, 1, 128]⟩
abbrev S1x64x1 : Shape := ⟨3, ![1, 64, 1]⟩
abbrev S2x64x128 : Shape := ⟨3, ![2, 64, 128]⟩
abbrev S2x128x1 : Shape := ⟨3, ![2, 128, 1]⟩
abbrev S2x128x256 : Shape := ⟨3, ![2, 128, 256]⟩
abbrev S1x512 : Shape := ⟨2, ![1, 512]⟩
abbrev S8x4096x512 : Shape := ⟨3, ![8, 4096, 512]⟩
abbrev S1x512x1536 : Shape := ⟨3, ![1, 512, 1536]⟩
abbrev S512x256 : Shape := ⟨2, ![512, 256]⟩
abbrev S2x512x256 : Shape := ⟨3, ![2, 512, 256]⟩
abbrev S1x512x512 : Shape := ⟨3, ![1, 512, 512]⟩
abbrev S1x512x256 : Shape := ⟨3, ![1, 512, 256]⟩
abbrev S512x128 : Shape := ⟨2, ![512, 128]⟩
abbrev S1x512x128 : Shape := ⟨3, ![1, 512, 128]⟩
abbrev S512x512 : Shape := ⟨2, ![512, 512]⟩
abbrev S1x128 : Shape := ⟨2, ![1, 128]⟩
abbrev S64x128 : Shape := ⟨2, ![64, 128]⟩
abbrev S256x128 : Shape := ⟨2, ![256, 128]⟩
abbrev S64x256 : Shape := ⟨2, ![64, 256]⟩
abbrev S256x256 : Shape := ⟨2, ![256, 256]⟩
abbrev S1x64x128 : Shape := ⟨3, ![1, 64, 128]⟩
abbrev S1x256x256 : Shape := ⟨3, ![1, 256, 256]⟩
abbrev S128x256 : Shape := ⟨2, ![128, 256]⟩
abbrev S1x128x256 : Shape := ⟨3, ![1, 128, 256]⟩
abbrev S512x1 : Shape := ⟨2, ![512, 1]⟩

abbrev nBuf : Space → Nat
  | .hbm => 167
  | .vmem => 14
  | .smem => 0
  | _ => 0

abbrev hbmTy0_0 (i : Nat) : BufTy := match i % 128 with
  | 0 => ⟨S8x4096x1536, .f32⟩
  | 1 => ⟨S512, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S15, .f32⟩
  | 10 => ⟨S_, .f32⟩
  | 11 => ⟨S15, .f32⟩
  | 12 => ⟨S15, .f32⟩
  | 13 => ⟨S1, .f32⟩
  | 14 => ⟨S_, .f32⟩
  | 15 => ⟨S15, .f32⟩
  | 16 => ⟨S15, .f32⟩
  | 17 => ⟨S15, .f32⟩
  | 18 => ⟨S15, .f32⟩
  | 19 => ⟨S1, .f32⟩
  | 20 => ⟨S15, .f32⟩
  | 21 => ⟨S15, .f32⟩
  | 22 => ⟨S15, .f32⟩
  | 23 => ⟨S1, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S4096, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x16, .f32⟩
  | 38 => ⟨S4096x16x2, .f32⟩
  | 39 => ⟨S4096x32, .f32⟩
  | 40 => ⟨S1x4096x1x32, .f32⟩
  | 41 => ⟨S1x4096x8x32, .f32⟩
  | 42 => ⟨S4096x256, .f32⟩
  | 43 => ⟨S4096x16, .f32⟩
  | 44 => ⟨S4096x16x2, .f32⟩
  | 45 => ⟨S4096x32, .f32⟩
  | 46 => ⟨S1x4096x1x32, .f32⟩
  | 47 => ⟨S1x4096x8x32, .f32⟩
  | 48 => ⟨S4096x256, .f32⟩
  | 49 => ⟨S256, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S256, .i32⟩
  | 57 => ⟨S256, .i32⟩
  | 58 => ⟨S_, .i32⟩
  | 59 => ⟨S256, .i32⟩
  | 60 => ⟨S256, .i1⟩
  | 61 => ⟨S_, .i32⟩
  | 62 => ⟨S256, .i32⟩
  | 63 => ⟨S256, .i1⟩
  | 64 => ⟨S_, .i32⟩
  | 65 => ⟨S_, .i1⟩
  | 66 => ⟨S256, .i1⟩
  | 67 => ⟨S256, .i1⟩
  | 68 => ⟨S256, .i1⟩
  | 69 => ⟨S256, .i32⟩
  | 70 => ⟨S256, .i32⟩
  | 71 => ⟨S256, .i32⟩
  | 72 => ⟨S_, .i32⟩
  | 73 => ⟨S256, .i32⟩
  | 74 => ⟨S256, .i1⟩
  | 75 => ⟨S1x256, .i1⟩
  | 76 => ⟨S4096x256, .f32⟩
  | 77 => ⟨S_, .f32⟩
  | 78 => ⟨S_, .f32⟩
  | 79 => ⟨S4096x256, .i1⟩
  | 80 => ⟨S4096x256, .f32⟩
  | 81 => ⟨S4096x256, .f32⟩
  | 82 => ⟨S_, .f32⟩
  | 83 => ⟨S_, .f32⟩
  | 84 => ⟨S4096x256, .i1⟩
  | 85 => ⟨S4096x256, .f32⟩
  | 86 => ⟨S4096x256, .f32⟩
  | 87 => ⟨S1x4096x256, .f32⟩
  | 88 => ⟨S1x4096x256, .f32⟩
  | 89 => ⟨S2x4096x256, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S8, .f32⟩
  | 98 => ⟨S_, .f32⟩
  | 99 => ⟨S8, .f32⟩
  | 100 => ⟨S8, .f32⟩
  | 101 => ⟨S8, .f32⟩
  | 102 => ⟨S2x4, .f32⟩
  | 103 => ⟨S64, .f32⟩
  | 104 => ⟨S64x1, .f32⟩
  | 105 => ⟨S1x64, .f32⟩
  | 106 => ⟨S64x64, .f32⟩
  | 107 => ⟨S64x64, .f32⟩
  | 108 => ⟨S64x64, .f32⟩
  | 109 => ⟨S_, .f32⟩
  | 110 => ⟨S64x64, .f32⟩
  | 111 => ⟨S64x64, .i1⟩
  | 112 => ⟨S1x1x64x64, .i1⟩
  | 113 => ⟨S2x4x1x1, .f32⟩
  | 114 => ⟨S1x1x64x64, .f32⟩
  | 115 => ⟨S2x4x64x64, .f32⟩
  | 116 => ⟨S2x4x64x64, .f32⟩
  | 117 => ⟨S2x4x64x64, .f32⟩
  | 118 => ⟨S_, .f32⟩
  | 119 => ⟨S_, .f32⟩
  | 120 => ⟨S2x4x64x64, .i1⟩
  | 121 => ⟨S2x4x64x64, .f32⟩
  | 122 => ⟨S2x4x64x64, .f32⟩
  | 123 => ⟨S2x4x64x64, .f32⟩
  | 124 => ⟨S4x4, .i32⟩
  | 125 => ⟨S4x4, .i32⟩
  | 126 => ⟨S_, .i32⟩
  | 127 => ⟨S4x4, .i32⟩
  | _ => ⟨S8x4096x1536, .f32⟩

abbrev hbmTy0_1 (i : Nat) : BufTy := match i % 128 with
  | 0 => ⟨S4x4, .i32⟩
  | 1 => ⟨S4x4, .i1⟩
  | 2 => ⟨S4x4, .f32⟩
  | 3 => ⟨S2x4x64x1x64, .f32⟩
  | 4 => ⟨S1x4x1x4x1, .f32⟩
  | 5 => ⟨S2x4x64x4x64, .f32⟩
  | 6 => ⟨S2x4x64x4x64, .f32⟩
  | 7 => ⟨S2x4x64x4x64, .f32⟩
  | 8 => ⟨S2x256x256, .f32⟩
  | 9 => ⟨S2x4x32, .f32⟩
  | 10 => ⟨S2x128, .f32⟩
  | 11 => ⟨S2x1x128, .f32⟩
  | 12 => ⟨S1x64x1, .f32⟩
  | 13 => ⟨S_, .f32⟩
  | 14 => ⟨S1x64x1, .f32⟩
  | 15 => ⟨S1x64x1, .f32⟩
  | 16 => ⟨S2x64x128, .f32⟩
  | 17 => ⟨S2x64x128, .f32⟩
  | 18 => ⟨S2x64x128, .f32⟩
  | 19 => ⟨S2x64x128, .f32⟩
  | 20 => ⟨S2x1x128, .f32⟩
  | 21 => ⟨S1x64x1, .f32⟩
  | 22 => ⟨S_, .f32⟩
  | 23 => ⟨S1x64x1, .f32⟩
  | 24 => ⟨S1x64x1, .f32⟩
  | 25 => ⟨S2x64x128, .f32⟩
  | 26 => ⟨S2x64x128, .f32⟩
  | 27 => ⟨S2x64x128, .f32⟩
  | 28 => ⟨S2x64x128, .f32⟩
  | 29 => ⟨S_, .f32⟩
  | 30 => ⟨S2x4, .f32⟩
  | 31 => ⟨S2x4, .f32⟩
  | 32 => ⟨S2x4, .f32⟩
  | 33 => ⟨S2x4x32, .f32⟩
  | 34 => ⟨S2x128, .f32⟩
  | 35 => ⟨S2x128x1, .f32⟩
  | 36 => ⟨S2x128x256, .f32⟩
  | 37 => ⟨S1x512, .f32⟩
  | 38 => ⟨S8x4096x512, .bf16⟩
  | _ => ⟨S8x4096x1536, .f32⟩

abbrev hbmTy (i : Nat) : BufTy := match i / 128 with
  | 0 => hbmTy0_0 i
  | 1 => hbmTy0_1 i
  | _ => ⟨S8x4096x1536, .f32⟩

abbrev bufTy : (tb : Table) → Fin (tcTables nBuf tb) → BufTy
  | .hbm, ⟨i, _⟩ => hbmTy i
  | .local _ .vmem, ⟨0, _⟩ => ⟨S1x512x1536, .f32⟩
  | .local _ .vmem, ⟨1, _⟩ => ⟨S1x512x1536, .f32⟩
  | .local _ .vmem, ⟨2, _⟩ => ⟨S512x256, .f32⟩
  | .local _ .vmem, ⟨3, _⟩ => ⟨S512x256, .f32⟩
  | .local _ .vmem, ⟨4, _⟩ => ⟨S2x512x256, .f32⟩
  | .local _ .vmem, ⟨5, _⟩ => ⟨S2x512x256, .f32⟩
  | .local _ .vmem, ⟨6, _⟩ => ⟨S2x256x256, .f32⟩
  | .local _ .vmem, ⟨7, _⟩ => ⟨S2x64x128, .f32⟩
  | .local _ .vmem, ⟨8, _⟩ => ⟨S2x64x128, .f32⟩
  | .local _ .vmem, ⟨9, _⟩ => ⟨S2x128x256, .f32⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S2x128x256, .f32⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_v5 : Ref sig .tc := ⟨.hbm, 59, rfl⟩
abbrev main_call1_v6 : Ref sig .tc := ⟨.hbm, 60, rfl⟩
abbrev main_call1_c_2 : Ref sig .tc := ⟨.hbm, 61, rfl⟩
abbrev main_call1_v7 : Ref sig .tc := ⟨.hbm, 62, rfl⟩
abbrev main_call1_v8 : Ref sig .tc := ⟨.hbm, 63, rfl⟩
abbrev main_call1_c_3 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_v24 : Ref sig .tc := ⟨.hbm, 71, rfl⟩
abbrev main_c_3 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_4 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v29 : Ref sig .tc := ⟨.hbm, 81, rfl⟩
abbrev main_cst_5 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_6 : Ref sig .tc := ⟨.hbm, 91, rfl⟩
abbrev main_v35 : Ref sig .tc := ⟨.hbm, 92, rfl⟩
abbrev main_v36 : Ref sig .tc := ⟨.hbm, 93, rfl⟩
abbrev main_cst_7 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_cst_8 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_9 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_10 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_c_11 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_12 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_13 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_14 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x1536 : Shape := ⟨3, ![8, 4096, 1536]⟩
abbrev S512 : Shape := ⟨1, ![512]⟩
abbrev S8x4096x256 : Shape := ⟨3, ![8, 4096, 256]⟩
abbrev S8x4096x512 : Shape := ⟨3, ![8, 4096, 512]⟩
abbrev S8x4096x8x32 : Shape := ⟨4, ![8, 4096, 8, 32]⟩
abbrev S_ : Shape := ⟨0, ![]⟩
abbrev S15 : Shape := ⟨1, ![15]⟩
abbrev S1 : Shape := ⟨1, ![1]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x16x2 : Shape := ⟨5, ![8, 4096, 8, 16, 2]⟩
abbrev S8x4096x8x16x1 : Shape := ⟨5, ![8, 4096, 8, 16, 1]⟩
abbrev S8x4096x8x16 : Shape := ⟨4, ![8, 4096, 8, 16]⟩
abbrev S8x4096x8x64 : Shape := ⟨4, ![8, 4096, 8, 64]⟩
abbrev S8 : Shape := ⟨1, ![8]⟩
abbrev S8x4096x8 : Shape := ⟨3, ![8, 4096, 8]⟩
abbrev S8x64x64x8x32 : Shape := ⟨5, ![8, 64, 64, 8, 32]⟩
abbrev S8x64x64x8x64 : Shape := ⟨5, ![8, 64, 64, 8, 64]⟩
abbrev S8x64x64x8 : Shape := ⟨4, ![8, 64, 64, 8]⟩
abbrev S8x64x1x8 : Shape := ⟨4, ![8, 64, 1, 8]⟩
abbrev S64x64 : Shape := ⟨2, ![64, 64]⟩
abbrev S8x64x8x64 : Shape := ⟨4, ![8, 64, 8, 64]⟩
abbrev S8x64x8x64x1 : Shape := ⟨5, ![8, 64, 8, 64, 1]⟩
abbrev S8x64x8x1x64 : Shape := ⟨5, ![8, 64, 8, 1, 64]⟩
abbrev S8x64x8x64x64 : Shape := ⟨5, ![8, 64, 8, 64, 64]⟩
abbrev S8x64x64x8x1 : Shape := ⟨5, ![8, 64, 64, 8, 1]⟩
abbrev S64x8x8x32x64 : Shape := ⟨5, ![64, 8, 8, 32, 64]⟩
abbrev S8x64x8 : Shape := ⟨3, ![8, 64, 8]⟩
abbrev S64x8x8 : Shape := ⟨3, ![64, 8, 8]⟩
abbrev S8x8x32x64 : Shape := ⟨4, ![8, 8, 32, 64]⟩
abbrev S1x8x8x32x64 : Shape := ⟨5, ![1, 8, 8, 32, 64]⟩
abbrev S1x8x8 : Shape := ⟨3, ![1, 8, 8]⟩
abbrev S8x8 : Shape := ⟨2, ![8, 8]⟩
abbrev S8x8x1x1 : Shape := ⟨4, ![8, 8, 1, 1]⟩
abbrev S8x4096x8x1 : Shape := ⟨4, ![8, 4096, 8, 1]⟩
abbrev S1x1x512 : Shape := ⟨3, ![1, 1, 512]⟩

abbrev nBuf : Space → Nat
  | .hbm => 256
  | .vmem => 0
  | .smem => 0
  | _ => 0

abbrev hbmTy0_0 (i : Nat) : BufTy := match i % 128 with
  | 0 => ⟨S8x4096x1536, .f32⟩
  | 1 => ⟨S512, .f32⟩
  | 2 => ⟨S8x4096x256, .f32⟩
  | 3 => ⟨S8x4096x256, .f32⟩
  | 4 => ⟨S8x4096x512, .f32⟩
  | 5 => ⟨S8x4096x512, .f32⟩
  | 6 => ⟨S8x4096x8x32, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S15, .f32⟩
  | 15 => ⟨S_, .f32⟩
  | 16 => ⟨S15, .f32⟩
  | 17 => ⟨S15, .f32⟩
  | 18 => ⟨S1, .f32⟩
  | 19 => ⟨S_, .f32⟩
  | 20 => ⟨S15, .f32⟩
  | 21 => ⟨S15, .f32⟩
  | 22 => ⟨S15, .f32⟩
  | 23 => ⟨S15, .f32⟩
  | 24 => ⟨S1, .f32⟩
  | 25 => ⟨S15, .f32⟩
  | 26 => ⟨S15, .f32⟩
  | 27 => ⟨S15, .f32⟩
  | 28 => ⟨S1, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S4096, .f32⟩
  | 37 => ⟨S4096x1, .f32⟩
  | 38 => ⟨S1x16, .f32⟩
  | 39 => ⟨S4096x16, .f32⟩
  | 40 => ⟨S4096x16, .f32⟩
  | 41 => ⟨S4096x16, .f32⟩
  | 42 => ⟨S4096x16, .f32⟩
  | 43 => ⟨S1x4096x1x16, .f32⟩
  | 44 => ⟨S4096x16, .f32⟩
  | 45 => ⟨S1x4096x1x16, .f32⟩
  | 46 => ⟨S8x4096x8x16x2, .f32⟩
  | 47 => ⟨S8x4096x8x16x1, .f32⟩
  | 48 => ⟨S8x4096x8x16, .f32⟩
  | 49 => ⟨S8x4096x8x16x1, .f32⟩
  | 50 => ⟨S8x4096x8x16, .f32⟩
  | 51 => ⟨S8x4096x8x16, .f32⟩
  | 52 => ⟨S8x4096x8x16, .f32⟩
  | 53 => ⟨S8x4096x8x16, .f32⟩
  | 54 => ⟨S8x4096x8x16, .f32⟩
  | 55 => ⟨S8x4096x8x16, .f32⟩
  | 56 => ⟨S8x4096x8x16, .f32⟩
  | 57 => ⟨S8x4096x8x16, .f32⟩
  | 58 => ⟨S8x4096x8x16, .f32⟩
  | 59 => ⟨S8x4096x8x16, .f32⟩
  | 60 => ⟨S8x4096x8x16, .f32⟩
  | 61 => ⟨S8x4096x8x16x1, .f32⟩
  | 62 => ⟨S8x4096x8x16x1, .f32⟩
  | 63 => ⟨S8x4096x8x16x2, .f32⟩
  | 64 => ⟨S8x4096x8x32, .f32⟩
  | 65 => ⟨S8x4096x8x32, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S15, .f32⟩
  | 74 => ⟨S_, .f32⟩
  | 75 => ⟨S15, .f32⟩
  | 76 => ⟨S15, .f32⟩
  | 77 => ⟨S1, .f32⟩
  | 78 => ⟨S_, .f32⟩
  | 79 => ⟨S15, .f32⟩
  | 80 => ⟨S15, .f32⟩
  | 81 => ⟨S15, .f32⟩
  | 82 => ⟨S15, .f32⟩
  | 83 => ⟨S1, .f32⟩
  | 84 => ⟨S15, .f32⟩
  | 85 => ⟨S15, .f32⟩
  | 86 => ⟨S15, .f32⟩
  | 87 => ⟨S1, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S4096, .f32⟩
  | 96 => ⟨S4096x1, .f32⟩
  | 97 => ⟨S1x16, .f32⟩
  | 98 => ⟨S4096x16, .f32⟩
  | 99 => ⟨S4096x16, .f32⟩
  | 100 => ⟨S4096x16, .f32⟩
  | 101 => ⟨S4096x16, .f32⟩
  | 102 => ⟨S1x4096x1x16, .f32⟩
  | 103 => ⟨S4096x16, .f32⟩
  | 104 => ⟨S1x4096x1x16, .f32⟩
  | 105 => ⟨S8x4096x8x16x2, .f32⟩
  | 106 => ⟨S8x4096x8x16x1, .f32⟩
  | 107 => ⟨S8x4096x8x16, .f32⟩
  | 108 => ⟨S8x4096x8x16x1, .f32⟩
  | 109 => ⟨S8x4096x8x16, .f32⟩
  | 110 => ⟨S8x4096x8x16, .f32⟩
  | 111 => ⟨S8x4096x8x16, .f32⟩
  | 112 => ⟨S8x4096x8x16, .f32⟩
  | 113 => ⟨S8x4096x8x16, .f32⟩
  | 114 => ⟨S8x4096x8x16, .f32⟩
  | 115 => ⟨S8x4096x8x16, .f32⟩
  | 116 => ⟨S8x4096x8x16, .f32⟩
  | 117 => ⟨S8x4096x8x16, .f32⟩
  | 118 => ⟨S8x4096x8x16, .f32⟩
  | 119 => ⟨S8x4096x8x16, .f32⟩
  | 120 => ⟨S8x4096x8x16x1, .f32⟩
  | 121 => ⟨S8x4096x8x16x1, .f32⟩
  | 122 => ⟨S8x4096x8x16x2, .f32⟩
  | 123 => ⟨S8x4096x8x32, .f32⟩
  | 124 => ⟨S_, .f32⟩
  | 125 => ⟨S8x4096x8x32, .f32⟩
  | 126 => ⟨S8x4096x8x32, .f32⟩
  | 127 => ⟨S8x4096x8x64, .f32⟩
  | _ => ⟨S8x4096x1536, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8x4096x8, .f32⟩
  | 13 => ⟨S8x64x64x8x32, .f32⟩
  | 14 => ⟨S8x64x64x8x32, .f32⟩
  | 15 => ⟨S8x64x64x8x64, .f32⟩
  | 16 => ⟨S8x64x64x8, .f32⟩
  | 17 => ⟨S_, .f32⟩
  | 18 => ⟨S_, .f32⟩
  | 19 => ⟨S8x64x64x8, .f32⟩
  | 20 => ⟨S8x64x1x8, .f32⟩
  | 21 => ⟨S_, .i1⟩
  | 22 => ⟨S64x64, .i1⟩
  | 23 => ⟨S64x64, .i32⟩
  | 24 => ⟨S_, .i32⟩
  | 25 => ⟨S64x64, .i32⟩
  | 26 => ⟨S64x64, .i32⟩
  | 27 => ⟨S64x64, .i32⟩
  | 28 => ⟨S64x64, .i1⟩
  | 29 => ⟨S_, .i1⟩
  | 30 => ⟨S64x64, .i1⟩
  | 31 => ⟨S64x64, .i1⟩
  | 32 => ⟨S8x64x8x64, .f32⟩
  | 33 => ⟨S8x64x8x64x1, .f32⟩
  | 34 => ⟨S8x64x8x1x64, .f32⟩
  | 35 => ⟨S8x64x8x64x64, .f32⟩
  | 36 => ⟨S8x64x8x64x64, .f32⟩
  | 37 => ⟨S8x64x8x64x64, .f32⟩
  | 38 => ⟨S_, .f32⟩
  | 39 => ⟨S_, .f32⟩
  | 40 => ⟨S8x64x8x64x64, .i1⟩
  | 41 => ⟨S8x64x8x64x64, .f32⟩
  | 42 => ⟨S8x64x8x64x64, .f32⟩
  | 43 => ⟨S8x64x8x64x64, .f32⟩
  | 44 => ⟨S8x64x8x64x64, .f32⟩
  | 45 => ⟨S8x64x8x64x64, .f32⟩
  | 46 => ⟨S8x64x8x64x64, .f32⟩
  | 47 => ⟨S8x64x64x8x64, .f32⟩
  | 48 => ⟨S8x64x64x8, .f32⟩
  | 49 => ⟨S8x64x64x8, .f32⟩
  | 50 => ⟨S8x64x64x8, .f32⟩
  | 51 => ⟨S8x64x64x8x1, .f32⟩
  | 52 => ⟨S8x64x64x8x32, .f32⟩
  | 53 => ⟨S8x64x64x8x32, .f32⟩
  | 54 => ⟨S64x8x8x32x64, .f32⟩
  | 55 => ⟨S8x64x8, .f32⟩
  | 56 => ⟨S8x64x8, .f32⟩
  | 57 => ⟨S64x8x8, .f32⟩
  | 58 => ⟨S_, .f32⟩
  | 59 => ⟨S8x8x32x64, .f32⟩
  | 60 => ⟨S_, .f32⟩
  | 61 => ⟨S64x8x8x32x64, .f32⟩
  | 62 => ⟨S_, .i32⟩
  | 63 => ⟨S64x8x8x32x64, .f32⟩
  | 64 => ⟨S64x8x8, .f32⟩
  | 65 => ⟨S_, .i32⟩
  | 66 => ⟨S8x8x32x64, .f32⟩
  | 67 => ⟨S64x8x8x32x64, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1x8x8x32x64, .f32⟩
  | 75 => ⟨S8x8x32x64, .f32⟩
  | 76 => ⟨S_, .i32⟩
  | 77 => ⟨S_, .i32⟩
  | 78 => ⟨S1x8x8, .f32⟩
  | 79 => ⟨S8x8, .f32⟩
  | 80 => ⟨S8x8x1x1, .f32⟩
  | 81 => ⟨S8x8x32x64, .f32⟩
  | 82 => ⟨S8x8x32x64, .f32⟩
  | 83 => ⟨S8x8x32x64, .f32⟩
  | 84 => ⟨S1x8x8x32x64, .f32⟩
  | 85 => ⟨S_, .i32⟩
  | 86 => ⟨S_, .i32⟩
  | 87 => ⟨S_, .i32⟩
  | 88 => ⟨S_, .i32⟩
  | 89 => ⟨S64x8x8x32x64, .f32⟩
  | 90 => ⟨S_, .i32⟩
  | 91 => ⟨S_, .i32⟩
  | 92 => ⟨S8x64x64x8, .f32⟩
  | 93 => ⟨S8x64x64x8x1, .f32⟩
  | 94 => ⟨S8x64x64x8x32, .f32⟩
  | 95 => ⟨S8x64x64x8x32, .f32⟩
  | 96 => ⟨S8x64x8x64x64, .f32⟩
  | 97 => ⟨S8x64x64x8x64, .f32⟩
  | 98 => ⟨S8x64x64x8x64, .f32⟩
  | 99 => ⟨S8x4096x8x64, .f32⟩
  | 100 => ⟨S8x4096x8x64, .f32⟩
  | 101 => ⟨S_, .f32⟩
  | 102 => ⟨S8x4096x8, .f32⟩
  | 103 => ⟨S8x4096x8x1, .f32⟩
  | 104 => ⟨S_, .f32⟩
  | 105 => ⟨S8x4096x8x1, .f32⟩
  | 106 => ⟨S8x4096x8x1, .f32⟩
  | 107 => ⟨S_, .f32⟩
  | 108 => ⟨S8x4096x8x1, .f32⟩
  | 109 => ⟨S8x4096x8x1, .f32⟩
  | 110 => ⟨S8x4096x8x1, .f32⟩
  | 111 => ⟨S8x4096x8x64, .f32⟩
  | 112 => ⟨S8x4096x8x64, .f32⟩
  | 113 => ⟨S8x4096x512, .f32⟩
  | 114 => ⟨S1x1x512, .f32⟩
  | 115 => ⟨S8x4096x512, .f32⟩
  | 116 => ⟨S8x4096x512, .f32⟩
  | 117 => ⟨S8x4096x512, .f32⟩
  | 118 => ⟨S8x4096x512, .f32⟩
  | 119 => ⟨S_, .f32⟩
  | 120 => ⟨S8x4096x512, .f32⟩
  | 121 => ⟨S8x4096x512, .f32⟩
  | 122 => ⟨S_, .f32⟩
  | 123 => ⟨S8x4096x512, .f32⟩
  | 124 => ⟨S8x4096x512, .f32⟩
  | 125 => ⟨S8x4096x512, .f32⟩
  | 126 => ⟨S8x4096x512, .f32⟩
  | 127 => ⟨S8x4096x512, .bf16⟩
  | _ => ⟨S8x4096x1536, .f32⟩

abbrev hbmTy (i : Nat) : BufTy := match i / 128 with
  | 0 => hbmTy0_0 i
  | 1 => hbmTy0_1 i
  | _ => ⟨S8x4096x1536, .f32⟩

abbrev bufTy : (tb : Table) → Fin (tcTables nBuf tb) → BufTy
  | .hbm, ⟨i, _⟩ => hbmTy i
  | _, _ => ⟨S8x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v5 : Ref sig .tc := ⟨.hbm, 29, rfl⟩
abbrev main_cst_1 : Ref sig .tc := ⟨.hbm, 30, rfl⟩
abbrev main_v6 : Ref sig .tc := ⟨.hbm, 31, rfl⟩
abbrev main_v7 : Ref sig .tc := ⟨.hbm, 32, rfl⟩
abbrev main_cst_2 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_cst : Ref sig .tc := ⟨.hbm, 71, rfl⟩
abbrev main_call1_v3 : Ref sig .tc := ⟨.hbm, 72, rfl⟩
abbrev main_call1_v4 : Ref sig .tc := ⟨.hbm, 73, rfl⟩
abbrev main_call1_cst_0 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_v15 : Ref sig .tc := ⟨.hbm, 86, rfl⟩
abbrev main_call1_v16 : Ref sig .tc := ⟨.hbm, 87, rfl⟩
abbrev main_v40 : Ref sig .tc := ⟨.hbm, 88, rfl⟩
abbrev main_cst_5 : Ref sig .tc := ⟨.hbm, 89, rfl⟩
abbrev main_v41 : Ref sig .tc := ⟨.hbm, 90, rfl⟩
abbrev main_v42 : Ref sig .tc := ⟨.hbm, 91, rfl⟩
abbrev main_cst_6 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_7 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_8 : Ref sig .tc := ⟨.hbm, 129, rfl⟩
abbrev main_v78 : Ref sig .tc := ⟨.hbm, 130, rfl⟩
abbrev main_v79 : Ref sig .tc := ⟨.hbm, 131, rfl⟩
abbrev main_cst_9 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_10 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_call2_call0_cst : Ref sig .tc := ⟨.hbm, 145, rfl⟩
abbrev main_call2_call0_v0 : Ref sig .tc := ⟨.hbm, 146, rfl⟩
abbrev main_v91 : Ref sig .tc := ⟨.hbm, 147, rfl⟩
abbrev main_v92 : Ref sig .tc := ⟨.hbm, 148, rfl⟩
abbrev main_c : Ref sig .tc := ⟨.hbm, 149, rfl⟩
abbrev main_v93 : Ref sig .tc := ⟨.hbm, 150, rfl⟩
abbrev main_call3_v0 : Ref sig .tc := ⟨.hbm, 151, rfl⟩
abbrev main_call3_c : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_c_0 : Ref sig .tc := ⟨.hbm, 157, rfl⟩
abbrev main_call3_v5 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_11 : Ref sig .tc := ⟨.hbm, 166, rfl⟩
abbrev main_call4_v0 : Ref sig .tc := ⟨.hbm, 167, rfl⟩
abbrev main_call4_v1 : Ref sig .tc := ⟨.hbm, 168, rfl⟩
abbrev main_call4_v2 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_cst_12 : Ref sig .tc := ⟨.hbm, 186, rfl⟩
abbrev main_v117 : Ref sig .tc := ⟨.hbm, 187, rfl⟩
abbrev main_cst_13 : Ref sig .tc := ⟨.hbm, 188, rfl⟩
abbrev main_v118 : Ref sig .tc := ⟨.hbm, 189, rfl⟩
abbrev main_c_14 : Ref sig .tc := ⟨.hbm, 190, rfl⟩
abbrev main_v119_0 : Ref sig .tc := ⟨.hbm, 191, rfl⟩
abbrev main_v119_1 : Ref sig .tc := ⟨.hbm, 192, rfl⟩
abbrev main_v119_2 : Ref sig .tc := ⟨.hbm, 193, rfl⟩
abbrev main_v119_3 : Ref sig .tc := ⟨.hbm, 194, rfl⟩
abbrev main_v119_4 : Ref sig .tc := ⟨.hbm, 195, rfl⟩
abbrev main_while0c_c_22 : Ref sig .tc := ⟨.hbm, 196, rfl⟩
abbrev main_while0c_v145 : Ref sig .tc := ⟨.hbm, 197, rfl⟩
abbrev main_while0b_call5_c : Ref sig .tc := ⟨.hbm, 198, rfl⟩
abbrev main_while0b_call5_c_0 : Ref sig .tc := ⟨.hbm, 199, rfl⟩
abbrev main_while0b_call5_c_1 : Ref sig .tc := ⟨.hbm, 200, rfl⟩
abbrev main_while0b_call5_c_2 : Ref sig .tc := ⟨.hbm, 201, rfl⟩
abbrev main_while0b_call5_v0 : Ref sig .tc := ⟨.hbm, 202, rfl⟩
abbrev main_while0b_v145 : Ref sig .tc := ⟨.hbm, 203, rfl⟩
abbrev main_while0b_call6_c : Ref sig .tc := ⟨.hbm, 204, rfl⟩
abbrev main_while0b_call6_c_0 : Ref sig .tc := ⟨.hbm, 205, rfl⟩
abbrev main_while0b_call6_v0 : Ref sig .tc := ⟨.hbm, 206, rfl⟩
abbrev main_while0b_v146 : Ref sig .tc := ⟨.hbm, 207, rfl⟩
abbrev main_while0b_v147 : Ref sig .tc := ⟨.hbm, 208, rfl⟩
abbrev main_while0b_v148 : Ref sig .tc := ⟨.hbm, 209, rfl⟩
abbrev main_while0b_v149 : Ref sig .tc := ⟨.hbm, 210, rfl⟩
abbrev main_while0b_v150 : Ref sig .tc := ⟨.hbm, 211, rfl⟩
abbrev main_while0b_call7_v0 : Ref sig .tc := ⟨.hbm, 212, rfl⟩
abbrev main_while0b_call7_c : Ref sig .tc := ⟨.hbm, 213, rfl⟩
abbrev main_while0b_call7_c_0 : Ref sig .tc := ⟨.hbm, 214, rfl⟩
abbrev main_while0b_call7_c_1 : Ref sig .tc := ⟨.hbm, 215, rfl⟩
abbrev main_while0b_call7_c_2 : Ref sig .tc := ⟨.hbm, 216, rfl⟩
abbrev main_while0b_v151 : Ref sig .tc := ⟨.hbm, 217, rfl⟩
abbrev main_while0b_c_22 : Ref sig .tc := ⟨.hbm, 218, rfl⟩
abbrev main_while0b_v152 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_cst_15 : Ref sig .tc := ⟨.hbm, 229, rfl⟩
abbrev main_v129 : Ref sig .tc := ⟨.hbm, 230, rfl⟩
abbrev main_v130 : Ref sig .tc := ⟨.hbm, 231, rfl⟩
abbrev main_cst_16 : Ref sig .tc := ⟨.hbm, 232, rfl⟩
abbrev main_v131 : Ref sig .tc := ⟨.hbm, 233, rfl⟩
abbrev main_v132 : Ref sig .tc := ⟨.hbm, 234, rfl⟩
abbrev main_cst_17 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_call8_v0 : Ref sig .tc := ⟨.hbm, 245, rfl⟩
abbrev main_call8_v1 : Ref sig .tc := ⟨.hbm, 246, rfl⟩
abbrev main_call8_cst : Ref sig .tc := ⟨.hbm, 247, rfl⟩
abbrev main_call8_v2 : Ref sig .tc := ⟨.hbm, 248, rfl⟩
abbrev main_call8_v3 : Ref sig .tc := ⟨.hbm, 249, rfl⟩
abbrev main_call8_cst_0 : Ref sig .tc := ⟨.hbm, 250, rfl⟩
abbrev main_call8_v4 : Ref sig .tc := ⟨.hbm, 251, rfl⟩
abbrev main_call8_v5 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩

abbrev nD : Nat := 1
abbrev τ : Topo := Topo.v7x

variable {F : FTy → Type} [FloatOps F]

abbrev main_while0_count : Scf.Loop 32 := ⟨0#32, 64#32, 1#32⟩
-- ==== KernelProjRw.lean ====
abbrev S32768x1024 : Shape := ⟨2, ![32768, 1024]⟩
abbrev S1024 : Shape := ⟨1, ![1024]⟩
abbrev S1024x11408 : Shape := ⟨2, ![1024, 11408]⟩
abbrev S1024x512 : Shape := ⟨2, ![1024, 512]⟩
abbrev S1024x64 : Shape := ⟨2, ![1024, 64]⟩
abbrev S1024x256 : Shape := ⟨2, ![1024, 256]⟩
abbrev S1024x1024 : Shape := ⟨2, ![1024, 1024]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x2176 : Shape := ⟨2, ![1024, 2176]⟩
abbrev S_ : Shape := ⟨0, ![]⟩
abbrev S1024x128 : Shape := ⟨2, ![1024, 128]⟩
abbrev S1024x1664 : Shape := ⟨2, ![1024, 1664]⟩
abbrev S1x1024 : Shape := ⟨2, ![1, 1024]⟩
abbrev S32768x2176 : Shape := ⟨2, ![32768, 2176]⟩
abbrev S256x1024 : Shape := ⟨2, ![256, 1024]⟩
abbrev S256 : Shape := ⟨1, ![256]⟩
abbrev S256x1 : Shape := ⟨2, ![256, 1]⟩
abbrev S256x2176 : Shape := ⟨2, ![256, 2176]⟩

abbrev nBuf : Space → Nat
  | .hbm => 39
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x64, .f32⟩
  | .hbm, ⟨7, _⟩ => ⟨S1024x64, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x512, .f32⟩
  | .hbm, ⟨15, _⟩ => ⟨S1024x8, .f32⟩
  | .hbm, ⟨16, _⟩ => ⟨S1024x1536, .f32⟩
  | .hbm, ⟨17, _⟩ => ⟨S1024x512, .f32⟩
  | .hbm, ⟨18, _⟩ => ⟨S1024x4, .f32⟩
  | .hbm, ⟨19, _⟩ => ⟨S1024x4, .f32⟩
  | .hbm, ⟨20, _⟩ => ⟨S1024x4096, .f32⟩
  | .hbm, ⟨21, _⟩ => ⟨S1024x2176, .f32⟩
  | .hbm, ⟨22, _⟩ => ⟨S1024x1536, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x1664, .f32⟩
  | .hbm, ⟨27, _⟩ => ⟨S1024x8, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x2176, .f32⟩
  | .hbm, ⟨32, _⟩ => ⟨S1024x2176, .bf16⟩
  | .hbm, ⟨33, _⟩ => ⟨S1024x1536, .bf16⟩
  | .hbm, ⟨34, _⟩ => ⟨S1024x1664, .bf16⟩
  | .hbm, ⟨35, _⟩ => ⟨S1024x2176, .bf16⟩
  | .hbm, ⟨36, _⟩ => ⟨S1024x4096, .bf16⟩
  | .hbm, ⟨37, _⟩ => ⟨S1x1024, .f32⟩
  | .hbm, ⟨38, _⟩ => ⟨S32768x2176, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_call0_v0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_call1_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceProjRwIdeal.lean ====
abbrev S32768x1024 : Shape := ⟨2, ![32768, 1024]⟩
abbrev S1024 : Shape := ⟨1, ![1024]⟩
abbrev S1024x11408 : Shape := ⟨2, ![1024, 11408]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x2176 : Shape := ⟨2, ![1024, 2176]⟩
abbrev S32768x2176 : Shape := ⟨2, ![32768, 2176]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x2176, .f32⟩
  | .hbm, ⟨20, _⟩ => ⟨S32768x2176, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelProjRt.lean ====
abbrev S32768x1024 : Shape := ⟨2, ![32768, 1024]⟩
abbrev S1024 : Shape := ⟨1, ![1024]⟩
abbrev S1024x11408 : Shape := ⟨2, ![1024, 11408]⟩
abbrev S1024x512 : Shape := ⟨2, ![1024, 512]⟩
abbrev S1024x64 : Shape := ⟨2, ![1024, 64]⟩
abbrev S1024x256 : Shape := ⟨2, ![1024, 256]⟩
abbrev S1024x1024 : Shape := ⟨2, ![1024, 1024]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x2176 : Shape := ⟨2, ![1024, 2176]⟩
abbrev S_ : Shape := ⟨0, ![]⟩
abbrev S1024x128 : Shape := ⟨2, ![1024, 128]⟩
abbrev S1024x1664 : Shape := ⟨2, ![1024, 1664]⟩
abbrev S1x1024 : Shape := ⟨2, ![1, 1024]⟩
abbrev S32768x1536 : Shape := ⟨2, ![32768, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩

abbrev nBuf : Space → Nat
  | .hbm => 39
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x64, .f32⟩
  | .hbm, ⟨7, _⟩ => ⟨S1024x64, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x512, .f32⟩
  | .hbm, ⟨15, _⟩ => ⟨S1024x8, .f32⟩
  | .hbm, ⟨16, _⟩ => ⟨S1024x1536, .f32⟩
  | .hbm, ⟨17, _⟩ => ⟨S1024x512, .f32⟩
  | .hbm, ⟨18, _⟩ => ⟨S1024x4, .f32⟩
  | .hbm, ⟨19, _⟩ => ⟨S1024x4, .f32⟩
  | .hbm, ⟨20, _⟩ => ⟨S1024x4096, .f32⟩
  | .hbm, ⟨21, _⟩ => ⟨S1024x2176, .f32⟩
  | .hbm, ⟨22, _⟩ => ⟨S1024x1536, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x1664, .f32⟩
  | .hbm, ⟨27, _⟩ => ⟨S1024x8, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x2176, .f32⟩
  | .hbm, ⟨32, _⟩ => ⟨S1024x2176, .bf16⟩
  | .hbm, ⟨33, _⟩ => ⟨S1024x1536, .bf16⟩
  | .hbm, ⟨34, _⟩ => ⟨S1024x1664, .bf16⟩
  | .hbm, ⟨35, _⟩ => ⟨S1024x2176, .bf16⟩
  | .hbm, ⟨36, _⟩ => ⟨S1024x4096, .bf16⟩
  | .hbm, ⟨37, _⟩ => ⟨S1x1024, .f32⟩
  | .hbm, ⟨38, _⟩ => ⟨S32768x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_call0_v0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_call1_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceProjRtIdeal.lean ====
abbrev S32768x1024 : Shape := ⟨2, ![32768, 1024]⟩
abbrev S1024 : Shape := ⟨1, ![1024]⟩
abbrev S1024x11408 : Shape := ⟨2, ![1024, 11408]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x1536 : Shape := ⟨2, ![1024, 1536]⟩
abbrev S32768x1536 : Shape := ⟨2, ![32768, 1536]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x1536, .f32⟩
  | .hbm, ⟨20, _⟩ => ⟨S32768x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelProjSd.lean ====
abbrev S32768x1024 : Shape := ⟨2, ![32768, 1024]⟩
abbrev S1024 : Shape := ⟨1, ![1024]⟩
abbrev S1024x11408 : Shape := ⟨2, ![1024, 11408]⟩
abbrev S1024x512 : Shape := ⟨2, ![1024, 512]⟩
abbrev S1024x64 : Shape := ⟨2, ![1024, 64]⟩
abbrev S1024x256 : Shape := ⟨2, ![1024, 256]⟩
abbrev S1024x1024 : Shape := ⟨2, ![1024, 1024]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x2176 : Shape := ⟨2, ![1024, 2176]⟩
abbrev S_ : Shape := ⟨0, ![]⟩
abbrev S1024x128 : Shape := ⟨2, ![1024, 128]⟩
abbrev S1024x1664 : Shape := ⟨2, ![1024, 1664]⟩
abbrev S1x1024 : Shape := ⟨2, ![1, 1024]⟩
abbrev S32768x1664 : Shape := ⟨2, ![32768, 1664]⟩
abbrev S256x1024 : Shape := ⟨2, ![256, 1024]⟩
abbrev S256 : Shape := ⟨1, ![256]⟩
abbrev S256x1 : Shape := ⟨2, ![256, 1]⟩
abbrev S256x1664 : Shape := ⟨2, ![256, 1664]⟩

abbrev nBuf : Space → Nat
  | .hbm => 39
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x64, .f32⟩
  | .hbm, ⟨7, _⟩ => ⟨S1024x64, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x512, .f32⟩
  | .hbm, ⟨15, _⟩ => ⟨S1024x8, .f32⟩
  | .hbm, ⟨16, _⟩ => ⟨S1024x1536, .f32⟩
  | .hbm, ⟨17, _⟩ => ⟨S1024x512, .f32⟩
  | .hbm, ⟨18, _⟩ => ⟨S1024x4, .f32⟩
  | .hbm, ⟨19, _⟩ => ⟨S1024x4, .f32⟩
  | .hbm, ⟨20, _⟩ => ⟨S1024x4096, .f32⟩
  | .hbm, ⟨21, _⟩ => ⟨S1024x2176, .f32⟩
  | .hbm, ⟨22, _⟩ => ⟨S1024x1536, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x1664, .f32⟩
  | .hbm, ⟨27, _⟩ => ⟨S1024x8, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x2176, .f32⟩
  | .hbm, ⟨32, _⟩ => ⟨S1024x2176, .bf16⟩
  | .hbm, ⟨33, _⟩ => ⟨S1024x1536, .bf16⟩
  | .hbm, ⟨34, _⟩ => ⟨S1024x1664, .bf16⟩
  | .hbm, ⟨35, _⟩ => ⟨S1024x2176, .bf16⟩
  | .hbm, ⟨36, _⟩ => ⟨S1024x4096, .bf16⟩
  | .hbm, ⟨37, _⟩ => ⟨S1x1024, .f32⟩
  | .hbm, ⟨38, _⟩ => ⟨S32768x1664, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_call0_v0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_call1_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceProjSdIdeal.lean ====
abbrev S32768x1024 : Shape := ⟨2, ![32768, 1024]⟩
abbrev S1024 : Shape := ⟨1, ![1024]⟩
abbrev S1024x11408 : Shape := ⟨2, ![1024, 11408]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x1544 : Shape := ⟨2, ![1024, 1544]⟩
abbrev S32768x1544 : Shape := ⟨2, ![32768, 1544]⟩
abbrev S32768x1664 : Shape := ⟨2, ![32768, 1664]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x1544, .f32⟩
  | .hbm, ⟨20, _⟩ => ⟨S32768x1544, .f32⟩
  | .hbm, ⟨21, _⟩ => ⟨S_, .i32⟩
  | .hbm, ⟨22, _⟩ => ⟨S_, .f32⟩
  | .hbm, ⟨23, _⟩ => ⟨S32768x1664, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelProjGd.lean ====
abbrev S32768x1024 : Shape := ⟨2, ![32768, 1024]⟩
abbrev S1024 : Shape := ⟨1, ![1024]⟩
abbrev S1024x11408 : Shape := ⟨2, ![1024, 11408]⟩
abbrev S1024x512 : Shape := ⟨2, ![1024, 512]⟩
abbrev S1024x64 : Shape := ⟨2, ![1024, 64]⟩
abbrev S1024x256 : Shape := ⟨2, ![1024, 256]⟩
abbrev S1024x1024 : Shape := ⟨2, ![1024, 1024]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x2176 : Shape := ⟨2, ![1024, 2176]⟩
abbrev S_ : Shape := ⟨0, ![]⟩
abbrev S1024x128 : Shape := ⟨2, ![1024, 128]⟩
abbrev S1024x1664 : Shape := ⟨2, ![1024, 1664]⟩
abbrev S1x1024 : Shape := ⟨2, ![1, 1024]⟩
abbrev S32768x2176 : Shape := ⟨2, ![32768, 2176]⟩
abbrev S256x1024 : Shape := ⟨2, ![256, 1024]⟩
abbrev S256 : Shape := ⟨1, ![256]⟩
abbrev S256x1 : Shape := ⟨2, ![256, 1]⟩
abbrev S256x2176 : Shape := ⟨2, ![256, 2176]⟩

abbrev nBuf : Space → Nat
  | .hbm => 39
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x64, .f32⟩
  | .hbm, ⟨7, _⟩ => ⟨S1024x64, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x512, .f32⟩
  | .hbm, ⟨15, _⟩ => ⟨S1024x8, .f32⟩
  | .hbm, ⟨16, _⟩ => ⟨S1024x1536, .f32⟩
  | .hbm, ⟨17, _⟩ => ⟨S1024x512, .f32⟩
  | .hbm, ⟨18, _⟩ => ⟨S1024x4, .f32⟩
  | .hbm, ⟨19, _⟩ => ⟨S1024x4, .f32⟩
  | .hbm, ⟨20, _⟩ => ⟨S1024x4096, .f32⟩
  | .hbm, ⟨21, _⟩ => ⟨S1024x2176, .f32⟩
  | .hbm, ⟨22, _⟩ => ⟨S1024x1536, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x1664, .f32⟩
  | .hbm, ⟨27, _⟩ => ⟨S1024x8, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x2176, .f32⟩
  | .hbm, ⟨32, _⟩ => ⟨S1024x2176, .bf16⟩
  | .hbm, ⟨33, _⟩ => ⟨S1024x1536, .bf16⟩
  | .hbm, ⟨34, _⟩ => ⟨S1024x1664, .bf16⟩
  | .hbm, ⟨35, _⟩ => ⟨S1024x2176, .bf16⟩
  | .hbm, ⟨36, _⟩ => ⟨S1024x4096, .bf16⟩
  | .hbm, ⟨37, _⟩ => ⟨S1x1024, .f32⟩
  | .hbm, ⟨38, _⟩ => ⟨S32768x2176, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_call0_v0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_call1_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceProjGdIdeal.lean ====
abbrev S32768x1024 : Shape := ⟨2, ![32768, 1024]⟩
abbrev S1024 : Shape := ⟨1, ![1024]⟩
abbrev S1024x11408 : Shape := ⟨2, ![1024, 11408]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x2056 : Shape := ⟨2, ![1024, 2056]⟩
abbrev S32768x2056 : Shape := ⟨2, ![32768, 2056]⟩
abbrev S32768x2176 : Shape := ⟨2, ![32768, 2176]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x2056, .f32⟩
  | .hbm, ⟨20, _⟩ => ⟨S32768x2056, .f32⟩
  | .hbm, ⟨21, _⟩ => ⟨S_, .i32⟩
  | .hbm, ⟨22, _⟩ => ⟨S_, .f32⟩
  | .hbm, ⟨23, _⟩ => ⟨S32768x2176, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelMerge.lean ====
abbrev S32768x1024 : Shape := ⟨2, ![32768, 1024]⟩
abbrev S1024 : Shape := ⟨1, ![1024]⟩
abbrev S1024x11408 : Shape := ⟨2, ![1024, 11408]⟩
abbrev S32768x512 : Shape := ⟨2, ![32768, 512]⟩
abbrev S4x512x1024 : Shape := ⟨3, ![4, 512, 1024]⟩
abbrev S1024x1024 : Shape := ⟨2, ![1024, 1024]⟩
abbrev S1024x512 : Shape := ⟨2, ![1024, 512]⟩
abbrev S1024x64 : Shape := ⟨2, ![1024, 64]⟩
abbrev S1024x256 : Shape := ⟨2, ![1024, 256]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x2176 : Shape := ⟨2, ![1024, 2176]⟩
abbrev S_ : Shape := ⟨0, ![]⟩
abbrev S1024x128 : Shape := ⟨2, ![1024, 128]⟩
abbrev S1024x1664 : Shape := ⟨2, ![1024, 1664]⟩
abbrev S1x1024 : Shape := ⟨2, ![1, 1024]⟩
abbrev S512x1024 : Shape := ⟨2, ![512, 1024]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x512x1024 : Shape := ⟨3, ![1, 512, 1024]⟩

abbrev nBuf : Space → Nat
  | .hbm => 49
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x64, .f32⟩
  | .hbm, ⟨14, _⟩ => ⟨S1024x64, .f32⟩
  | .hbm, ⟨15, _⟩ => ⟨S1024x512, .f32⟩
  | .hbm, ⟨16, _⟩ => ⟨S1024x256, .f32⟩
  | .hbm, ⟨17, _⟩ => ⟨S1024x256, .f32⟩
  | .hbm, ⟨18, _⟩ => ⟨S1024x512, .f32⟩
  | .hbm, ⟨19, _⟩ => ⟨S1024x512, .f32⟩
  | .hbm, ⟨20, _⟩ => ⟨S1024x1024, .f32⟩
  | .hbm, ⟨21, _⟩ => ⟨S1024x512, .f32⟩
  | .hbm, ⟨22, _⟩ => ⟨S1024x8, .f32⟩
  | .hbm, ⟨23, _⟩ => ⟨S1024x1536, .f32⟩
  | .hbm, ⟨24, _⟩ => ⟨S1024x512, .f32⟩
  | .hbm, ⟨25, _⟩ => ⟨S1024x4, .f32⟩
  | .hbm, ⟨26, _⟩ => ⟨S1024x4, .f32⟩
  | .hbm, ⟨27, _⟩ => ⟨S1024x4096, .f32⟩
  | .hbm, ⟨28, _⟩ => ⟨S1024x2176, .f32⟩
  | .hbm, ⟨29, _⟩ => ⟨S1024x1536, .f32⟩
  | .hbm, ⟨30, _⟩ => ⟨S_, .i32⟩
  | .hbm, ⟨31, _⟩ => ⟨S_, .f32⟩
  | .hbm, ⟨32, _⟩ => ⟨S1024x128, .f32⟩
  | .hbm, ⟨33, _⟩ => ⟨S1024x1664, .f32⟩
  | .hbm, ⟨34, _⟩ => ⟨S1024x8, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x2176, .f32⟩
  | .hbm, ⟨39, _⟩ => ⟨S1024x2176, .bf16⟩
  | .hbm, ⟨40, _⟩ => ⟨S1024x1536, .bf16⟩
  | .hbm, ⟨41, _⟩ => ⟨S1024x1664, .bf16⟩
  | .hbm, ⟨42, _⟩ => ⟨S1024x2176, .bf16⟩
  | .hbm, ⟨43, _⟩ => ⟨S1024x4096, .bf16⟩
  | .hbm, ⟨44, _⟩ => ⟨S1x1024, .f32⟩
  | .hbm, ⟨45, _⟩ => ⟨S4x512x1024, .bf16⟩
  | .hbm, ⟨46, _⟩ => ⟨S1024x1024, .bf16⟩
  | .hbm, ⟨47, _⟩ => ⟨S1x1024, .f32⟩
  | .hbm, ⟨48, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMergeIdeal.lean ====
abbrev S32768x1024 : Shape := ⟨2, ![32768, 1024]⟩
abbrev S1024 : Shape := ⟨1, ![1024]⟩
abbrev S1024x11408 : Shape := ⟨2, ![1024, 11408]⟩
abbrev S32768x512 : Shape := ⟨2, ![32768, 512]⟩
abbrev S4x512x1024 : Shape := ⟨3, ![4, 512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x4096 : Shape := ⟨2, ![1024, 4096]⟩
abbrev S32768x4096 : Shape := ⟨2, ![32768, 4096]⟩
abbrev S32768x4x1024 : Shape := ⟨3, ![32768, 4, 1024]⟩
abbrev S32768x1x1024 : Shape := ⟨3, ![32768, 1, 1024]⟩
abbrev S1x512x1024 : Shape := ⟨3, ![1, 512, 1024]⟩
abbrev S512x1024 : Shape := ⟨2, ![512, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1024x4096, .f32⟩
  | .hbm, ⟨31, _⟩ => ⟨S32768x4096, .f32⟩
  | .hbm, ⟨32, _⟩ => ⟨S32768x4x1024, .f32⟩
  | .hbm, ⟨33, _⟩ => ⟨S32768x4x1024, .f32⟩
  | .hbm, ⟨34, _⟩ => ⟨S32768x4x1024, .f32⟩
  | .hbm, ⟨35, _⟩ => ⟨S_, .f32⟩
  | .hbm, ⟨36, _⟩ => ⟨S32768x4x1024, .f32⟩
  | .hbm, ⟨37, _⟩ => ⟨S32768x4x1024, .f32⟩
  | .hbm, ⟨38, _⟩ => ⟨S_, .f32⟩
  | .hbm, ⟨39, _⟩ => ⟨S32768x4x1024, .f32⟩
  | .hbm, ⟨40, _⟩ => ⟨S32768x4x1024, .f32⟩
  | .hbm, ⟨41, _⟩ => ⟨S32768x1x1024, .f32⟩
  | .hbm, ⟨42, _⟩ => ⟨S32768x1024, .f32⟩
  | .hbm, ⟨43, _⟩ => ⟨S1x512x1024, .f32⟩
  | .hbm, ⟨44, _⟩ => ⟨S512x1024, .f32⟩
  | .hbm, ⟨45, _⟩ => ⟨S32768x1024, .f32⟩
  | .hbm, ⟨46, _⟩ => ⟨S32768x1024, .f32⟩
  | .hbm, ⟨47, _⟩ => ⟨S32768x1x1024, .f32⟩
  | .hbm, ⟨48, _⟩ => ⟨S32768x1024, .f32⟩
  | .hbm, ⟨49, _⟩ => ⟨S1x512x1024, .f32⟩
  | .hbm, ⟨50, _⟩ => ⟨S512x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1x1024, .f32⟩
  | .hbm, ⟨55, _⟩ => ⟨S32768x1024, .f32⟩
  | .hbm, ⟨56, _⟩ => ⟨S1x512x1024, .f32⟩
  | .hbm, ⟨57, _⟩ => ⟨S512x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1x1024, .f32⟩
  | .hbm, ⟨62, _⟩ => ⟨S32768x1024, .f32⟩
  | .hbm, ⟨63, _⟩ => ⟨S1x512x1024, .f32⟩
  | .hbm, ⟨64, _⟩ => ⟨S512x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== KernelMergeLast.lean ====
abbrev S32768x1024 : Shape := ⟨2, ![32768, 1024]⟩
abbrev S1024 : Shape := ⟨1, ![1024]⟩
abbrev S1024x11408 : Shape := ⟨2, ![1024, 11408]⟩
abbrev S32768x512 : Shape := ⟨2, ![32768, 512]⟩
abbrev S4x512x1024 : Shape := ⟨3, ![4, 512, 1024]⟩
abbrev S1024x1024 : Shape := ⟨2, ![1024, 1024]⟩
abbrev S1024x512 : Shape := ⟨2, ![1024, 512]⟩
abbrev S1024x64 : Shape := ⟨2, ![1024, 64]⟩
abbrev S1024x256 : Shape := ⟨2, ![1024, 256]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x2176 : Shape := ⟨2, ![1024, 2176]⟩
abbrev S_ : Shape := ⟨0, ![]⟩
abbrev S1024x128 : Shape := ⟨2, ![1024, 128]⟩
abbrev S1024x1664 : Shape := ⟨2, ![1024, 1664]⟩
abbrev S1x1024 : Shape := ⟨2, ![1, 1024]⟩
abbrev S512x1024 : Shape := ⟨2, ![512, 1024]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x512x1024 : Shape := ⟨3, ![1, 512, 1024]⟩

abbrev nBuf : Space → Nat
  | .hbm => 49
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x64, .f32⟩
  | .hbm, ⟨14, _⟩ => ⟨S1024x64, .f32⟩
  | .hbm, ⟨15, _⟩ => ⟨S1024x512, .f32⟩
  | .hbm, ⟨16, _⟩ => ⟨S1024x256, .f32⟩
  | .hbm, ⟨17, _⟩ => ⟨S1024x256, .f32⟩
  | .hbm, ⟨18, _⟩ => ⟨S1024x512, .f32⟩
  | .hbm, ⟨19, _⟩ => ⟨S1024x512, .f32⟩
  | .hbm, ⟨20, _⟩ => ⟨S1024x1024, .f32⟩
  | .hbm, ⟨21, _⟩ => ⟨S1024x512, .f32⟩
  | .hbm, ⟨22, _⟩ => ⟨S1024x8, .f32⟩
  | .hbm, ⟨23, _⟩ => ⟨S1024x1536, .f32⟩
  | .hbm, ⟨24, _⟩ => ⟨S1024x512, .f32⟩
  | .hbm, ⟨25, _⟩ => ⟨S1024x4, .f32⟩
  | .hbm, ⟨26, _⟩ => ⟨S1024x4, .f32⟩
  | .hbm, ⟨27, _⟩ => ⟨S1024x4096, .f32⟩
  | .hbm, ⟨28, _⟩ => ⟨S1024x2176, .f32⟩
  | .hbm, ⟨29, _⟩ => ⟨S1024x1536, .f32⟩
  | .hbm, ⟨30, _⟩ => ⟨S_, .i32⟩
  | .hbm, ⟨31, _⟩ => ⟨S_, .f32⟩
  | .hbm, ⟨32, _⟩ => ⟨S1024x128, .f32⟩
  | .hbm, ⟨33, _⟩ => ⟨S1024x1664, .f32⟩
  | .hbm, ⟨34, _⟩ => ⟨S1024x8, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x2176, .f32⟩
  | .hbm, ⟨39, _⟩ => ⟨S1024x2176, .bf16⟩
  | .hbm, ⟨40, _⟩ => ⟨S1024x1536, .bf16⟩
  | .hbm, ⟨41, _⟩ => ⟨S1024x1664, .bf16⟩
  | .hbm, ⟨42, _⟩ => ⟨S1024x2176, .bf16⟩
  | .hbm, ⟨43, _⟩ => ⟨S1024x4096, .bf16⟩
  | .hbm, ⟨44, _⟩ => ⟨S1x1024, .f32⟩
  | .hbm, ⟨45, _⟩ => ⟨S4x512x1024, .bf16⟩
  | .hbm, ⟨46, _⟩ => ⟨S1024x1024, .bf16⟩
  | .hbm, ⟨47, _⟩ => ⟨S1x1024, .f32⟩
  | .hbm, ⟨48, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMergeLastIdeal.lean ====
abbrev S32768x1024 : Shape := ⟨2, ![32768, 1024]⟩
abbrev S1024 : Shape := ⟨1, ![1024]⟩
abbrev S1024x11408 : Shape := ⟨2, ![1024, 11408]⟩
abbrev S32768x512 : Shape := ⟨2, ![32768, 512]⟩
abbrev S4x512x1024 : Shape := ⟨3, ![4, 512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x4096 : Shape := ⟨2, ![1024, 4096]⟩
abbrev S32768x4096 : Shape := ⟨2, ![32768, 4096]⟩
abbrev S32768x4x1024 : Shape := ⟨3, ![32768, 4, 1024]⟩
abbrev S32768x1x1024 : Shape := ⟨3, ![32768, 1, 1024]⟩
abbrev S1x512x1024 : Shape := ⟨3, ![1, 512, 1024]⟩
abbrev S512x1024 : Shape := ⟨2, ![512, 1024]⟩

abbrev nBuf : Space → Nat
  | .hbm => 86
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x11408, .f32⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1024x4096, .f32⟩
  | .hbm, ⟨31, _⟩ => ⟨S32768x4096, .f32⟩
  | .hbm, ⟨32, _⟩ => ⟨S32768x4x1024, .f32⟩
  | .hbm, ⟨33, _⟩ => ⟨S32768x4x1024, .f32⟩
  | .hbm, ⟨34, _⟩ => ⟨S32768x4x1024, .f32⟩
  | .hbm, ⟨35, _⟩ => ⟨S_, .f32⟩
  | .hbm, ⟨36, _⟩ => ⟨S32768x4x1024, .f32⟩
  | .hbm, ⟨37, _⟩ => ⟨S32768x4x1024, .f32⟩
  | .hbm, ⟨38, _⟩ => ⟨S_, .f32⟩
  | .hbm, ⟨39, _⟩ => ⟨S32768x4x1024, .f32⟩
  | .hbm, ⟨40, _⟩ => ⟨S32768x4x1024, .f32⟩
  | .hbm, ⟨41, _⟩ => ⟨S32768x1x1024, .f32⟩
  | .hbm, ⟨42, _⟩ => ⟨S32768x1024, .f32⟩
  | .hbm, ⟨43, _⟩ => ⟨S1x512x1024, .f32⟩
  | .hbm, ⟨44, _⟩ => ⟨S512x1024, .f32⟩
  | .hbm, ⟨45, _⟩ => ⟨S32768x1024, .f32⟩
  | .hbm, ⟨46, _⟩ => ⟨S32768x1024, .f32⟩
  | .hbm, ⟨47, _⟩ => ⟨S32768x1x1024, .f32⟩
  | .hbm, ⟨48, _⟩ => ⟨S32768x1024, .f32⟩
  | .hbm, ⟨49, _⟩ => ⟨S1x512x1024, .f32⟩
  | .hbm, ⟨50, _⟩ => ⟨S512x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1x1024, .f32⟩
  | .hbm, ⟨55, _⟩ => ⟨S32768x1024, .f32⟩
  | .hbm, ⟨56, _⟩ => ⟨S1x512x1024, .f32⟩
  | .hbm, ⟨57, _⟩ => ⟨S512x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1x1024, .f32⟩
  | .hbm, ⟨62, _⟩ => ⟨S32768x1024, .f32⟩
  | .hbm, ⟨63, _⟩ => ⟨S1x512x1024, .f32⟩
  | .hbm, ⟨64, _⟩ => ⟨S512x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S32768x1, .f32⟩
  | .hbm, ⟨81, _⟩ => ⟨S32768x1024, .f32⟩
  | .hbm, ⟨82, _⟩ => ⟨S32768x1024, .f32⟩
  | .hbm, ⟨83, _⟩ => ⟨S1x1024, .f32⟩
  | .hbm, ⟨84, _⟩ => ⟨S32768x1024, .f32⟩
  | .hbm, ⟨85, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Proof.RowNorm.lean ====
module

public import Idealize.ShloMosaic.Lib.Pointwise

@[expose] public section

noncomputable section

/-!
# The normalised row, and its product with a column

Every row of an input projection, and every branch row of the merge, is normalised by the root of its mean square
before it meets a matrix.  The two definitions below name that arithmetic once, over the extended reals.
-/

namespace Cert.Layer

open Idealize.ShloMosaic

/-- Entry `k` of a row `x` of 1024 numbers, normalised: `x k` times the inverse root of the row's mean square plus
    a millionth, times the weight `w k`. -/
def rowNorm (x w : Fin 1024 → EReal) (k : Fin 1024) : EReal :=
  x k * Ideal.rsqrt (Ideal.div (∑ l, x l * x l) (Ideal.ofBits FTy.f32 0x44800000#32) + Ideal.ofBits FTy.f32 0x358637BD#32) * w k

/-- The normalised row times a column of a matrix. -/
def rowNormDot (x w col : Fin 1024 → EReal) : EReal := ∑ k, rowNorm x w k * col k

/-- A column of zeros gives zero, whatever the row. -/
theorem rowNormDot_zero (x w : Fin 1024 → EReal) : rowNormDot x w (fun _ => 0) = 0 := by
  unfold rowNormDot
  exact Finset.sum_eq_zero fun k _ => mul_zero _

/-- The padding value, the integer zero made a float, is zero. -/
theorem sitofp_zero : (FloatOps.sitofp FTy.f32 0#32 : Ideal .f32) = (0 : EReal) := by
  show (((0#32 : BitVec 32).toInt : ℝ) : EReal) = 0
  simp

end Cert.Layer

end
-- ==== Proof.ProjRw.lean ====
module

public import proofs.«01_k».proof.Defs
public import proofs.«01_k».proof.Proof.Gen.KernelProjRwIdeal.Value
public import proofs.«01_k».proof.Proof.Gen.ReferenceProjRwIdeal.Run
public import proofs.«01_k».proof.Proof.RowNorm
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelProjRwIdeal.Hand

open Cert.KernelProjRwIdeal Cert.KernelProjRwIdeal.Gen Cert.Layer
open Idealize.ShloMosaic Idealize.ShloMosaic.TcCoe Idealize.SL.Sem
open Idealize.ShloMosaic.Pipeline (Dat)

/-- One sub-tile's product at an index: the normalised row of the loaded rows, times a column of the weight. -/
theorem pay_at (v : Vec Ideal S256x1024 .f32) (w : Vec Ideal S1x1024 .f32) (W : Vec Ideal S1024x2176 .bf16) (j : S256x2176.Idx) :
    k0_pay2 v w W j = rowNormDot (fun k => v (ix2 (j 0) k)) (fun k => w (ix2 0 k)) (fun k => W (ix2 k (j 1))) := by
  unfold rowNormDot rowNorm
  pointwise [k0_pay2]

/-- What the body leaves in the output block at `y`, whichever of its four stores wrote it. -/
theorem out_at (X : Vec Ideal S1024x1024 .f32) (w : Vec Ideal S1x1024 .f32) (W : Vec Ideal S1024x2176 .bf16) (y : S1024x2176.Idx) :
    out0_3 X w W y = rowNormDot (fun k => X (ix2 (y 0) k)) (fun k => w (ix2 0 k)) (fun k => W (ix2 k (y 1))) := by
  canon_tiles x h
  all_goals
    refine (pay_at _ _ _ x).trans ?_
    congr 1 <;> (funext k; pointwise; blk_ext)

variable (m : (ℓ : Loc nD τ sig) → Buf (Elt Ideal) ℓ)

/-- Point `t` takes rows `1024 t …` of the input and of the result, and the whole of the two weights. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The staged weight, read at an index: the column of the layer's input matrix that it was assembled from. -/
theorem weight_at (c : Dev nD) (k : Fin 1024) (l : Fin 2176) :
    (V m c main_v25 : FVec Ideal S1024x2176 .bf16) (ix2 k l) = (m ((c : Thread nD τ).loc main_arg2) : FVec Ideal S1024x11408 .f32) (ix2 k ⟨l, by omega⟩) := by
  unfold V
  after_reads_at
  repeat' split
  all_goals (after_reads_at; blk_ext)

/-- The staged norm weight, read at an index. -/
theorem norm_at (c : Dev nD) (k : Fin 1024) :
    (V m c main_v30 : FVec Ideal S1x1024 .f32) (ix2 0 k) = (m ((c : Thread nD τ).loc main_arg1) : FVec Ideal S1024 .f32) (ix1 k) := by
  unfold V
  after_reads_at

/-- The projection of one row onto one column, from the three arguments. -/
def spec (X : FVec Ideal S32768x1024 .f32) (w : FVec Ideal S1024 .f32) (W : FVec Ideal S1024x11408 .f32) : FVec Ideal S32768x2176 .f32 :=
  fun i => rowNormDot (fun k => X (ix2 (i 0) k)) (fun k => w (ix1 k)) (fun k => W (ix2 k ⟨i 1, lt_trans (i 1).isLt (by decide)⟩))

/-- The kernel's result array after its run. -/
theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (out_at _ _ _ y).trans ?_
  unfold spec
  congr 1
  · funext k
    blk_point [iblk, V_main_arg0, idx t]
  · funext k
    refine Eq.trans ?_ (norm_at m c k)
    blk_point [iblk, idx t]
  · funext k
    refine Eq.trans ?_ (weight_at m c k _)
    blk_point [iblk, idx t]

end Cert.KernelProjRwIdeal.Hand

namespace Cert.ReferenceProjRwIdeal.Hand

open Cert.ReferenceProjRwIdeal Cert.ReferenceProjRwIdeal.Gen Idealize.ShloMosaic Idealize.ShloMosaic.TcCoe Cert.Layer

/-- The reference's result, as the composed operations of its three arguments. -/
def term (X : FVec Ideal S32768x1024 .f32) (w : FVec Ideal S1024 .f32) (W : FVec Ideal S1024x11408 .f32) : FVec Ideal S32768x2176 .f32 :=
  Host.dotGeneral dot_S32768x1024_S1024x2176_S32768x2176_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 w))) (extractStridedSlice S1024x2176 ![0, 0] W slices_S1024x11408_S1024x2176_0_0)

/-- The reference's result is the projection, row by row and column by column. -/
theorem term_eq (X : FVec Ideal S32768x1024 .f32) (w : FVec Ideal S1024 .f32) (W : FVec Ideal S1024x11408 .f32) :
    term X w W = Cert.KernelProjRwIdeal.Hand.spec X w W := by
  funext i
  unfold Cert.KernelProjRwIdeal.Hand.spec rowNormDot rowNorm
  pointwise [term]

end Cert.ReferenceProjRwIdeal.Hand

namespace Cert.Proof
open Idealize.ShloMosaic Idealize.ShloMosaic.TcCoe Idealize.SL.Sem

/-- Over the reals the kernel's result and the reference's are one array. -/
theorem algebraic_ProjRw : Cert.algebraic_KernelProjRwIdeal_ReferenceProjRwIdeal := by
  pair_intro
  · run_from Cert.KernelProjRwIdeal.Value.run_blocks m g
  · run_from Cert.ReferenceProjRwIdeal.Value.run m' g'
    exact (Cert.ReferenceProjRwIdeal.Hand.term_eq _ _ _).trans (Cert.KernelProjRwIdeal.Hand.final m c).symm

end Cert.Proof
end
-- ==== Proof.ProjRt.lean ====
module

public import proofs.«01_k».proof.Defs
public import proofs.«01_k».proof.Proof.Gen.KernelProjRtIdeal.Value
public import proofs.«01_k».proof.Proof.Gen.ReferenceProjRtIdeal.Run
public import proofs.«01_k».proof.Proof.RowNorm
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelProjRtIdeal.Hand

open Cert.KernelProjRtIdeal Cert.KernelProjRtIdeal.Gen Cert.Layer
open Idealize.ShloMosaic Idealize.ShloMosaic.TcCoe Idealize.SL.Sem
open Idealize.ShloMosaic.Pipeline (Dat)

/-- One sub-tile's product at an index: the normalised row of the loaded rows, times a column of the weight. -/
theorem pay_at (v : Vec Ideal S256x1024 .f32) (w : Vec Ideal S1x1024 .f32) (W : Vec Ideal S1024x1536 .bf16) (j : S256x1536.Idx) :
    k0_pay2 v w W j = rowNormDot (fun k => v (ix2 (j 0) k)) (fun k => w (ix2 0 k)) (fun k => W (ix2 k (j 1))) := by
  unfold rowNormDot rowNorm
  pointwise [k0_pay2]

/-- What the body leaves in the output block at `y`, whichever of its four stores wrote it. -/
theorem out_at (X : Vec Ideal S1024x1024 .f32) (w : Vec Ideal S1x1024 .f32) (W : Vec Ideal S1024x1536 .bf16) (y : S1024x1536.Idx) :
    out0_3 X w W y = rowNormDot (fun k => X (ix2 (y 0) k)) (fun k => w (ix2 0 k)) (fun k => W (ix2 k (y 1))) := by
  canon_tiles x h
  all_goals
    refine (pay_at _ _ _ x).trans ?_
    congr 1 <;> (funext k; pointwise; blk_ext)

variable (m : (ℓ : Loc nD τ sig) → Buf (Elt Ideal) ℓ)

/-- Point `t` takes rows `1024 t …` of the input and of the result, and the whole of the two weights. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The staged weight, read at an index: the column of the layer's input matrix that it was assembled from. -/
theorem weight_at (c : Dev nD) (k : Fin 1024) (l : Fin 1536) :
    (V m c main_v26 : FVec Ideal S1024x1536 .bf16) (ix2 k l) = (m ((c : Thread nD τ).loc main_arg2) : FVec Ideal S1024x11408 .f32) (ix2 k ⟨2176 + l, by omega⟩) := by
  unfold V
  after_reads_at
  repeat' split
  all_goals (after_reads_at; blk_ext)

/-- The staged norm weight, read at an index. -/
theorem norm_at (c : Dev nD) (k : Fin 1024) :
    (V m c main_v30 : FVec Ideal S1x1024 .f32) (ix2 0 k) = (m ((c : Thread nD τ).loc main_arg1) : FVec Ideal S1024 .f32) (ix1 k) := by
  unfold V
  after_reads_at

/-- The projection of one row onto one column, from the three arguments. -/
def spec (X : FVec Ideal S32768x1024 .f32) (w : FVec Ideal S1024 .f32) (W : FVec Ideal S1024x11408 .f32) : FVec Ideal S32768x1536 .f32 :=
  fun i => rowNormDot (fun k => X (ix2 (i 0) k)) (fun k => w (ix1 k)) (fun k => W (ix2 k ⟨2176 + i 1, lt_of_lt_of_le (Nat.add_lt_add_left (i 1).isLt _) (by decide)⟩))

/-- The kernel's result array after its run. -/
theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (out_at _ _ _ y).trans ?_
  unfold spec
  congr 1
  · funext k
    blk_point [iblk, V_main_arg0, idx t]
  · funext k
    refine Eq.trans ?_ (norm_at m c k)
    blk_point [iblk, idx t]
  · funext k
    refine Eq.trans ?_ (weight_at m c k _)
    blk_point [iblk, idx t]

end Cert.KernelProjRtIdeal.Hand

namespace Cert.ReferenceProjRtIdeal.Hand

open Cert.ReferenceProjRtIdeal Cert.ReferenceProjRtIdeal.Gen Idealize.ShloMosaic Idealize.ShloMosaic.TcCoe Cert.Layer

/-- The reference's result, as the composed operations of its three arguments. -/
def term (X : FVec Ideal S32768x1024 .f32) (w : FVec Ideal S1024 .f32) (W : FVec Ideal S1024x11408 .f32) : FVec Ideal S32768x1536 .f32 :=
  Host.dotGeneral dot_S32768x1024_S1024x1536_S32768x1536_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 w))) (extractStridedSlice S1024x1536 ![0, 2176] W slices_S1024x11408_S1024x1536_0_2176)

/-- The reference's result is the projection, row by row and column by column. -/
theorem term_eq (X : FVec Ideal S32768x1024 .f32) (w : FVec Ideal S1024 .f32) (W : FVec Ideal S1024x11408 .f32) :
    term X w W = Cert.KernelProjRtIdeal.Hand.spec X w W := by
  funext i
  unfold Cert.KernelProjRtIdeal.Hand.spec rowNormDot rowNorm
  pointwise [term]

end Cert.ReferenceProjRtIdeal.Hand

namespace Cert.Proof
open Idealize.ShloMosaic Idealize.ShloMosaic.TcCoe Idealize.SL.Sem

/-- Over the reals the kernel's result and the reference's are one array. -/
theorem algebraic_ProjRt : Cert.algebraic_KernelProjRtIdeal_ReferenceProjRtIdeal := by
  pair_intro
  · run_from Cert.KernelProjRtIdeal.Value.run_blocks m g
  · run_from Cert.ReferenceProjRtIdeal.Value.run m' g'
    exact (Cert.ReferenceProjRtIdeal.Hand.term_eq _ _ _).trans (Cert.KernelProjRtIdeal.Hand.final m c).symm

end Cert.Proof
end
-- ==== Proof.ProjSd.lean ====
module

public import proofs.«01_k».proof.Defs
public import proofs.«01_k».proof.Proof.Gen.KernelProjSdIdeal.Value
public import proofs.«01_k».proof.Proof.Gen.ReferenceProjSdIdeal.Run
public import proofs.«01_k».proof.Proof.RowNorm
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelProjSdIdeal.Hand

open Cert.KernelProjSdIdeal Cert.KernelProjSdIdeal.Gen Cert.Layer
open Idealize.ShloMosaic Idealize.ShloMosaic.TcCoe Idealize.SL.Sem
open Idealize.ShloMosaic.Pipeline (Dat)

/-- One sub-tile's product at an index: the normalised row of the loaded rows, times a column of the weight. -/
theorem pay_at (v : Vec Ideal S256x1024 .f32) (w : Vec Ideal S1x1024 .f32) (W : Vec Ideal S1024x1664 .bf16) (j : S256x1664.Idx) :
    k0_pay2 v w W j = rowNormDot (fun k => v (ix2 (j 0) k)) (fun k => w (ix2 0 k)) (fun k => W (ix2 k (j 1))) := by
  unfold rowNormDot rowNorm
  pointwise [k0_pay2]

/-- What the body leaves in the output block at `y`, whichever of its four stores wrote it. -/
theorem out_at (X : Vec Ideal S1024x1024 .f32) (w : Vec Ideal S1x1024 .f32) (W : Vec Ideal S1024x1664 .bf16) (y : S1024x1664.Idx) :
    out0_3 X w W y = rowNormDot (fun k => X (ix2 (y 0) k)) (fun k => w (ix2 0 k)) (fun k => W (ix2 k (y 1))) := by
  canon_tiles x h
  all_goals
    refine (pay_at _ _ _ x).trans ?_
    congr 1 <;> (funext k; pointwise; blk_ext)

variable (m : (ℓ : Loc nD τ sig) → Buf (Elt Ideal) ℓ)

/-- Point `t` takes rows `1024 t …` of the input and of the result, and the whole of the two weights. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The staged weight, read at an index: the column of the layer's input matrix that it was assembled from. -/
theorem weight_at (c : Dev nD) (k : Fin 1024) (l : Fin 1664) :
    (V m c main_v27 : FVec Ideal S1024x1664 .bf16) (ix2 k l) = if h : (l : ℕ) < 1544 then (m ((c : Thread nD τ).loc main_arg2) : FVec Ideal S1024x11408 .f32) (ix2 k ⟨3712 + l, by omega⟩) else (0 : EReal) := by
  unfold V
  after_reads_at
  repeat' split
  all_goals after_reads_at
  all_goals repeat' split
  all_goals first | (exfalso; omega) | blk_ext | exact sitofp_zero

/-- The staged norm weight, read at an index. -/
theorem norm_at (c : Dev nD) (k : Fin 1024) :
    (V m c main_v30 : FVec Ideal S1x1024 .f32) (ix2 0 k) = (m ((c : Thread nD τ).loc main_arg1) : FVec Ideal S1024 .f32) (ix1 k) := by
  unfold V
  after_reads_at

/-- The projection of one row onto one column, from the three arguments. -/
def spec (X : FVec Ideal S32768x1024 .f32) (w : FVec Ideal S1024 .f32) (W : FVec Ideal S1024x11408 .f32) : FVec Ideal S32768x1664 .f32 :=
  fun i => rowNormDot (fun k => X (ix2 (i 0) k)) (fun k => w (ix1 k)) (fun k => if h : (i 1 : ℕ) < 1544 then W (ix2 k ⟨3712 + i 1, lt_of_lt_of_le (Nat.add_lt_add_left h _) (by decide)⟩) else (0 : EReal))

/-- The kernel's result array after its run. -/
theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (out_at _ _ _ y).trans ?_
  unfold spec
  congr 1
  · funext k
    blk_point [iblk, V_main_arg0, idx t]
  · funext k
    refine Eq.trans ?_ (norm_at m c k)
    blk_point [iblk, idx t]
  · funext k
    refine Eq.trans ?_ (weight_at m c k _)
    blk_point [iblk, idx t]

end Cert.KernelProjSdIdeal.Hand

namespace Cert.ReferenceProjSdIdeal.Hand

open Cert.ReferenceProjSdIdeal Cert.ReferenceProjSdIdeal.Gen Idealize.ShloMosaic Idealize.ShloMosaic.TcCoe Cert.Layer

/-- The reference's result, as the composed operations of its three arguments. -/
def term (X : FVec Ideal S32768x1024 .f32) (w : FVec Ideal S1024 .f32) (W : FVec Ideal S1024x11408 .f32) : FVec Ideal S32768x1664 .f32 :=
  pad S32768x1664 ![0, 0] ![0, 120] ![0, 0] (Host.dotGeneral dot_S32768x1024_S1024x1544_S32768x1544_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 w))) (extractStridedSlice S1024x1544 ![0, 3712] W slices_S1024x11408_S1024x1544_0_3712)) (sitofp .f32 (constantI S_ 32 0#32)) pads_S32768x1544_S32768x1664_000_01200 h_S_

/-- The reference's result is the projection, row by row and column by column. -/
theorem term_eq (X : FVec Ideal S32768x1024 .f32) (w : FVec Ideal S1024 .f32) (W : FVec Ideal S1024x11408 .f32) :
    term X w W = Cert.KernelProjSdIdeal.Hand.spec X w W := by
  funext i
  by_cases hi : (i 1 : ℕ) < 1544
  · simp only [Cert.KernelProjSdIdeal.Hand.spec, dif_pos hi, rowNormDot, rowNorm]
    pointwise [term]
    rw [dif_pos hi]
  · simp only [Cert.KernelProjSdIdeal.Hand.spec, dif_neg hi, rowNormDot_zero]
    pointwise [term]
    rw [dif_neg hi, sitofp_zero]

end Cert.ReferenceProjSdIdeal.Hand

namespace Cert.Proof
open Idealize.ShloMosaic Idealize.ShloMosaic.TcCoe Idealize.SL.Sem

/-- Over the reals the kernel's result and the reference's are one array. -/
theorem algebraic_ProjSd : Cert.algebraic_KernelProjSdIdeal_ReferenceProjSdIdeal := by
  pair_intro
  · run_from Cert.KernelProjSdIdeal.Value.run_blocks m g
  · run_from Cert.ReferenceProjSdIdeal.Value.run m' g'
    exact (Cert.ReferenceProjSdIdeal.Hand.term_eq _ _ _).trans (Cert.KernelProjSdIdeal.Hand.final m c).symm

end Cert.Proof
end
-- ==== Proof.ProjGd.lean ====
module

public import proofs.«01_k».proof.Defs
public import proofs.«01_k».proof.Proof.Gen.KernelProjGdIdeal.Value
public import proofs.«01_k».proof.Proof.Gen.ReferenceProjGdIdeal.Run
public import proofs.«01_k».proof.Proof.RowNorm
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelProjGdIdeal.Hand

open Cert.KernelProjGdIdeal Cert.KernelProjGdIdeal.Gen Cert.Layer
open Idealize.ShloMosaic Idealize.ShloMosaic.TcCoe Idealize.SL.Sem
open Idealize.ShloMosaic.Pipeline (Dat)

/-- One sub-tile's product at an index: the normalised row of the loaded rows, times a column of the weight. -/
theorem pay_at (v : Vec Ideal S256x1024 .f32) (w : Vec Ideal S1x1024 .f32) (W : Vec Ideal S1024x2176 .bf16) (j : S256x2176.Idx) :
    k0_pay2 v w W j = rowNormDot (fun k => v (ix2 (j 0) k)) (fun k => w (ix2 0 k)) (fun k => W (ix2 k (j 1))) := by
  unfold rowNormDot rowNorm
  pointwise [k0_pay2]

/-- What the body leaves in the output block at `y`, whichever of its four stores wrote it. -/
theorem out_at (X : Vec Ideal S1024x1024 .f32) (w : Vec Ideal S1x1024 .f32) (W : Vec Ideal S1024x2176 .bf16) (y : S1024x2176.Idx) :
    out0_3 X w W y = rowNormDot (fun k => X (ix2 (y 0) k)) (fun k => w (ix2 0 k)) (fun k => W (ix2 k (y 1))) := by
  canon_tiles x h
  all_goals
    refine (pay_at _ _ _ x).trans ?_
    congr 1 <;> (funext k; pointwise; blk_ext)

variable (m : (ℓ : Loc nD τ sig) → Buf (Elt Ideal) ℓ)

/-- Point `t` takes rows `1024 t …` of the input and of the result, and the whole of the two weights. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The staged weight, read at an index: the column of the layer's input matrix that it was assembled from. -/
theorem weight_at (c : Dev nD) (k : Fin 1024) (l : Fin 2176) :
    (V m c main_v28 : FVec Ideal S1024x2176 .bf16) (ix2 k l) = if h : (l : ℕ) < 2056 then (m ((c : Thread nD τ).loc main_arg2) : FVec Ideal S1024x11408 .f32) (ix2 k ⟨5256 + l, by omega⟩) else (0 : EReal) := by
  unfold V
  after_reads_at
  split
  · rw [dif_pos (by omega)]
    after_reads_at
    blk_ext
  · split
    · rw [dif_pos (by omega)]
      after_reads_at
      blk_ext
    · after_reads_at
      split
      · have hl : (l : ℕ) < 2056 := by omega
        simp only [hl, ↓reduceDIte]
        split <;> (after_reads_at; blk_ext)
      · have hl : ¬ (l : ℕ) < 2056 := by omega
        simp only [hl, ↓reduceDIte]
        exact sitofp_zero

/-- The staged norm weight, read at an index. -/
theorem norm_at (c : Dev nD) (k : Fin 1024) :
    (V m c main_v30 : FVec Ideal S1x1024 .f32) (ix2 0 k) = (m ((c : Thread nD τ).loc main_arg1) : FVec Ideal S1024 .f32) (ix1 k) := by
  unfold V
  after_reads_at

/-- The projection of one row onto one column, from the three arguments. -/
def spec (X : FVec Ideal S32768x1024 .f32) (w : FVec Ideal S1024 .f32) (W : FVec Ideal S1024x11408 .f32) : FVec Ideal S32768x2176 .f32 :=
  fun i => rowNormDot (fun k => X (ix2 (i 0) k)) (fun k => w (ix1 k)) (fun k => if h : (i 1 : ℕ) < 2056 then W (ix2 k ⟨5256 + i 1, lt_of_lt_of_le (Nat.add_lt_add_left h _) (by decide)⟩) else (0 : EReal))

/-- The kernel's result array after its run. -/
theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (out_at _ _ _ y).trans ?_
  unfold spec
  congr 1
  · funext k
    blk_point [iblk, V_main_arg0, idx t]
  · funext k
    refine Eq.trans ?_ (norm_at m c k)
    blk_point [iblk, idx t]
  · funext k
    refine Eq.trans ?_ (weight_at m c k _)
    blk_point [iblk, idx t]

end Cert.KernelProjGdIdeal.Hand

namespace Cert.ReferenceProjGdIdeal.Hand

open Cert.ReferenceProjGdIdeal Cert.ReferenceProjGdIdeal.Gen Idealize.ShloMosaic Idealize.ShloMosaic.TcCoe Cert.Layer

/-- The reference's result, as the composed operations of its three arguments. -/
def term (X : FVec Ideal S32768x1024 .f32) (w : FVec Ideal S1024 .f32) (W : FVec Ideal S1024x11408 .f32) : FVec Ideal S32768x2176 .f32 :=
  pad S32768x2176 ![0, 0] ![0, 120] ![0, 0] (Host.dotGeneral dot_S32768x1024_S1024x2056_S32768x2056_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 w))) (extractStridedSlice S1024x2056 ![0, 5256] W slices_S1024x11408_S1024x2056_0_5256)) (sitofp .f32 (constantI S_ 32 0#32)) pads_S32768x2056_S32768x2176_000_01200 h_S_

/-- The reference's result is the projection, row by row and column by column. -/
theorem term_eq (X : FVec Ideal S32768x1024 .f32) (w : FVec Ideal S1024 .f32) (W : FVec Ideal S1024x11408 .f32) :
    term X w W = Cert.KernelProjGdIdeal.Hand.spec X w W := by
  funext i
  by_cases hi : (i 1 : ℕ) < 2056
  · simp only [Cert.KernelProjGdIdeal.Hand.spec, dif_pos hi, rowNormDot, rowNorm]
    pointwise [term]
    rw [dif_pos hi]
  · simp only [Cert.KernelProjGdIdeal.Hand.spec, dif_neg hi, rowNormDot_zero]
    pointwise [term]
    rw [dif_neg hi, sitofp_zero]

end Cert.ReferenceProjGdIdeal.Hand

namespace Cert.Proof
open Idealize.ShloMosaic Idealize.ShloMosaic.TcCoe Idealize.SL.Sem

/-- Over the reals the kernel's result and the reference's are one array. -/
theorem algebraic_ProjGd : Cert.algebraic_KernelProjGdIdeal_ReferenceProjGdIdeal := by
  pair_intro
  · run_from Cert.KernelProjGdIdeal.Value.run_blocks m g
  · run_from Cert.ReferenceProjGdIdeal.Value.run m' g'
    exact (Cert.ReferenceProjGdIdeal.Hand.term_eq _ _ _).trans (Cert.KernelProjGdIdeal.Hand.final m c).symm

end Cert.Proof
end
-- ==== Proof.MergeRow.lean ====
module

public import proofs.«01_k».proof.Proof.RowNorm

@[expose] public section

noncomputable section

/-!
# One row of the merge

The merge adds to a row of the layer's input the four branches' rows, each projected and gated, and projected again.
-/

namespace Cert.Layer

open Idealize.ShloMosaic

/-- The logistic function, as both programs compute it. -/
def gate (z : EReal) : EReal := Ideal.div 1 (1 + Ideal.exp (-z))

/-- One branch at one column: the gate that the normalised row gives there, times the branch's projected row. -/
def branch (x w g : Fin 1024 → EReal) (u b : Fin 512 → EReal) : EReal := gate (rowNormDot x w g) * ∑ k, u k * b k

/-- Entry `j` of the merged row: the row itself plus the output projection of the four gated branches' sum. -/
def mergeRow (x w : Fin 1024 → EReal) (g₀ g₁ g₂ g₃ : Fin 1024 → Fin 1024 → EReal) (u₀ u₁ u₂ u₃ : Fin 512 → EReal)
    (b₀ b₁ b₂ b₃ : Fin 512 → Fin 1024 → EReal) (o : Fin 1024 → Fin 1024 → EReal) (j : Fin 1024) : EReal :=
  x j + ∑ l, (branch x w (fun k => g₀ k l) u₀ (fun k => b₀ k l) + branch x w (fun k => g₁ k l) u₁ (fun k => b₁ k l)
    + branch x w (fun k => g₂ k l) u₂ (fun k => b₂ k l) + branch x w (fun k => g₃ k l) u₃ (fun k => b₃ k l)) * o l j

/-- The merge of the whole arrays, at row `r` and column `j`: gate `n` reads columns `7312 + 1024 n …` of the layer's
    input matrix. -/
def merge (X : FVec Ideal ⟨2, ![32768, 1024]⟩ .f32) (w : FVec Ideal ⟨1, ![1024]⟩ .f32) (W : FVec Ideal ⟨2, ![1024, 11408]⟩ .f32)
    (ua ub uc ud : FVec Ideal ⟨2, ![32768, 512]⟩ .bf16) (B : FVec Ideal ⟨3, ![4, 512, 1024]⟩ .f32) (O : FVec Ideal ⟨2, ![1024, 1024]⟩ .f32)
    (r : Fin 32768) (j : Fin 1024) : EReal :=
  mergeRow (fun k => X (ix2 r k)) (fun k => w (ix1 k))
    (fun k l => W (ix2 k ⟨7312 + l, by omega⟩)) (fun k l => W (ix2 k ⟨7312 + (1024 + l), by omega⟩))
    (fun k l => W (ix2 k ⟨7312 + (2048 + l), by omega⟩)) (fun k l => W (ix2 k ⟨7312 + (3072 + l), by omega⟩))
    (fun k => ua (ix2 r k)) (fun k => ub (ix2 r k)) (fun k => uc (ix2 r k)) (fun k => ud (ix2 r k))
    (fun k l => B (ix3 0 k l)) (fun k l => B (ix3 1 k l)) (fun k l => B (ix3 2 k l)) (fun k l => B (ix3 3 k l))
    (fun l j => O (ix2 l j)) j

end Cert.Layer

end
-- ==== Proof.Merge.lean ====
module

public import proofs.«01_k».proof.Defs
public import proofs.«01_k».proof.Proof.Gen.KernelMergeIdeal.Value
public import proofs.«01_k».proof.Proof.Gen.ReferenceMergeIdeal.Run
public import proofs.«01_k».proof.Proof.MergeRow
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelMergeIdeal.Hand

open Cert.KernelMergeIdeal Cert.KernelMergeIdeal.Gen Cert.Layer
open Idealize.ShloMosaic Idealize.ShloMosaic.TcCoe Idealize.SL.Sem
open Idealize.ShloMosaic.Pipeline (Dat)

/-- One sub-tile's result at an index, from the blocks it loads. -/
theorem pay_at (x : Vec Ideal S256x1024 .f32) (w : Vec Ideal S1x1024 .f32) (G0 G1 G2 G3 : Vec Ideal S1024x1024 .bf16)
    (u0 u1 u2 u3 : Vec Ideal S256x512 .bf16) (B0 B1 B2 B3 : Vec Ideal S1x512x1024 .bf16) (O : Vec Ideal S1024x1024 .bf16) (j : S256x1024.Idx) :
    k0_pay7 x (k0_pay5 (k0_pay2 x w) (k0_pay3 x w G0 u0 B0) (k0_pay4 x w G1) u1 B1 G2 u2 B2) (k0_pay6 (k0_pay2 x w) G3) u3 B3 O j
      = mergeRow (fun k => x (ix2 (j 0) k)) (fun k => w (ix2 0 k)) (fun k l => G0 (ix2 k l)) (fun k l => G1 (ix2 k l))
          (fun k l => G2 (ix2 k l)) (fun k l => G3 (ix2 k l)) (fun k => u0 (ix2 (j 0) k)) (fun k => u1 (ix2 (j 0) k))
          (fun k => u2 (ix2 (j 0) k)) (fun k => u3 (ix2 (j 0) k)) (fun k l => B0 (ix3 0 k l)) (fun k l => B1 (ix3 0 k l))
          (fun k l => B2 (ix3 0 k l)) (fun k l => B3 (ix3 0 k l)) (fun l j => O (ix2 l j)) (j 1) := by
  simp only [mergeRow, branch, gate, rowNormDot, rowNorm]
  pointwise [k0_pay7, k0_pay5, k0_pay2, k0_pay3, k0_pay4, k0_pay6]
  simp only [zero_sub]
  blk_ext

/-- The second sub-tile's payload is the first's, cut elsewhere. -/
theorem pay_same (x : Vec Ideal S256x1024 .f32) (w : Vec Ideal S1x1024 .f32) (G0 G1 G2 G3 : Vec Ideal S1024x1024 .bf16)
    (u0 u1 u2 u3 : Vec Ideal S256x512 .bf16) (B0 B1 B2 B3 : Vec Ideal S1x512x1024 .bf16) (O : Vec Ideal S1024x1024 .bf16) :
    k0_pay1 x (k0_pay8 x w) (k0_pay10 (k0_pay8 x w) (k0_pay9 x w G0) u0 B0 G1 u1 B1) (k0_pay11 (k0_pay8 x w) G2) k0_pay12 u2 B2 G3 u3 B3 O
      = k0_pay7 x (k0_pay5 (k0_pay2 x w) (k0_pay3 x w G0 u0 B0) (k0_pay4 x w G1) u1 B1 G2 u2 B2) (k0_pay6 (k0_pay2 x w) G3) u3 B3 O := rfl

/-- What the body leaves in the output block at `y`, whichever of its two stores wrote it. -/
theorem out_at (X : Vec Ideal S512x1024 .f32) (w : Vec Ideal S1x1024 .f32) (G : Vec Ideal S1024x4096 .bf16)
    (u0 u1 u2 u3 : Vec Ideal S512x512 .bf16) (B : Vec Ideal S4x512x1024 .bf16) (O : Vec Ideal S1024x1024 .bf16) (f : Vec Ideal S1x1024 .f32)
    (y : S512x1024.Idx) :
    out0_10 X w G u0 u1 u2 u3 B O f y
      = mergeRow (fun k => X (ix2 (y 0) k)) (fun k => w (ix2 0 k))
          (fun k l => G (ix2 k ⟨l, by omega⟩)) (fun k l => G (ix2 k ⟨1024 + l, by omega⟩))
          (fun k l => G (ix2 k ⟨2048 + l, by omega⟩)) (fun k l => G (ix2 k ⟨3072 + l, by omega⟩))
          (fun k => u0 (ix2 (y 0) k)) (fun k => u1 (ix2 (y 0) k)) (fun k => u2 (ix2 (y 0) k)) (fun k => u3 (ix2 (y 0) k))
          (fun k l => B (ix3 0 k l)) (fun k l => B (ix3 1 k l)) (fun k l => B (ix3 2 k l)) (fun k l => B (ix3 3 k l))
          (fun l j => O (ix2 l j)) (y 1) := by
  canon_tiles x h
  · rw [k0_pay14, pay_same, pay_at]
    congr 1
    case e_j => exact Fin.ext (by omega)
    all_goals first | (funext k l; pointwise; blk_ext) | (funext k; pointwise; blk_ext)
  · rw [k0_pay13, pay_at]
    congr 1
    case e_j => exact Fin.ext (by omega)
    all_goals first | (funext k l; pointwise; blk_ext) | (funext k; pointwise; blk_ext)

variable (m : (ℓ : Loc nD τ sig) → Buf (Elt Ideal) ℓ)

/-- Point `t` takes rows `512 t …` of the input, of the four branches and of the result, and the whole of the weights. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0, 0] ∧ win0_8.index t = ![0, 0] ∧ win0_9.index t = ![0, 0] ∧ win0_10.index t = ![t.val, 0] :=
  (by decide +kernel : ∀ t : Fin grid0.N, _)

/-- The staged gate weight, read at an index: the last 4096 columns of the layer's input matrix. -/
theorem gates_at (c : Dev nD) (k : Fin 1024) (l : Fin 4096) :
    (V m c main_v29 : FVec Ideal S1024x4096 .bf16) (ix2 k l) = (m ((c : Thread nD τ).loc main_arg2) : FVec Ideal S1024x11408 .f32) (ix2 k ⟨7312 + l, by omega⟩) := by
  unfold V
  after_reads_at

/-- The staged norm weight, read at an index. -/
theorem norm_at (c : Dev nD) (k : Fin 1024) :
    (V m c main_v30 : FVec Ideal S1x1024 .f32) (ix2 0 k) = (m ((c : Thread nD τ).loc main_arg1) : FVec Ideal S1024 .f32) (ix1 k) := by
  unfold V
  after_reads_at

/-- The staged branch projections, read at an index. -/
theorem branch_at (c : Dev nD) (n : Fin 4) (k : Fin 512) (l : Fin 1024) :
    (V m c main_v31 : FVec Ideal S4x512x1024 .bf16) (ix3 n k l) = (m ((c : Thread nD τ).loc main_arg7) : FVec Ideal S4x512x1024 .f32) (ix3 n k l) := by
  unfold V
  after_reads_at

/-- The staged output projection, read at an index. -/
theorem proj_at (c : Dev nD) (k l : Fin 1024) :
    (V m c main_v32 : FVec Ideal S1024x1024 .bf16) (ix2 k l) = (m ((c : Thread nD τ).loc main_arg8) : FVec Ideal S1024x1024 .f32) (ix2 k l) := by
  unfold V
  after_reads_at

/-- The kernel's result array after its run: the merge of its arguments. -/
theorem final (c : Dev nD) : (dats m 0 c).arrAt 10 cfg0.N
    = fun i : S32768x1024.Idx => merge (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (i 0) (i 1) := by
  refine (dats m 0 c).arrAt_eq_of_covers 10 _ (by decide +kernel) fun t _ y => ?_
  blk_simp
  rw [after0_10]
  refine (out_at _ _ _ _ _ _ _ _ _ _ y).trans ?_
  unfold merge
  congr 1
  case e_x => funext k; blk_point [iblk, V_main_arg0, idx t]
  case e_w => funext k; refine Eq.trans ?_ (norm_at m c k); blk_point [iblk, idx t]
  case e_g₀ => funext k l; refine Eq.trans ?_ (gates_at m c k ⟨l, by omega⟩); blk_point [iblk, idx t]
  case e_g₁ => funext k l; refine Eq.trans ?_ (gates_at m c k ⟨1024 + l, by omega⟩); blk_point [iblk, idx t]
  case e_g₂ => funext k l; refine Eq.trans ?_ (gates_at m c k ⟨2048 + l, by omega⟩); blk_point [iblk, idx t]
  case e_g₃ => funext k l; refine Eq.trans ?_ (gates_at m c k ⟨3072 + l, by omega⟩); blk_point [iblk, idx t]
  case e_u₀ => funext k; blk_point [iblk, V_main_arg3, idx t]
  case e_u₁ => funext k; blk_point [iblk, V_main_arg4, idx t]
  case e_u₂ => funext k; blk_point [iblk, V_main_arg5, idx t]
  case e_u₃ => funext k; blk_point [iblk, V_main_arg6, idx t]
  case e_o => funext k l; refine Eq.trans ?_ (proj_at m c k l); blk_point [iblk, idx t]
  case e_j => refine Fin.ext ?_; blk_simp [idx t]
  all_goals funext k l; refine Eq.trans ?_ (branch_at m c _ k l); blk_point [iblk, idx t]

end Cert.KernelMergeIdeal.Hand

namespace Cert.ReferenceMergeIdeal.Hand

open Cert.ReferenceMergeIdeal Cert.ReferenceMergeIdeal.Gen Idealize.ShloMosaic Idealize.ShloMosaic.TcCoe Cert.Layer

/-- The reference's result at an index is the merge of its arguments. -/
theorem result_at (m : (ℓ : Loc nD τ sig) → Buf (Elt Ideal) ℓ) (c : Dev nD) (i : S32768x1024.Idx) :
    (Value.res_main_v54 m c : FVec Ideal S32768x1024 .f32) i
      = merge (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (i 0) (i 1) := by
  simp only [merge, mergeRow, branch, gate, rowNormDot, rowNorm]
  pointwise [Value.res_main_v54]
  blk_ext

end Cert.ReferenceMergeIdeal.Hand

namespace Cert.Proof
open Idealize.ShloMosaic Idealize.ShloMosaic.TcCoe Idealize.SL.Sem

/-- Over the reals the merge kernel's result and the reference's are one array. -/
theorem algebraic_Merge : Cert.algebraic_KernelMergeIdeal_ReferenceMergeIdeal := by
  pair_intro
  · run_from Cert.KernelMergeIdeal.Value.run_blocks m g
  · run_from Cert.ReferenceMergeIdeal.Value.run m' g'
    refine Eq.trans ?_ (Cert.KernelMergeIdeal.Hand.final m c).symm
    funext i
    refine (Cert.ReferenceMergeIdeal.Hand.result_at m' c i).trans ?_
    obtain ⟨h0, h1, h2, h3, h4, h5, h6, h7, h8, -⟩ := hagree c
    rw [h0, h1, h2, h3, h4, h5, h6, h7, h8]

end Cert.Proof

end
-- ==== Proof.MergeLast.lean ====
module

public import proofs.«01_k».proof.Defs
public import proofs.«01_k».proof.Proof.Gen.KernelMergeLastIdeal.Value
public import proofs.«01_k».proof.Proof.Gen.ReferenceMergeLastIdeal.Run
public import proofs.«01_k».proof.Proof.MergeRow
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelMergeLastIdeal.Hand

open Cert.KernelMergeLastIdeal Cert.KernelMergeLastIdeal.Gen Cert.Layer
open Idealize.ShloMosaic Idealize.ShloMosaic.TcCoe Idealize.SL.Sem
open Idealize.ShloMosaic.Pipeline (Dat)

/-- One sub-tile's result at an index, from the blocks it loads. -/
theorem pay_at (x : Vec Ideal S256x1024 .f32) (w : Vec Ideal S1x1024 .f32) (G0 G1 G2 G3 : Vec Ideal S1024x1024 .bf16)
    (u0 u1 u2 u3 : Vec Ideal S256x512 .bf16) (B0 B1 B2 B3 : Vec Ideal S1x512x1024 .bf16) (O : Vec Ideal S1024x1024 .bf16) (f : Vec Ideal S1x1024 .f32) (j : S256x1024.Idx) :
    k0_pay7 x (k0_pay5 (k0_pay2 x w) (k0_pay3 x w G0 u0 B0) (k0_pay4 x w G1) u1 B1 G2 u2 B2) (k0_pay6 (k0_pay2 x w) G3) u3 B3 O f j
      = rowNorm (mergeRow (fun k => x (ix2 (j 0) k)) (fun k => w (ix2 0 k)) (fun k l => G0 (ix2 k l)) (fun k l => G1 (ix2 k l))
          (fun k l => G2 (ix2 k l)) (fun k l => G3 (ix2 k l)) (fun k => u0 (ix2 (j 0) k)) (fun k => u1 (ix2 (j 0) k))
          (fun k => u2 (ix2 (j 0) k)) (fun k => u3 (ix2 (j 0) k)) (fun k l => B0 (ix3 0 k l)) (fun k l => B1 (ix3 0 k l))
          (fun k l => B2 (ix3 0 k l)) (fun k l => B3 (ix3 0 k l)) (fun l j => O (ix2 l j))) (fun k => f (ix2 0 k)) (j 1) := by
  simp only [mergeRow, branch, gate, rowNormDot, rowNorm]
  pointwise [k0_pay7, k0_pay5, k0_pay2, k0_pay3, k0_pay4, k0_pay6]
  simp only [zero_sub]
  blk_ext

/-- The second sub-tile's payload is the first's, cut elsewhere. -/
theorem pay_same (x : Vec Ideal S256x1024 .f32) (w : Vec Ideal S1x1024 .f32) (G0 G1 G2 G3 : Vec Ideal S1024x1024 .bf16)
    (u0 u1 u2 u3 : Vec Ideal S256x512 .bf16) (B0 B1 B2 B3 : Vec Ideal S1x512x1024 .bf16) (O : Vec Ideal S1024x1024 .bf16) (f : Vec Ideal S1x1024 .f32) :
    k0_pay1 x (k0_pay13 (k0_pay9 x (k0_pay8 x) w) (k0_pay10 x (k0_pay8 x) w G0 u0 B0) (k0_pay11 x (k0_pay8 x) w G1) u1 (k0_pay12 B1)
        G2 u2 B2 G3 u3 B3) O f
      = k0_pay7 x (k0_pay5 (k0_pay2 x w) (k0_pay3 x w G0 u0 B0) (k0_pay4 x w G1) u1 B1 G2 u2 B2) (k0_pay6 (k0_pay2 x w) G3) u3 B3 O f := rfl

/-- What the body leaves in the output block at `y`, whichever of its two stores wrote it. -/
theorem out_at (X : Vec Ideal S512x1024 .f32) (w : Vec Ideal S1x1024 .f32) (G : Vec Ideal S1024x4096 .bf16)
    (u0 u1 u2 u3 : Vec Ideal S512x512 .bf16) (B : Vec Ideal S4x512x1024 .bf16) (O : Vec Ideal S1024x1024 .bf16) (f : Vec Ideal S1x1024 .f32)
    (y : S512x1024.Idx) :
    out0_10 X w G u0 u1 u2 u3 B O f y
      = rowNorm (mergeRow (fun k => X (ix2 (y 0) k)) (fun k => w (ix2 0 k))
          (fun k l => G (ix2 k ⟨l, by omega⟩)) (fun k l => G (ix2 k ⟨1024 + l, by omega⟩))
          (fun k l => G (ix2 k ⟨2048 + l, by omega⟩)) (fun k l => G (ix2 k ⟨3072 + l, by omega⟩))
          (fun k => u0 (ix2 (y 0) k)) (fun k => u1 (ix2 (y 0) k)) (fun k => u2 (ix2 (y 0) k)) (fun k => u3 (ix2 (y 0) k))
          (fun k l => B (ix3 0 k l)) (fun k l => B (ix3 1 k l)) (fun k l => B (ix3 2 k l)) (fun k l => B (ix3 3 k l))
          (fun l j => O (ix2 l j))) (fun k => f (ix2 0 k)) (y 1) := by
  canon_tiles x h
  · rw [k0_pay15, pay_same, pay_at]
    congr 1
    case e_k => exact Fin.ext (by omega)
    · funext q
      congr 1
      all_goals first | (funext k l; pointwise; blk_ext) | (funext k; pointwise; blk_ext)
    · funext k
      pointwise
      blk_ext
  · rw [k0_pay14, pay_at]
    congr 1
    case e_k => exact Fin.ext (by omega)
    · funext q
      congr 1
      all_goals first | (funext k l; pointwise; blk_ext) | (funext k; pointwise; blk_ext)
    · funext k
      pointwise
      blk_ext

variable (m : (ℓ : Loc nD τ sig) → Buf (Elt Ideal) ℓ)

/-- Point `t` takes rows `512 t …` of the input, of the four branches and of the result, and the whole of the weights. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0, 0] ∧ win0_8.index t = ![0, 0] ∧ win0_9.index t = ![0, 0] ∧ win0_10.index t = ![t.val, 0] :=
  (by decide +kernel : ∀ t : Fin grid0.N, _)

/-- The staged gate weight, read at an index: the last 4096 columns of the layer's input matrix. -/
theorem gates_at (c : Dev nD) (k : Fin 1024) (l : Fin 4096) :
    (V m c main_v29 : FVec Ideal S1024x4096 .bf16) (ix2 k l) = (m ((c : Thread nD τ).loc main_arg2) : FVec Ideal S1024x11408 .f32) (ix2 k ⟨7312 + l, by omega⟩) := by
  unfold V
  after_reads_at

/-- The staged norm weight, read at an index. -/
theorem norm_at (c : Dev nD) (k : Fin 1024) :
    (V m c main_v30 : FVec Ideal S1x1024 .f32) (ix2 0 k) = (m ((c : Thread nD τ).loc main_arg1) : FVec Ideal S1024 .f32) (ix1 k) := by
  unfold V
  after_reads_at

/-- The staged branch projections, read at an index. -/
theorem branch_at (c : Dev nD) (n : Fin 4) (k : Fin 512) (l : Fin 1024) :
    (V m c main_v31 : FVec Ideal S4x512x1024 .bf16) (ix3 n k l) = (m ((c : Thread nD τ).loc main_arg7) : FVec Ideal S4x512x1024 .f32) (ix3 n k l) := by
  unfold V
  after_reads_at

/-- The staged output projection, read at an index. -/
theorem proj_at (c : Dev nD) (k l : Fin 1024) :
    (V m c main_v32 : FVec Ideal S1024x1024 .bf16) (ix2 k l) = (m ((c : Thread nD τ).loc main_arg8) : FVec Ideal S1024x1024 .f32) (ix2 k l) := by
  unfold V
  after_reads_at

/-- The staged weight of the last normalisation, read at an index. -/
theorem last_norm_at (c : Dev nD) (k : Fin 1024) :
    (V m c main_v33 : FVec Ideal S1x1024 .f32) (ix2 0 k) = (m ((c : Thread nD τ).loc main_arg9) : FVec Ideal S1024 .f32) (ix1 k) := by
  unfold V
  after_reads_at

/-- The kernel's result array after its run: the merge of its arguments, every row normalised. -/
theorem final (c : Dev nD) : (dats m 0 c).arrAt 10 cfg0.N
    = fun i : S32768x1024.Idx => rowNorm (merge (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (i 0))
        (fun k => (m ((c : Thread nD τ).loc main_arg9) : FVec Ideal S1024 .f32) (ix1 k)) (i 1) := by
  refine (dats m 0 c).arrAt_eq_of_covers 10 _ (by decide +kernel) fun t _ y => ?_
  blk_simp
  rw [after0_10]
  refine (out_at _ _ _ _ _ _ _ _ _ _ y).trans ?_
  congr 1
  case e_k => refine Fin.ext ?_; blk_simp [idx t]
  case e_w => funext k; refine Eq.trans ?_ (last_norm_at m c k); blk_point [iblk, idx t]
  funext q
  unfold merge
  congr 1
  case e_x => funext k; blk_point [iblk, V_main_arg0, idx t]
  case e_w => funext k; refine Eq.trans ?_ (norm_at m c k); blk_point [iblk, idx t]
  case e_g₀ => funext k l; refine Eq.trans ?_ (gates_at m c k ⟨l, by omega⟩); blk_point [iblk, idx t]
  case e_g₁ => funext k l; refine Eq.trans ?_ (gates_at m c k ⟨1024 + l, by omega⟩); blk_point [iblk, idx t]
  case e_g₂ => funext k l; refine Eq.trans ?_ (gates_at m c k ⟨2048 + l, by omega⟩); blk_point [iblk, idx t]
  case e_g₃ => funext k l; refine Eq.trans ?_ (gates_at m c k ⟨3072 + l, by omega⟩); blk_point [iblk, idx t]
  case e_u₀ => funext k; blk_point [iblk, V_main_arg3, idx t]
  case e_u₁ => funext k; blk_point [iblk, V_main_arg4, idx t]
  case e_u₂ => funext k; blk_point [iblk, V_main_arg5, idx t]
  case e_u₃ => funext k; blk_point [iblk, V_main_arg6, idx t]
  case e_o => funext k l; refine Eq.trans ?_ (proj_at m c k l); blk_point [iblk, idx t]
  all_goals funext k l; refine Eq.trans ?_ (branch_at m c _ k l); blk_point [iblk, idx t]

end Cert.KernelMergeLastIdeal.Hand

namespace Cert.ReferenceMergeLastIdeal.Hand

open Cert.ReferenceMergeLastIdeal Cert.ReferenceMergeLastIdeal.Gen Idealize.ShloMosaic Idealize.ShloMosaic.TcCoe Cert.Layer

/-- The reference's result at an index is the merge of its arguments, every row normalised. -/
theorem result_at (m : (ℓ : Loc nD τ sig) → Buf (Elt Ideal) ℓ) (c : Dev nD) (i : S32768x1024.Idx) :
    (Value.res_main_v67 m c : FVec Ideal S32768x1024 .f32) i
      = rowNorm (merge (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (i 0))
        (fun k => (m ((c.tc : Thread nD τ).loc main_arg9) : FVec Ideal S1024 .f32) (ix1 k)) (i 1) := by
  simp only [rowNorm, merge, mergeRow, branch, gate, rowNormDot]
  pointwise [Value.res_main_v67]
  blk_ext

end Cert.ReferenceMergeLastIdeal.Hand

namespace Cert.Proof
open Idealize.ShloMosaic Idealize.ShloMosaic.TcCoe Idealize.SL.Sem

/-- Over the reals the last layer's merge kernel's result and the reference's are one array. -/
theorem algebraic_MergeLast : Cert.algebraic_KernelMergeLastIdeal_ReferenceMergeLastIdeal := by
  pair_intro
  · run_from Cert.KernelMergeLastIdeal.Value.run_blocks m g
  · run_from Cert.ReferenceMergeLastIdeal.Value.run m' g'
    refine Eq.trans ?_ (Cert.KernelMergeLastIdeal.Hand.final m c).symm
    funext i
    refine (Cert.ReferenceMergeLastIdeal.Hand.result_at m' c i).trans ?_
    obtain ⟨h0, h1, h2, h3, h4, h5, h6, h7, h8, h9⟩ := hagree c
    rw [h0, h1, h2, h3, h4, h5, h6, h7, h8, h9]

end Cert.Proof

end
-- ==== Proof.RetRun.lean ====
/- The retention's reference program: what its host loop leaves alone, and its frame. -/
module

public import proofs.«01_k».proof.Defs
public import proofs.«01_k».proof.Proof.Gen.ReferenceIdeal.Run
public import Idealize.ShloMosaic.Lib.Pointwise
public import Idealize.ShloMosaic.Lib.Claim
public import Idealize.ShloMosaic.Lib.StableHlo.ReadAt
public import Idealize.ShloMosaic.Lib.Quiescent

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Idealize.ShloMosaic.StableHlo

variable (m : (ℓ : Loc nD τ sig) → Buf (Elt Ideal) ℓ)

/-- Every reference that one trip of the loop writes. -/
abbrev loopWrites : List (Ref sig .tc) :=
  condOps_W ++ while0Ops0_W ++ while0Ops0_1_W ++ while0Ops0_2_W ++ while0Ops0_3_W ++ while0Ops0_4_W

/-- A buffer that the loop does not write holds, before every trip, what it held at the loop's entry. -/
theorem loop_keep (c : Dev nD) (r : Ref sig .tc) (h : r ∉ loopWrites) :
    ∀ k, atK m k c (Proc.devRef .tc r) = entryContents preI m c (Proc.devRef .tc r)
  | 0 => rfl
  | k + 1 => by
    have hh : r ∉ condOps_W ∧ r ∉ while0Ops0_W ∧ r ∉ while0Ops0_1_W ∧ r ∉ while0Ops0_2_W ∧ r ∉ while0Ops0_3_W ∧ r ∉ while0Ops0_4_W := by
      simpa only [loopWrites, List.mem_append, not_or, and_assoc] using h
    obtain ⟨h0, h1, h2, h3, h4, h5⟩ := hh
    rw [show atK m (k + 1) c = afterL bodyI (after condOps (atK m k c)) from rfl]
    simp only [afterL_cons, afterL_nil]
    rw [after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0]
    exact loop_keep c r h k

/-- The reference each operation of stretch 11 writes, in order. -/
abbrev post11_W : List (Ref sig .tc) := [main_v120, main_v121, main_v122, main_v123, main_v124, main_v125, main_v126, main_v127, main_v128, main_cst_15, main_v129, main_v130, main_cst_16, main_v131, main_v132, main_cst_17, main_v133, main_v134, main_v135, main_v136, main_v137, main_v138, main_v139, main_v140, main_v141]
theorem post11_writes : (hostOps0_11 : List (HloOp τ sig (Elt Ideal))).Forall fun op => op.writes ⊆ (post11_W.map (Proc.devRef (τ := τ) .tc)).toFinset :=
  forall_writes_sub_of_map rfl

/-- The reference each operation of stretch 12 writes, in order. -/
abbrev post12_W : List (Ref sig .tc) := [main_call8_v0, main_call8_v1, main_call8_cst, main_call8_v2, main_call8_v3, main_call8_cst_0, main_call8_v4, main_call8_v5, main_v142]
theorem post12_writes : (hostOps0_12 : List (HloOp τ sig (Elt Ideal))).Forall fun op => op.writes ⊆ (post12_W.map (Proc.devRef (τ := τ) .tc)).toFinset :=
  forall_writes_sub_of_map rfl

/-- The reference each operation of stretch 13 writes, in order. -/
abbrev post13_W : List (Ref sig .tc) := [main_v143, main_v144]
theorem post13_writes : (hostOps0_13 : List (HloOp τ sig (Elt Ideal))).Forall fun op => op.writes ⊆ (post13_W.map (Proc.devRef (τ := τ) .tc)).toFinset :=
  forall_writes_sub_of_map rfl

/-- Every reference that the stretches after the loop write. -/
abbrev postWrites : List (Ref sig .tc) := post11_W ++ post12_W ++ post13_W

/-- Every reference that the stretches before the loop write. -/
abbrev preWrites : List (Ref sig .tc) :=
  hostOps0_W ++ hostOps0_1_W ++ hostOps0_2_W ++ hostOps0_3_W ++ hostOps0_4_W ++ hostOps0_5_W ++ hostOps0_6_W ++ hostOps0_7_W
    ++ hostOps0_8_W ++ hostOps0_9_W ++ hostOps0_10_W

/-- A buffer that no stretch before the loop writes is at the loop's entry what it was at launch. -/
theorem entry_keep (c : Dev nD) (r : Ref sig .tc) (h : r ∉ preWrites) :
    entryContents preI m c (Proc.devRef .tc r) = launchContents m c (Proc.devRef .tc r) := by
  have hh := h
  simp only [preWrites, List.mem_append, not_or, and_assoc] at hh
  obtain ⟨h0, h1, h2, h3, h4, h5, h6, h7, h8, h9, h10⟩ := hh
  simp only [entryContents, afterL_cons, afterL_nil]
  rw [after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer that the whole program never writes ends as it was at launch. -/
theorem final_keep (c : Dev nD) (r : Ref sig .tc) (hpre : r ∉ preWrites) (hloop : r ∉ loopWrites) (hpost : r ∉ postWrites) :
    finalContents condOps preI bodyI postI 64 m c (Proc.devRef .tc r) = launchContents m c (Proc.devRef .tc r) := by
  have hc : r ∉ condOps_W := fun hm => hloop (by simp only [loopWrites, List.mem_append]; tauto)
  have hh := hpost
  simp only [postWrites, List.mem_append, not_or, and_assoc] at hh
  obtain ⟨h11, h12, h13⟩ := hh
  simp only [finalContents, afterL_cons, afterL_nil]
  rw [after_of_writes_sub hostOps0_13 _ post13_writes h13, after_of_writes_sub hostOps0_12 _ post12_writes h12,
    after_of_writes_sub hostOps0_11 _ post11_writes h11, after_of_writes_sub condOps _ condOps_writes hc]
  exact (loop_keep m c r hloop 64).trans (entry_keep m c r hpre)

end Cert.ReferenceIdeal.Hand

namespace Cert.Proof
open Idealize.ShloMosaic Idealize.ShloMosaic.TcCoe Idealize.SL.Sem Cert.ReferenceIdeal

/-- The reference program ends on every run, with its arguments unchanged and every counter at zero. -/
theorem frame_ReferenceIdeal : Cert.quiescent_ReferenceIdeal := by
  intro m g _
  run_from Cert.ReferenceIdeal.Value.run_fold m g
  · exact fun c => ⟨Cert.ReferenceIdeal.Hand.final_keep m c main_arg0 (by decide) (by decide) (by decide),
      Cert.ReferenceIdeal.Hand.final_keep m c main_arg1 (by decide) (by decide) (by decide)⟩
  · exact sem_eq_zero_of_no_sems rfl _

end Cert.Proof
end
-- ==== Proof.RetOps.lean ====
/- The retention kernel's body, stated once per head group and chunk: what its unrolled text computes, as functions. -/
module

public import proofs.«01_k».proof.Defs
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable {F : FTy → Type} [FloatOps F]

/-! ## Cutting and stacking -/

/-- Chunk `c` of head group `g` lies inside a tile of queries or keys. -/
theorem slicesQ : ∀ (g : Fin 2) (c : Fin 8), S512x256.Slices ![64 * c.val, 128 * g.val] S64x128 := by decide

/-- Chunk `c` of head group `g` lies inside a tile of values. -/
theorem slicesV : ∀ (g : Fin 2) (c : Fin 8), S512x512.Slices ![64 * c.val, 256 * g.val] S64x256 := by decide

/-- Chunk `c` of head group `g` of a tile of queries or keys: 64 rows, 128 lanes. -/
def cutQ {e : FTy} (g : Fin 2) (c : Fin 8) (T : FVec F S512x256 e) : FVec F S64x128 e :=
  extractStridedSlice S64x128 ![64 * c.val, 128 * g.val] T (slicesQ g c)

/-- Chunk `c` of head group `g` of a tile of values: 64 rows, 256 lanes. -/
def cutV {e : FTy} (g : Fin 2) (c : Fin 8) (T : FVec F S512x512 e) : FVec F S64x256 e :=
  extractStridedSlice S64x256 ![64 * c.val, 256 * g.val] T (slicesV g c)

/-- The four copies of a block of 64 rows, copy `h` masked to head `h`'s 32 lanes, stacked. -/
def stackQ (b : FVec F S64x128 .bf16) : FVec F S256x128 .bf16 :=
  concatenate S256x128 0
    [⟨S64x128, mulf b (broadcastTo S64x128 k0_pay12 broadcasts_S1x128_S64x128)⟩,
     ⟨S64x128, mulf b (broadcastTo S64x128 k0_pay13 broadcasts_S1x128_S64x128)⟩,
     ⟨S64x128, mulf b (broadcastTo S64x128 k0_pay14 broadcasts_S1x128_S64x128)⟩,
     ⟨S64x128, mulf b (broadcastTo S64x128 k0_pay15 broadcasts_S1x128_S64x128)⟩]
    concatenates_S64x128_S64x128_S64x128_S64x128_S256x128_d0

/-- The four copies of a block of 64 rows, copy `h` masked to head `h`'s 64 lanes, stacked. -/
def stackV (b : FVec F S64x256 .bf16) : FVec F S256x256 .bf16 :=
  concatenate S256x256 0
    [⟨S64x256, mulf b (broadcastTo S64x256 (k0_pay18 k0_pay16 k0_pay17) broadcasts_S1x256_S64x256)⟩,
     ⟨S64x256, mulf b (broadcastTo S64x256 k0_pay19 broadcasts_S1x256_S64x256)⟩,
     ⟨S64x256, mulf b (broadcastTo S64x256 k0_pay20 broadcasts_S1x256_S64x256)⟩,
     ⟨S64x256, mulf b (broadcastTo S64x256 k0_pay21 broadcasts_S1x256_S64x256)⟩]
    concatenates_S64x256_S64x256_S64x256_S64x256_S256x256_d0

/-- The four stacked blocks of 64 rows, added up. -/
def unstack (y : FVec F S256x256 .f32) : FVec F S64x256 .f32 :=
  addf (addf (addf (extractStridedSlice S64x256 ![0, 0] y slices_S256x256_o0_0_S64x256)
    (extractStridedSlice S64x256 ![64, 0] y slices_S256x256_o64_0_S64x256))
    (extractStridedSlice S64x256 ![128, 0] y slices_S256x256_o128_0_S64x256))
    (extractStridedSlice S64x256 ![192, 0] y slices_S256x256_o192_0_S64x256)

/-! ## One chunk of one head group -/

/-- The chunk's part of the state: keys (scaled by their decay to the chunk's end) times values. -/
def updOf (k : FVec F S64x128 .f32) (kt : FVec F S64x128 .f32) (v : FVec F S64x256 .bf16) : FVec F S128x256 .f32 :=
  matmul dot_S256x128_S256x256_S128x256_0_0_1_1_n_n none (stackQ (truncf .bf16 (mulf k kt) bitsLt_bf16_f32)) (stackV v)
    (constant S128x256 .f32 0x00000000#32)

/-- The scores inside the chunk, decayed, times the values. -/
def yinOf (q k : FVec F S64x128 .bf16) (D : FVec F S256x256 .f32) (v : FVec F S64x256 .bf16) : FVec F S256x256 .f32 :=
  matmul dot_S256x256_S256x256_S256x256_1_0_0_1_n_n none
    (truncf .bf16 (mulf (matmul dot_S256x128_S256x128_S256x256_1_1_0_0_n_n none (stackQ q) (stackQ k)
      (constant S256x256 .f32 0x00000000#32)) D) bitsLt_bf16_f32)
    (stackV v) (constant S256x256 .f32 0x00000000#32)

/-- What the chunk reads of the state: the queries (scaled by their decay from the chunk's start) times the state. -/
def yprevOf (q : FVec F S64x128 .f32) (qd : FVec F S64x128 .f32) (s : FVec F S128x256 .f32) : FVec F S256x256 .f32 :=
  matmul dot_S256x128_S128x256_S256x256_1_0_0_1_n_n none (stackQ (truncf .bf16 (mulf q qd) bitsLt_bf16_f32))
    (truncf .bf16 s bitsLt_bf16_f32) (constant S256x256 .f32 0x00000000#32)

/-! ## A whole tile -/

/-- Row block `g` of two lies inside the tables of two blocks. -/
theorem inbD : ∀ (g : Fin 2) a, (![g.val, 0, 0] : Fin 3 → ℕ) a + S1x256x256.size a ≤ S2x256x256.size a := by decide
theorem inbQ : ∀ (g : Fin 2) a, (![g.val, 0, 0] : Fin 3 → ℕ) a + S1x64x128.size a ≤ S2x64x128.size a := by decide
theorem inbS : ∀ (g : Fin 2) a, (![g.val, 0, 0] : Fin 3 → ℕ) a + S1x128x256.size a ≤ S2x128x256.size a := by decide

/-- Head group `g`'s decay between the rows of a chunk. -/
def dmatG (x3 : Vec F S2x256x256 .f32) (g : Fin 2) : FVec F S256x256 .f32 :=
  shapeCast S256x256 (View.ld x3 (Rect.unit ![g.val, 0, 0] S1x256x256.size (inbD g))) shapeCasts_S1x256x256_S256x256

/-- Head group `g`'s table of 64 rows and 128 lanes. -/
def decG (x : Vec F S2x64x128 .f32) (g : Fin 2) : FVec F S64x128 .f32 :=
  shapeCast S64x128 (View.ld x (Rect.unit ![g.val, 0, 0] S1x64x128.size (inbQ g))) shapeCasts_S1x64x128_S64x128

/-- Head group `g`'s table of 128 rows and 256 lanes: the decay over a chunk, or the state. -/
def stG (x : Vec F S2x128x256 .f32) (g : Fin 2) : FVec F S128x256 .f32 :=
  shapeCast S128x256 (View.ld x (Rect.unit ![g.val, 0, 0] S1x128x256.size (inbS g))) shapeCasts_S1x128x256_S128x256

/-- One half (128 lanes) of a tile rotated: each lane times the cosine, its right neighbour times one sine table, its
    left neighbour times the other. -/
def rotHalf (b : FVec F S512x128 .f32) (cs : Vec F S512x128 .f32) (s0 s1 : Vec F S1x512x128 .f32) : FVec F S512x128 .f32 :=
  addf (addf (mulf b (shapeCast S512x128 cs shapeCasts_S512x128_S512x128))
    (mulf (dynamicRotate 1 127#32 none b rotates_S512x128_d1) (shapeCast S512x128 s0 shapeCasts_S1x512x128_S512x128)))
    (mulf (dynamicRotate 1 1#32 none b rotates_S512x128_d1) (shapeCast S512x128 s1 shapeCasts_S1x512x128_S512x128))

/-- A tile of queries or keys, rotated. -/
def rotT (p : Vec F S1x512x256 .f32) (x1 : Vec F S512x256 .f32) (x2 : Vec F S2x512x256 .f32) : FVec F S512x256 .f32 :=
  concatenate S512x256 1
    [⟨S512x128, rotHalf (extractStridedSlice S512x128 ![0, 0] (shapeCast S512x256 p shapeCasts_S1x512x256_S512x256) slices_S512x256_o0_0_S512x128)
      (View.ld x1 (Rect.unit ![0, 0] S512x128.size inb_S512x256_S512x128_0_0))
      (View.ld x2 (Rect.unit ![0, 0, 0] S1x512x128.size inb_S2x512x256_S1x512x128_0_0_0))
      (View.ld x2 (Rect.unit ![1, 0, 0] S1x512x128.size inb_S2x512x256_S1x512x128_1_0_0))⟩,
     ⟨S512x128, rotHalf (extractStridedSlice S512x128 ![0, 128] (shapeCast S512x256 p shapeCasts_S1x512x256_S512x256) slices_S512x256_o0_128_S512x128)
      (View.ld x1 (Rect.unit ![0, 128] S512x128.size inb_S512x256_S512x128_0_128))
      (View.ld x2 (Rect.unit ![0, 0, 128] S1x512x128.size inb_S2x512x256_S1x512x128_0_0_128))
      (View.ld x2 (Rect.unit ![1, 0, 128] S1x512x128.size inb_S2x512x256_S1x512x128_1_0_128))⟩]
    concatenates_S512x128_S512x128_S512x256_d1

/-- The tile's queries. -/
def qT (x0 : Vec F S1x512x1536 .f32) (x1 : Vec F S512x256 .f32) (x2 : Vec F S2x512x256 .f32) : FVec F S512x256 .f32 :=
  rotT (View.ld x0 (Rect.unit ![0, 0, 0] S1x512x256.size inb_S1x512x1536_S1x512x256_0_0_0)) x1 x2

/-- The tile's keys. -/
def kT (x0 : Vec F S1x512x1536 .f32) (x1 : Vec F S512x256 .f32) (x2 : Vec F S2x512x256 .f32) : FVec F S512x256 .f32 :=
  mulf (rotT (View.ld x0 (Rect.unit ![0, 0, 256] S1x512x256.size inb_S1x512x1536_S1x512x256_0_0_256)) x1 x2)
    (broadcast S512x256 (Scalar.ofBits .f32 0x3E3504F3#32))

/-- The tile's values. -/
def vT (x0 : Vec F S1x512x1536 .f32) : FVec F S512x512 .f32 :=
  shapeCast S512x512 (View.ld x0 (Rect.unit ![0, 0, 512] S1x512x512.size inb_S1x512x1536_S1x512x512_0_0_512)) shapeCasts_S1x512x512_S512x512

/-- The tile's gate logits. -/
def zT (x0 : Vec F S1x512x1536 .f32) : FVec F S512x512 .f32 :=
  shapeCast S512x512 (View.ld x0 (Rect.unit ![0, 0, 1024] S1x512x512.size inb_S1x512x1536_S1x512x512_0_0_1024)) shapeCasts_S1x512x512_S512x512

section Tile

variable (q k : FVec F S512x256 .f32) (v : FVec F S512x512 .f32) (x3 : Vec F S2x256x256 .f32) (x4 x5 : Vec F S2x64x128 .f32)
  (x6 : Vec F S2x128x256 .f32) (S : Vec F S2x128x256 .f32)

/-- Head group `g`'s state before chunk `n` of the tile, from the state before the tile. -/
def stAt (g : Fin 2) (s0 : FVec F S128x256 .f32) : ℕ → FVec F S128x256 .f32
  | 0 => s0
  | n + 1 => addf (mulf (stG x6 g) (stAt g s0 n))
      (updOf (cutQ g (Fin.ofNat 8 n) k) (decG x5 g) (cutV g (Fin.ofNat 8 n) (truncf .bf16 v bitsLt_bf16_f32)))

/-- Chunk `n`'s rows of head group `g`. -/
def yAt (g : Fin 2) (s0 : FVec F S128x256 .f32) (n : Fin 8) : FVec F S64x256 .f32 :=
  unstack (addf
    (yinOf (cutQ g n (truncf .bf16 q bitsLt_bf16_f32)) (cutQ g n (truncf .bf16 k bitsLt_bf16_f32)) (dmatG x3 g)
      (cutV g n (truncf .bf16 v bitsLt_bf16_f32)))
    (yprevOf (cutQ g n q) (decG x4 g) (stAt k v x5 x6 g s0 n.val)))

/-- The tile's rows of head group `g`. -/
def yGroup (g : Fin 2) (s0 : FVec F S128x256 .f32) : FVec F S512x256 .f32 :=
  concatenate S512x256 0
    [⟨S64x256, yAt q k v x3 x4 x5 x6 g s0 0⟩, ⟨S64x256, yAt q k v x3 x4 x5 x6 g s0 1⟩,
     ⟨S64x256, yAt q k v x3 x4 x5 x6 g s0 2⟩, ⟨S64x256, yAt q k v x3 x4 x5 x6 g s0 3⟩,
     ⟨S64x256, yAt q k v x3 x4 x5 x6 g s0 4⟩, ⟨S64x256, yAt q k v x3 x4 x5 x6 g s0 5⟩,
     ⟨S64x256, yAt q k v x3 x4 x5 x6 g s0 6⟩, ⟨S64x256, yAt q k v x3 x4 x5 x6 g s0 7⟩]
    concatenates_S64x256_S64x256_S64x256_S64x256_S64x256_S64x256_S64x256_S64x256_S512x256_d0

/-- The tile's rows, before the norm. -/
def yTile (s0 s1 : FVec F S128x256 .f32) : FVec F S512x512 .f32 :=
  concatenate S512x512 1 [⟨S512x256, yGroup q k v x3 x4 x5 x6 0 s0⟩, ⟨S512x256, yGroup q k v x3 x4 x5 x6 1 s1⟩]
    concatenates_S512x256_S512x256_S512x512_d1

/-- The state after the tile, as it is stored. -/
def stEnd (g : Fin 2) (s0 : FVec F S128x256 .f32) : FVec F S1x128x256 .f32 :=
  shapeCast S1x128x256 (stAt k v x5 x6 g s0 8) shapeCasts_S128x256_S1x128x256

end Tile

/-- In each half of 128 lanes, the sum over the half that the lane lies in. -/
def seg (b : FVec F S512x128 .f32) : FVec F S512x128 .f32 :=
  select k0_pay219
    (broadcastTo S512x128 (shapeCast S512x1 (shapeCast S512x1
      (multiReduction .add [1] S512 (select k0_pay219 b (broadcast S512x128 (Scalar.ofBits .f32 0x00000000#32))) 0x00000000#32
        reduces_S512x128_S512 (.inl rfl) rfl) shapeCasts_S512_S512x1) shapeCasts_S512x1_S512x1) broadcasts_S512x1_S512x128)
    (broadcastTo S512x128 (shapeCast S512x1 (shapeCast S512x1
      (multiReduction .add [1] S512 (select k0_pay219 (broadcast S512x128 (Scalar.ofBits .f32 0x00000000#32)) b) 0x00000000#32
        reduces_S512x128_S512 (.inl rfl) rfl) shapeCasts_S512_S512x1) shapeCasts_S512x1_S512x1) broadcasts_S512x1_S512x128)

/-- The mean square over each head's 64 lanes. -/
def msT (y : FVec F S512x512 .f32) : FVec F S512x512 .f32 :=
  mulf (concatenate S512x512 1
    [⟨S512x128, seg (extractStridedSlice S512x128 ![0, 0] (mulf y y) slices_S512x512_o0_0_S512x128)⟩,
     ⟨S512x128, seg (extractStridedSlice S512x128 ![0, 128] (mulf y y) slices_S512x512_o0_128_S512x128)⟩,
     ⟨S512x128, seg (extractStridedSlice S512x128 ![0, 256] (mulf y y) slices_S512x512_o0_256_S512x128)⟩,
     ⟨S512x128, seg (extractStridedSlice S512x128 ![0, 384] (mulf y y) slices_S512x512_o0_384_S512x128)⟩]
    concatenates_S512x128_S512x128_S512x128_S512x128_S512x512_d1)
    (broadcast S512x512 (Scalar.ofBits .f32 0x3C800000#32))

/-- What the tile writes, from its rows before the norm. -/
def outT (y z : FVec F S512x512 .f32) (nw : Vec F S1x512 .f32) : FVec F S1x512x512 .bf16 :=
  k0_pay1 (k0_pay222 z y (msT y) nw)

/-- What the tile at blocks `x·` writes, from the two groups' states before it. -/
def tileOut (x0 : Vec F S1x512x1536 .f32) (x1 : Vec F S512x256 .f32) (x2 : Vec F S2x512x256 .f32) (x3 : Vec F S2x256x256 .f32)
    (x4 x5 : Vec F S2x64x128 .f32) (x6 : Vec F S2x128x256 .f32) (x7 : Vec F S1x512 .f32) (s0 s1 : FVec F S128x256 .f32) :
    FVec F S1x512x512 .bf16 :=
  outT (yTile (qT x0 x1 x2) (kT x0 x1 x2) (vT x0) x3 x4 x5 x6 s0 s1) (zT x0) x7

/-- What the tile at blocks `x·` leaves as group `g`'s state. -/
def tileSt (x0 : Vec F S1x512x1536 .f32) (x1 : Vec F S512x256 .f32) (x2 : Vec F S2x512x256 .f32)
    (x5 : Vec F S2x64x128 .f32) (x6 : Vec F S2x128x256 .f32) (g : Fin 2) (s0 : FVec F S128x256 .f32) :
    FVec F S1x128x256 .f32 :=
  stEnd (kT x0 x1 x2) (vT x0) x5 x6 g s0

end Cert.KernelIdeal.Hand

end
-- ==== Proof.RetChunk.lean ====
/- One chunk of one head group, at an index: the masked stacks reduce to sums over one head's lanes. -/
module

public import proofs.«01_k».proof.Proof.RetOps
public import Idealize.ShloMosaic.Lib.WordCmp

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

/-- Row `i` of part `a` of four stacked parts of 64; also lane `i` of head `a` among four heads of 64 value lanes. -/
def r4 (a : Fin 4) (i : Fin 64) : Fin 256 := ⟨a.val * 64 + i.val, by omega⟩

/-- Lane `d` of head `a` among four heads of 32 key lanes. -/
def l4 (a : Fin 4) (d : Fin 32) : Fin 128 := ⟨a.val * 32 + d.val, by omega⟩

/-- A sum over 256 is a sum over four parts of 64. -/
theorem sum_r4 (f : Fin 256 → EReal) : ∑ x, f x = ∑ a, ∑ i, f (r4 a i) := Fin.sum_univ_tiles 4 64 rfl f

/-- A sum over 128 is a sum over four parts of 32. -/
theorem sum_l4 (f : Fin 128 → EReal) : ∑ x, f x = ∑ a, ∑ d, f (l4 a d) := Fin.sum_univ_tiles 4 32 rfl f

/-- The float of a one-bit truth value is one or zero. -/
theorem bit_float (p : Prop) [Decidable p] :
    (FloatOps.sitofp FTy.f32 (BitVec.setWidth 32 (BitVec.ofBool (decide p))) : Ideal .f32) = if p then (1 : EReal) else 0 := by
  show (((BitVec.setWidth 32 (BitVec.ofBool (decide p))).toInt : ℝ) : EReal) = _
  by_cases h : p <;> simp [h]

/-- A lane lies between two bounds, as the masks ask it. -/
theorem between (r lo hi : ℕ) (hr : r < 256) (hlo : lo ≤ 256) (hhi : hi ≤ 256) :
    (FloatOps.sitofp FTy.f32 (BitVec.setWidth 32 (IntOp.andi (IntOp.cmpi CmpIPredicate.sge (BitVec.ofNat 32 r) (BitVec.ofNat 32 lo))
      (IntOp.cmpi CmpIPredicate.slt (BitVec.ofNat 32 r) (BitVec.ofNat 32 hi)))) : Ideal .f32)
      = if (lo ≤ r ∧ r < hi) then (1 : EReal) else 0 := by
  rw [← bit_float, Bool.decide_and, ← WordCmp.andi_ofBool]
  congr 4 <;> word_cmp

/-- The mask of head `a`'s 32 key lanes, and of head `a`'s 64 value lanes. -/
theorem mask_q (r : Fin 128) : k0_pay12 (F := Ideal) (ix2 0 r) = (if 0 ≤ r.val ∧ r.val < 32 then (1 : EReal) else 0)
    ∧ k0_pay13 (F := Ideal) (ix2 0 r) = (if 32 ≤ r.val ∧ r.val < 64 then (1 : EReal) else 0)
    ∧ k0_pay14 (F := Ideal) (ix2 0 r) = (if 64 ≤ r.val ∧ r.val < 96 then (1 : EReal) else 0)
    ∧ k0_pay15 (F := Ideal) (ix2 0 r) = (if 96 ≤ r.val ∧ r.val < 128 then (1 : EReal) else 0) := by
  refine ⟨?_, ?_, ?_, ?_⟩ <;> pointwise [k0_pay12, k0_pay13, k0_pay14, k0_pay15] <;>
    refine Eq.trans (between _ _ _ ?_ ?_ ?_) (if_congr ?_ rfl rfl) <;> omega

theorem mask_v (r : Fin 256) : k0_pay18 (F := Ideal) k0_pay16 k0_pay17 (ix2 0 r) = (if 0 ≤ r.val ∧ r.val < 64 then (1 : EReal) else 0)
    ∧ k0_pay19 (F := Ideal) (ix2 0 r) = (if 64 ≤ r.val ∧ r.val < 128 then (1 : EReal) else 0)
    ∧ k0_pay20 (F := Ideal) (ix2 0 r) = (if 128 ≤ r.val ∧ r.val < 192 then (1 : EReal) else 0)
    ∧ k0_pay21 (F := Ideal) (ix2 0 r) = (if 192 ≤ r.val ∧ r.val < 256 then (1 : EReal) else 0) := by
  refine ⟨?_, ?_, ?_, ?_⟩ <;> pointwise [k0_pay16, k0_pay17, k0_pay18, k0_pay19, k0_pay20, k0_pay21] <;>
    refine Eq.trans (between _ _ _ ?_ ?_ ?_) (if_congr ?_ rfl rfl) <;> omega

/-- Of four stacked parts, part `a` is read at row `(a, i)`; its mask is one where the lane's head `b` is `a`. -/
theorem pick4 (X : Fin 64 → EReal) (M0 M1 M2 M3 : EReal) (a : Fin 4) (i : Fin 64) (b : Fin 4)
    (h0 : M0 = if b.val = 0 then 1 else 0) (h1 : M1 = if b.val = 1 then 1 else 0) (h2 : M2 = if b.val = 2 then 1 else 0)
    (h3 : M3 = if b.val = 3 then 1 else 0) :
    (if h : (r4 a i).val < 64 then X ⟨(r4 a i).val, h⟩ * M0
      else if h : (r4 a i).val - 64 < 64 then X ⟨(r4 a i).val - 64, h⟩ * M1
      else if h : (r4 a i).val - 64 - 64 < 64 then X ⟨(r4 a i).val - 64 - 64, h⟩ * M2
      else X ⟨(r4 a i).val - 64 - 64 - 64, by omega⟩ * M3)
      = if b = a then X i else 0 := by
  have hr : (r4 a i).val = a.val * 64 + i.val := rfl
  have hb : b = a ↔ b.val = a.val := Fin.ext_iff
  simp only [hb]
  rw [h0, h1, h2, h3]
  split_ifs <;> first | omega | exact mul_zero _ | (rw [mul_one]; congr 1; exact Fin.ext (by simp only []; omega))

/-- A stack of masked queries or keys at row `(a, i)` and lane `(b, d)`: the block's entry if the lane is head `a`'s. -/
theorem stackQ_at (x : FVec Ideal S64x128 .bf16) (a : Fin 4) (i : Fin 64) (b : Fin 4) (d : Fin 32) :
    stackQ x (ix2 (r4 a i) (l4 b d)) = if b = a then (x (ix2 i (l4 b d)) : EReal) else 0 := by
  obtain ⟨h0, h1, h2, h3⟩ := mask_q (l4 b d)
  have hl : (l4 b d).val = b.val * 32 + d.val := rfl
  pointwise [stackQ]
  exact pick4 (fun j => x (ix2 j (l4 b d))) _ _ _ _ a i b
    (h0.trans (if_congr (by omega) rfl rfl)) (h1.trans (if_congr (by omega) rfl rfl))
    (h2.trans (if_congr (by omega) rfl rfl)) (h3.trans (if_congr (by omega) rfl rfl))

/-- A stack of masked values at row `(a, i)` and lane `(b, w)`: the block's entry if the lane is head `a`'s. -/
theorem stackV_at (x : FVec Ideal S64x256 .bf16) (a : Fin 4) (i : Fin 64) (b : Fin 4) (w : Fin 64) :
    stackV x (ix2 (r4 a i) (r4 b w)) = if b = a then (x (ix2 i (r4 b w)) : EReal) else 0 := by
  obtain ⟨h0, h1, h2, h3⟩ := mask_v (r4 b w)
  have hl : (r4 b w).val = b.val * 64 + w.val := rfl
  pointwise [stackV]
  exact pick4 (fun j => x (ix2 j (r4 b w))) _ _ _ _ a i b
    (h0.trans (if_congr (by omega) rfl rfl)) (h1.trans (if_congr (by omega) rfl rfl))
    (h2.trans (if_congr (by omega) rfl rfl)) (h3.trans (if_congr (by omega) rfl rfl))

/-- The chunk's part of the state, at key lane `(a, d)` and value lane `(b, w)`: nothing between different heads. -/
theorem updOf_at (k kt : FVec Ideal S64x128 .f32) (v : FVec Ideal S64x256 .bf16) (a : Fin 4) (d : Fin 32) (b : Fin 4) (w : Fin 64) :
    updOf k kt v (ix2 (l4 a d) (r4 b w))
      = if a = b then ∑ i, (k (ix2 i (l4 a d)) * kt (ix2 i (l4 a d)) : EReal) * v (ix2 i (r4 a w)) else 0 := by
  pointwise [updOf]
  rw [sum_r4, Finset.sum_eq_single a (fun c _ hc => Finset.sum_eq_zero fun i _ => by
    rw [stackQ_at, if_neg (Ne.symm hc), zero_mul]) (fun h => absurd (Finset.mem_univ _) h)]
  by_cases h : a = b
  · subst h
    rw [if_pos rfl]
    refine Finset.sum_congr rfl fun i _ => ?_
    rw [stackQ_at, stackV_at, if_pos rfl, if_pos rfl]
    pointwise
  · rw [if_neg h]
    refine Finset.sum_eq_zero fun i _ => ?_
    rw [stackV_at, if_neg (Ne.symm h), mul_zero]

/-- The decayed scores times the values, at row `(a, i)` and value lane `(b, w)`: nothing between different heads. -/
theorem yinOf_at (q k : FVec Ideal S64x128 .bf16) (D : FVec Ideal S256x256 .f32) (v : FVec Ideal S64x256 .bf16)
    (hD : ∀ (a b : Fin 4) (i j : Fin 64), a ≠ b → D (ix2 (r4 a i) (r4 b j)) = (0 : EReal))
    (a : Fin 4) (i : Fin 64) (b : Fin 4) (w : Fin 64) :
    yinOf q k D v (ix2 (r4 a i) (r4 b w))
      = if a = b then ∑ j, ((∑ d, q (ix2 i (l4 a d)) * k (ix2 j (l4 a d)) : EReal) * D (ix2 (r4 a i) (r4 a j))) * v (ix2 j (r4 a w)) else 0 := by
  pointwise [yinOf]
  rw [sum_r4, Finset.sum_eq_single a (fun c _ hc => Finset.sum_eq_zero fun j _ => by
    rw [hD a c i j (Ne.symm hc), mul_zero, zero_mul]) (fun h => absurd (Finset.mem_univ _) h)]
  by_cases h : a = b
  · subst h
    rw [if_pos rfl]
    refine Finset.sum_congr rfl fun j _ => ?_
    rw [stackV_at, if_pos rfl, sum_l4, Finset.sum_eq_single a (fun c _ hc => Finset.sum_eq_zero fun d _ => by
      rw [stackQ_at, if_neg hc, zero_mul]) (fun h => absurd (Finset.mem_univ _) h)]
    simp only [stackQ_at, if_pos]
  · rw [if_neg h]
    refine Finset.sum_eq_zero fun j _ => ?_
    rw [stackV_at, if_neg (Ne.symm h), mul_zero]

/-- The decayed queries times a state that has nothing between different heads, at row `(a, i)` and value lane `(b, w)`. -/
theorem yprevOf_at (q qd : FVec Ideal S64x128 .f32) (s : FVec Ideal S128x256 .f32)
    (hs : ∀ (a b : Fin 4) (d : Fin 32) (w : Fin 64), a ≠ b → s (ix2 (l4 a d) (r4 b w)) = (0 : EReal))
    (a : Fin 4) (i : Fin 64) (b : Fin 4) (w : Fin 64) :
    yprevOf q qd s (ix2 (r4 a i) (r4 b w))
      = if a = b then ∑ d, (q (ix2 i (l4 a d)) * qd (ix2 i (l4 a d)) : EReal) * s (ix2 (l4 a d) (r4 a w)) else 0 := by
  pointwise [yprevOf]
  rw [sum_l4, Finset.sum_eq_single a (fun c _ hc => Finset.sum_eq_zero fun d _ => by
    rw [stackQ_at, if_neg hc, zero_mul]) (fun h => absurd (Finset.mem_univ _) h)]
  by_cases h : a = b
  · subst h
    rw [if_pos rfl]
    refine Finset.sum_congr rfl fun d _ => ?_
    rw [stackQ_at, if_pos rfl]
    pointwise
  · rw [if_neg h]
    exact Finset.sum_eq_zero fun d _ => by rw [hs a b d w h, mul_zero]

/-- Four stacked parts of which only part `b` is not zero at lane `(b, w)`, added up: that part. -/
theorem unstack_at (y : FVec Ideal S256x256 .f32) (i : Fin 64) (b : Fin 4) (w : Fin 64)
    (h : ∀ a, a ≠ b → y (ix2 (r4 a i) (r4 b w)) = (0 : EReal)) :
    unstack y (ix2 i (r4 b w)) = (y (ix2 (r4 b i) (r4 b w)) : EReal) := by
  have e : unstack y (ix2 i (r4 b w)) = (∑ a, y (ix2 (r4 a i) (r4 b w)) : EReal) := by
    rw [Fin.sum_univ_four]
    pointwise [unstack]
    refine congrArg₂ (· + ·) (congrArg₂ (· + ·) (congrArg₂ (· + ·) ?_ ?_) ?_) ?_ <;> congr 2 <;> exact Fin.ext (by simp [r4])
  rw [e, Finset.sum_eq_single b (fun a _ ha => h a ha) (fun h => absurd (Finset.mem_univ _) h)]

end Cert.KernelIdeal.Hand

end
-- ==== Proof.RetSpec.lean ====
/- Multi-scale retention, by chunks of 64 tokens, written once over the extended reals. -/
module

public import proofs.«01_k».proof.Proof.MergeRow

@[expose] public section

noncomputable section

namespace Cert.Layer

open Idealize.ShloMosaic

/-- A count as a number. -/
def cnt (n : ℕ) : EReal := (FloatOps.sitofp FTy.f32 (BitVec.ofNat 32 n) : Ideal .f32)

/-- Sixteen points evenly spaced between zero and one. -/
def lin (j : ℕ) : EReal :=
  if j < 15 then Ideal.ofBits FTy.f32 0#32 * (1 - Ideal.div (cnt j) (Ideal.ofBits FTy.f32 1097859072#32))
    + Ideal.ofBits FTy.f32 1065353216#32 * Ideal.div (cnt j) (Ideal.ofBits FTy.f32 1097859072#32)
  else Ideal.ofBits FTy.f32 1065353216#32

/-- The rotary angle of lane pair `j` at token `s`. -/
def theta (s j : ℕ) : EReal := cnt s * Ideal.div 1 (Ideal.pow (Ideal.ofBits FTy.f32 1176256512#32) (lin j))

/-- The logarithm of head `h`'s decay per token. -/
def lg (h : ℕ) : EReal :=
  Ideal.log (1 - Ideal.exp (Ideal.ofBits FTy.f32 1060205080#32 * (Ideal.ofBits FTy.f32 3231711232#32 - cnt h)))

/-- The decay from token `j` to token `i` of a chunk: zero if `j` is later. -/
def decD (h i j : ℕ) : EReal :=
  Ideal.exp (if 0 ≤ cnt i - cnt j then lg h * (cnt i - cnt j) else Ideal.ofBits FTy.f32 4286578688#32)

/-- The decay from the chunk's start to token `i`. -/
def decQ (h i : ℕ) : EReal := Ideal.exp (lg h * (cnt i + 1))

/-- The decay from token `i` to the chunk's end. -/
def decK (h i : ℕ) : EReal := Ideal.exp (lg h * (Ideal.ofBits FTy.f32 1115422720#32 - cnt i))

/-- The decay over a chunk. -/
def decG (h : ℕ) : EReal := Ideal.exp (lg h * Ideal.ofBits FTy.f32 1115684864#32)

section Chunks

variable (Q K : ℕ → Fin 64 → Fin 32 → EReal) (V : ℕ → Fin 64 → Fin 64 → EReal) (D : Fin 64 → Fin 64 → EReal) (qd kt : Fin 64 → EReal) (gm : EReal)

/-- The state before chunk `n`: each chunk decays the state and adds its keys times its values. -/
def retState : ℕ → Fin 32 → Fin 64 → EReal
  | 0, _, _ => 0
  | n + 1, d, w => gm * retState n d w + ∑ i, (K n i d * kt i) * V n i w

/-- Row `i` of chunk `n`: the chunk's own tokens, and what the state holds of those before. -/
def retRow (n : ℕ) (i w : Fin 64) : EReal :=
  (∑ j, ((∑ d, Q n i d * K n j d) * D i j) * V n j w) + ∑ d, (Q n i d * qd i) * retState K V kt gm n d w

end Chunks

/-- Rotary embedding of a head's 32 lanes, by pairs. -/
def rot (x : Fin 32 → EReal) (s : ℕ) (d : Fin 32) : EReal :=
  if d.val % 2 = 0 then x d * Ideal.cos (theta s (d.val / 2)) - x ⟨(d.val + 1) % 32, by omega⟩ * Ideal.sin (theta s (d.val / 2))
  else x ⟨d.val - 1, by omega⟩ * Ideal.sin (theta s (d.val / 2)) + x d * Ideal.cos (theta s (d.val / 2))

/-- Token `i` of chunk `n`. -/
def tok (n : ℕ) (i : Fin 64) : Fin 4096 := ⟨(n * 64 + i.val) % 4096, Nat.mod_lt _ (by decide)⟩

section Whole

variable (P : FVec Ideal ⟨3, ![8, 4096, 1536]⟩ .f32) (W : FVec Ideal ⟨1, ![512]⟩ .f32) (b : Fin 8) (h : Fin 8)

/-- A head's rotated queries. -/
def rq (s : Fin 4096) (d : Fin 32) : EReal := rot (fun d => P (ix3 b s ⟨h.val * 32 + d.val, by omega⟩)) s d

/-- A head's rotated and scaled keys. -/
def rk (s : Fin 4096) (d : Fin 32) : EReal :=
  rot (fun d => P (ix3 b s ⟨256 + (h.val * 32 + d.val), by omega⟩)) s d * Ideal.ofBits FTy.f32 0x3E3504F3#32

/-- A head's values. -/
def rv (s : Fin 4096) (w : Fin 64) : EReal := P (ix3 b s ⟨512 + (h.val * 64 + w.val), by omega⟩)

/-- A head's state before chunk `n`. -/
def rs (n : ℕ) (d : Fin 32) (w : Fin 64) : EReal :=
  retState (fun n i d => rk P b h (tok n i) d) (fun n i w => rv P b h (tok n i) w) (fun i => decK h i) (decG h) n d w

/-- A head's retention at token `i` of chunk `n`. -/
def ry (n : ℕ) (i w : Fin 64) : EReal :=
  retRow (fun n i d => rq P b h (tok n i) d) (fun n i d => rk P b h (tok n i) d) (fun n i w => rv P b h (tok n i) w)
    (fun i j => decD h i j) (fun i => decQ h i) (fun i => decK h i) (decG h) n i w

/-- A head's retention, normalised over its 64 lanes, weighted, and gated. -/
def rout (n : ℕ) (i w : Fin 64) : EReal :=
  ry P b h n i w * Ideal.rsqrt ((∑ u, ry P b h n i u * ry P b h n i u) * Ideal.ofBits FTy.f32 0x3C800000#32 + Ideal.ofBits FTy.f32 0x358637BD#32)
    * W (ix1 ⟨h.val * 64 + w.val, by omega⟩)
    * (P (ix3 b (tok n i) ⟨1024 + (h.val * 64 + w.val), by omega⟩) * gate (P (ix3 b (tok n i) ⟨1024 + (h.val * 64 + w.val), by omega⟩)))

end Whole

/-- The retention mixer's result at batch `b`, token `s` and lane `l`. -/
def ret (P : FVec Ideal ⟨3, ![8, 4096, 1536]⟩ .f32) (W : FVec Ideal ⟨1, ![512]⟩ .f32) (b : Fin 8) (s : Fin 4096) (l : Fin 512) : EReal :=
  rout P W b ⟨l.val / 64, by omega⟩ (s.val / 64) ⟨s.val % 64, by omega⟩ ⟨l.val % 64, by omega⟩

end Cert.Layer

end
-- ==== Proof.RetTile.lean ====
/- One tile of the retention kernel, at an index: eight chunks of each head. -/
module

public import proofs.«01_k».proof.Proof.RetChunk
public import proofs.«01_k».proof.Proof.RetSpec

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Layer

/-- Row `i` of chunk `n` of a tile. -/
def tr (n : Fin 8) (i : Fin 64) : Fin 512 := ⟨n.val * 64 + i.val, by omega⟩

/-- Lane `d` of head `a` of group `g`, among the queries or the keys. -/
def tq (g : Fin 2) (a : Fin 4) (d : Fin 32) : Fin 256 := ⟨g.val * 128 + (a.val * 32 + d.val), by omega⟩

/-- Lane `w` of head `a` of group `g`, among the values. -/
def tv (g : Fin 2) (a : Fin 4) (w : Fin 64) : Fin 512 := ⟨g.val * 256 + (a.val * 64 + w.val), by omega⟩

theorem cutQ_at {e : FTy} (g : Fin 2) (n : Fin 8) (T : FVec Ideal S512x256 e) (i : Fin 64) (a : Fin 4) (d : Fin 32) :
    cutQ g n T (ix2 i (l4 a d)) = T (ix2 (tr n i) (tq g a d)) := by
  pointwise [cutQ]
  refine congrArg T ((ix2_inj ..).2 ⟨Fin.ext ?_, Fin.ext ?_⟩) <;> simp [tr, tq, l4] <;> omega

theorem cutV_at {e : FTy} (g : Fin 2) (n : Fin 8) (T : FVec Ideal S512x512 e) (i : Fin 64) (a : Fin 4) (w : Fin 64) :
    cutV g n T (ix2 i (r4 a w)) = T (ix2 (tr n i) (tv g a w)) := by
  pointwise [cutV]
  refine congrArg T ((ix2_inj ..).2 ⟨Fin.ext ?_, Fin.ext ?_⟩) <;> simp [tr, tv, r4] <;> omega

section Tile

variable (q k : FVec Ideal S512x256 .f32) (v : FVec Ideal S512x512 .f32) (x3 : Vec Ideal S2x256x256 .f32) (x4 x5 : Vec Ideal S2x64x128 .f32)
  (x6 : Vec Ideal S2x128x256 .f32) (g : Fin 2) (s0 : FVec Ideal S128x256 .f32)
  (N : ℕ) (Q K : Fin 4 → ℕ → Fin 64 → Fin 32 → EReal) (U : Fin 4 → ℕ → Fin 64 → Fin 64 → EReal) (D : Fin 4 → Fin 64 → Fin 64 → EReal)
  (qd kt : Fin 4 → Fin 64 → EReal) (gm : Fin 4 → EReal)
  (hq : ∀ (n : Fin 8) a i d, q (ix2 (tr n i) (tq g a d)) = Q a (N + n.val) i d)
  (hk : ∀ (n : Fin 8) a i d, k (ix2 (tr n i) (tq g a d)) = K a (N + n.val) i d)
  (hv : ∀ (n : Fin 8) a i w, v (ix2 (tr n i) (tv g a w)) = U a (N + n.val) i w)
  (h3 : ∀ a b i j, dmatG x3 g (ix2 (r4 a i) (r4 b j)) = if a = b then D a i j else 0)
  (h4 : ∀ a i d, decG x4 g (ix2 i (l4 a d)) = qd a i)
  (h5 : ∀ a i d, decG x5 g (ix2 i (l4 a d)) = kt a i)
  (h6 : ∀ a d b w, stG x6 g (ix2 (l4 a d) (r4 b w)) = gm a)
  (hs : ∀ a d b w, s0 (ix2 (l4 a d) (r4 b w)) = if a = b then retState (K a) (U a) (kt a) (gm a) N d w else 0)

include hk hv h5 h6 hs in
/-- The state before chunk `n` of the tile: each head's own, and nothing between different heads. -/
theorem stAt_at (n : ℕ) (hn : n ≤ 8) (a : Fin 4) (d : Fin 32) (b : Fin 4) (w : Fin 64) :
    stAt k v x5 x6 g s0 n (ix2 (l4 a d) (r4 b w)) = if a = b then retState (K a) (U a) (kt a) (gm a) (N + n) d w else 0 := by
  induction n with
  | zero => exact hs a d b w
  | succ n ih =>
    have e : stAt k v x5 x6 g s0 (n + 1) (ix2 (l4 a d) (r4 b w))
        = (stG x6 g (ix2 (l4 a d) (r4 b w)) * stAt k v x5 x6 g s0 n (ix2 (l4 a d) (r4 b w))
          + updOf (cutQ g (Fin.ofNat 8 n) k) (decG x5 g) (cutV g (Fin.ofNat 8 n) (truncf .bf16 v bitsLt_bf16_f32)) (ix2 (l4 a d) (r4 b w)) : EReal) := by
      rw [stAt]; pointwise
    have hf : (Fin.ofNat 8 n).val = n := Nat.mod_eq_of_lt (by omega)
    rw [e, ih (by omega), h6, updOf_at]
    by_cases h : a = b
    · subst h
      simp only [if_pos]
      show _ = gm a * retState (K a) (U a) (kt a) (gm a) (N + n) d w + _
      congr 1
      refine Finset.sum_congr rfl fun i _ => ?_
      rw [cutQ_at, cutV_at, h5, hk, hf]
      pointwise
      rw [hv, hf]
      rfl
    · simp only [if_neg h]
      rw [mul_zero, add_zero]

include hq hk hv h3 h4 h5 h6 hs in
/-- Row `i` of chunk `n` of the tile, at lane `w` of head `b`. -/
theorem yAt_at (n : Fin 8) (i : Fin 64) (b : Fin 4) (w : Fin 64) :
    yAt q k v x3 x4 x5 x6 g s0 n (ix2 i (r4 b w)) = retRow (Q b) (K b) (U b) (D b) (qd b) (kt b) (gm b) (N + n.val) i w := by
  have hst := stAt_at k v x5 x6 g s0 N K U kt gm hk hv h5 h6 hs n.val n.isLt.le
  have e : ∀ a, addf (yinOf (cutQ g n (truncf .bf16 q bitsLt_bf16_f32)) (cutQ g n (truncf .bf16 k bitsLt_bf16_f32)) (dmatG x3 g)
        (cutV g n (truncf .bf16 v bitsLt_bf16_f32))) (yprevOf (cutQ g n q) (decG x4 g) (stAt k v x5 x6 g s0 n.val)) (ix2 (r4 a i) (r4 b w))
      = (if a = b then retRow (Q a) (K a) (U a) (D a) (qd a) (kt a) (gm a) (N + n.val) i w else 0 : EReal) := by
    intro a
    pointwise
    rw [yinOf_at _ _ _ _ (fun a b i j h => by rw [h3, if_neg h]), yprevOf_at _ _ _ (fun a b d w h => by rw [hst, if_neg h])]
    by_cases h : a = b
    · subst h
      simp only [if_pos]
      unfold retRow
      congr 1
      · refine Finset.sum_congr rfl fun j _ => ?_
        rw [h3, if_pos rfl, cutV_at]
        refine congrArg₂ (· * ·) (congrArg (· * D a i j) (Finset.sum_congr rfl fun d _ => ?_)) (hv n a j w)
        rw [cutQ_at, cutQ_at]
        exact congrArg₂ (· * ·) (hq n a i d) (hk n a j d)
      · refine Finset.sum_congr rfl fun d _ => ?_
        rw [cutQ_at, h4, hst, if_pos rfl, hq]
    · simp only [if_neg h]
      exact add_zero _
  rw [yAt, unstack_at _ i b w (fun a ha => by rw [e, if_neg ha]), e, if_pos rfl]

end Tile

/-- Of eight chunks put one under another, row `(n, i)` is row `i` of chunk `n`. -/
theorem pick8 (Y : Fin 8 → Fin 64 → EReal) (n : Fin 8) (i : Fin 64) :
    (if h : (tr n i).val < 64 then Y 0 ⟨(tr n i).val, h⟩
      else if h : (tr n i).val - 64 < 64 then Y 1 ⟨(tr n i).val - 64, h⟩
      else if h : (tr n i).val - 64 - 64 < 64 then Y 2 ⟨(tr n i).val - 64 - 64, h⟩
      else if h : (tr n i).val - 64 - 64 - 64 < 64 then Y 3 ⟨(tr n i).val - 64 - 64 - 64, h⟩
      else if h : (tr n i).val - 64 - 64 - 64 - 64 < 64 then Y 4 ⟨(tr n i).val - 64 - 64 - 64 - 64, h⟩
      else if h : (tr n i).val - 64 - 64 - 64 - 64 - 64 < 64 then Y 5 ⟨(tr n i).val - 64 - 64 - 64 - 64 - 64, h⟩
      else if h : (tr n i).val - 64 - 64 - 64 - 64 - 64 - 64 < 64 then Y 6 ⟨(tr n i).val - 64 - 64 - 64 - 64 - 64 - 64, h⟩
      else Y 7 ⟨(tr n i).val - 64 - 64 - 64 - 64 - 64 - 64 - 64, by omega⟩) = Y n i := by
  have hr : (tr n i).val = n.val * 64 + i.val := rfl
  split_ifs <;> exact congrArg₂ Y (Fin.ext (by omega)) (Fin.ext (by dsimp only; omega))

/-- Row `(n, i)` of a group's tile is row `i` of its chunk `n`. -/
theorem yGroup_at (q k : FVec Ideal S512x256 .f32) (v : FVec Ideal S512x512 .f32) (x3 : Vec Ideal S2x256x256 .f32) (x4 x5 : Vec Ideal S2x64x128 .f32)
    (x6 : Vec Ideal S2x128x256 .f32) (g : Fin 2) (s0 : FVec Ideal S128x256 .f32) (n : Fin 8) (i : Fin 64) (l : Fin 256) :
    yGroup q k v x3 x4 x5 x6 g s0 (ix2 (tr n i) l) = (yAt q k v x3 x4 x5 x6 g s0 n (ix2 i l) : EReal) := by
  pointwise [yGroup]
  exact pick8 (fun n i => yAt q k v x3 x4 x5 x6 g s0 n (ix2 i l)) n i

/-- Lane `(g, b, w)` of a tile is lane `(b, w)` of its group `g`. -/
theorem yTile_at (q k : FVec Ideal S512x256 .f32) (v : FVec Ideal S512x512 .f32) (x3 : Vec Ideal S2x256x256 .f32) (x4 x5 : Vec Ideal S2x64x128 .f32)
    (x6 : Vec Ideal S2x128x256 .f32) (s : Fin 2 → FVec Ideal S128x256 .f32) (g : Fin 2) (r : Fin 512) (b : Fin 4) (w : Fin 64) :
    yTile q k v x3 x4 x5 x6 (s 0) (s 1) (ix2 r (tv g b w)) = (yGroup q k v x3 x4 x5 x6 g (s g) (ix2 r (r4 b w)) : EReal) := by
  pointwise [yTile]
  have hr : (tv g b w).val = g.val * 256 + (r4 b w).val := rfl
  have hl := (r4 b w).isLt
  split
  · obtain rfl : g = 0 := Fin.ext (by simp only [Fin.val_zero]; omega)
    refine congrArg (yGroup q k v x3 x4 x5 x6 0 (s 0)) ((ix2_inj ..).2 ⟨rfl, Fin.ext ?_⟩)
    simp only []; rw [hr]; simp
  · obtain rfl : g = 1 := Fin.ext (by simp only [Fin.val_one]; omega)
    refine congrArg (yGroup q k v x3 x4 x5 x6 1 (s 1)) ((ix2_inj ..).2 ⟨rfl, Fin.ext ?_⟩)
    simp only []; rw [hr]; simp

end Cert.KernelIdeal.Hand

end
-- ==== Proof.RetOut.lean ====
/- What a tile of the retention kernel writes, from its rows before the norm. -/
module

public import proofs.«01_k».proof.Proof.RetTile

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Layer

/-- Lane `w` of half `p` of 128 lanes. -/
def l2 (p : Fin 2) (w : Fin 64) : Fin 128 := ⟨p.val * 64 + w.val, by omega⟩

theorem sum_l2 (f : Fin 128 → EReal) : ∑ x, f x = ∑ p, ∑ w, f (l2 p w) := Fin.sum_univ_tiles 2 64 rfl f

/-- A lane of the lower half, as the kernel asks it. -/
theorem sel64 (n : ℕ) (hn : n < 128) (a b : EReal) :
    Scalar.select (IntOp.cmpi CmpIPredicate.slt (BitVec.ofNat 32 n) (BitVec.ofNat 32 64)) a b = if n < 64 then a else b := by
  have e : IntOp.cmpi CmpIPredicate.slt (BitVec.ofNat 32 n) (BitVec.ofNat 32 64) = BitVec.ofBool (decide (n < 64)) := by word_cmp
  rw [e]
  by_cases h : n < 64 <;> simp [h, Scalar.select]

/-- The two halves' sums, each kept on its own lanes. -/
theorem pick2 (y : Fin 128 → EReal) (p : Fin 2) (w : Fin 64) :
    Scalar.select (IntOp.cmpi CmpIPredicate.slt (BitVec.ofNat 32 (l2 p w).val) (BitVec.ofNat 32 64))
      (∑ x : Fin 128, Scalar.select (IntOp.cmpi CmpIPredicate.slt (BitVec.ofNat 32 x.val) (BitVec.ofNat 32 64)) (y x) 0)
      (∑ x : Fin 128, Scalar.select (IntOp.cmpi CmpIPredicate.slt (BitVec.ofNat 32 x.val) (BitVec.ofNat 32 64)) 0 (y x)) = ∑ u, y (l2 p u) := by
  have h0 : ∀ u, ((l2 0 u).val < 64) := fun u => by simp [l2]
  have h1 : ∀ u, ¬ ((l2 1 u).val < 64) := fun u => by simp [l2]
  rw [sel64 _ (l2 p w).isLt, Finset.sum_congr rfl fun x _ => sel64 x.val x.isLt (y x) 0,
    Finset.sum_congr rfl fun x _ => sel64 x.val x.isLt 0 (y x)]
  simp only [sum_l2, Fin.sum_univ_two, h0, h1, if_true, if_false, Finset.sum_const_zero, add_zero, zero_add]
  obtain ⟨p, hp⟩ := p
  interval_cases p
  · exact if_pos (h0 w)
  · exact if_neg (h1 w)

/-- The sum over the half that the lane lies in. -/
theorem seg_at (y : FVec Ideal S512x128 .f32) (r : Fin 512) (p : Fin 2) (w : Fin 64) :
    seg y (ix2 r (l2 p w)) = (∑ u, y (ix2 r (l2 p u)) : EReal) := by
  pointwise [seg, k0_pay219]
  exact pick2 (fun x => y (ix2 r x)) p w

/-- Lane `w` of half `p` of block `j` of four blocks of 128 lanes. -/
def lv (j : Fin 4) (p : Fin 2) (w : Fin 64) : Fin 512 := ⟨j.val * 128 + (l2 p w).val, by omega⟩

/-- Of four blocks of 128 lanes side by side, block `j` is read at its lanes. -/
theorem pickj (S0 S1 S2 S3 : Fin 128 → EReal) (T : Fin 4 → Fin 2 → EReal) (h0 : ∀ p w, S0 (l2 p w) = T 0 p) (h1 : ∀ p w, S1 (l2 p w) = T 1 p)
    (h2 : ∀ p w, S2 (l2 p w) = T 2 p) (h3 : ∀ p w, S3 (l2 p w) = T 3 p) (j : Fin 4) (p : Fin 2) (w : Fin 64) :
    (if h : (lv j p w).val < 128 then S0 ⟨(lv j p w).val, h⟩
      else if h : (lv j p w).val - 128 < 128 then S1 ⟨(lv j p w).val - 128, h⟩
      else if h : (lv j p w).val - 128 - 128 < 128 then S2 ⟨(lv j p w).val - 128 - 128, h⟩
      else S3 ⟨(lv j p w).val - 128 - 128 - 128, by omega⟩) = T j p := by
  have hr : (lv j p w).val = j.val * 128 + (l2 p w).val := rfl
  split_ifs
  · have e : j = 0 := Fin.ext (by change j.val = 0; omega)
    subst e
    exact (congrArg S0 (Fin.ext (by simp [lv, l2]))).trans (h0 p w)
  · have e : j = 1 := Fin.ext (by change j.val = 1; omega)
    subst e
    exact (congrArg S1 (Fin.ext (by simp [lv, l2]))).trans (h1 p w)
  · have e : j = 2 := Fin.ext (by change j.val = 2; omega)
    subst e
    exact (congrArg S2 (Fin.ext (by simp [lv, l2]; omega))).trans (h2 p w)
  · have e : j = 3 := Fin.ext (by change j.val = 3; omega)
    subst e
    exact (congrArg S3 (Fin.ext (by simp [lv, l2]; omega))).trans (h3 p w)

/-- The mean square over the head's lanes. -/
theorem msT_at (y : FVec Ideal S512x512 .f32) (r : Fin 512) (j : Fin 4) (p : Fin 2) (w : Fin 64) :
    msT y (ix2 r (lv j p w)) = ((∑ u, y (ix2 r (lv j p u)) * y (ix2 r (lv j p u))) * Ideal.ofBits FTy.f32 0x3C800000#32 : EReal) := by
  pointwise [msT]
  refine congrArg (· * Ideal.ofBits FTy.f32 0x3C800000#32) ?_
  have hy : ∀ a b : Fin 512, a = b → (y (ix2 r a) * y (ix2 r a) : EReal) = y (ix2 r b) * y (ix2 r b) := fun a b h => by rw [h]
  refine pickj (fun l => seg (extractStridedSlice S512x128 ![0, 0] (mulf y y) slices_S512x512_o0_0_S512x128) (ix2 r l))
    (fun l => seg (extractStridedSlice S512x128 ![0, 128] (mulf y y) slices_S512x512_o0_128_S512x128) (ix2 r l))
    (fun l => seg (extractStridedSlice S512x128 ![0, 256] (mulf y y) slices_S512x512_o0_256_S512x128) (ix2 r l))
    (fun l => seg (extractStridedSlice S512x128 ![0, 384] (mulf y y) slices_S512x512_o0_384_S512x128) (ix2 r l))
    (fun j p => ∑ u, y (ix2 r (lv j p u)) * y (ix2 r (lv j p u))) ?_ ?_ ?_ ?_ j p w
  · intro p w
    refine (seg_at _ r p w).trans (Finset.sum_congr rfl fun u _ => ?_)
    refine Eq.trans (b := (y (ix2 r ⟨0 + (l2 p u).val, by omega⟩) * y (ix2 r ⟨0 + (l2 p u).val, by omega⟩) : EReal)) ?_ (hy _ _ (Fin.ext (by simp [lv])))
    pointwise
  · intro p w
    refine (seg_at _ r p w).trans (Finset.sum_congr rfl fun u _ => ?_)
    refine Eq.trans (b := (y (ix2 r ⟨128 + (l2 p u).val, by omega⟩) * y (ix2 r ⟨128 + (l2 p u).val, by omega⟩) : EReal)) ?_ (hy _ _ (Fin.ext (by simp [lv])))
    pointwise
  · intro p w
    refine (seg_at _ r p w).trans (Finset.sum_congr rfl fun u _ => ?_)
    refine Eq.trans (b := (y (ix2 r ⟨256 + (l2 p u).val, by omega⟩) * y (ix2 r ⟨256 + (l2 p u).val, by omega⟩) : EReal)) ?_ (hy _ _ (Fin.ext (by simp [lv])))
    pointwise
  · intro p w
    refine (seg_at _ r p w).trans (Finset.sum_congr rfl fun u _ => ?_)
    refine Eq.trans (b := (y (ix2 r ⟨384 + (l2 p u).val, by omega⟩) * y (ix2 r ⟨384 + (l2 p u).val, by omega⟩) : EReal)) ?_ (hy _ _ (Fin.ext (by simp [lv])))
    pointwise

/-- The same, at the lanes of head `b` of group `g`. -/
theorem msT_tv (y : FVec Ideal S512x512 .f32) (r : Fin 512) (g : Fin 2) (b : Fin 4) (w : Fin 64) :
    msT y (ix2 r (tv g b w)) = ((∑ u, y (ix2 r (tv g b u)) * y (ix2 r (tv g b u))) * Ideal.ofBits FTy.f32 0x3C800000#32 : EReal) := by
  have e : ∀ u, tv g b u = lv ⟨g.val * 2 + b.val / 2, by omega⟩ ⟨b.val % 2, by omega⟩ u := fun u => Fin.ext (by simp [tv, lv, l2]; omega)
  simp only [e]
  exact msT_at y r _ _ w

/-- What the tile writes, at an index. -/
theorem outT_at (y z : FVec Ideal S512x512 .f32) (W : FVec Ideal S1x512 .f32) (r : Fin 512) (g : Fin 2) (b : Fin 4) (w : Fin 64) :
    outT y z W (ix3 0 r (tv g b w)) = (y (ix2 r (tv g b w)) * Ideal.rsqrt ((∑ u, y (ix2 r (tv g b u)) * y (ix2 r (tv g b u)))
        * Ideal.ofBits FTy.f32 0x3C800000#32 + Ideal.ofBits FTy.f32 0x358637BD#32) * W (ix2 0 (tv g b w))
      * (z (ix2 r (tv g b w)) * gate (z (ix2 r (tv g b w)))) : EReal) := by
  rw [← msT_tv]
  unfold gate
  pointwise [outT, k0_pay1, k0_pay222]
  rw [zero_sub]

/-- The rotation, from its cosine table and its two sine tables: one is zero on odd lanes, the other on even lanes. -/
theorem rot_pick (X C A B : Fin 256 → EReal) (s : ℕ) (g : Fin 2) (a : Fin 4) (d : Fin 32)
    (hC : C (tq g a d) = Ideal.cos (theta s (d.val / 2)))
    (hA : A (tq g a d) = if d.val % 2 = 0 then - Ideal.sin (theta s (d.val / 2)) else 0)
    (hB : B (tq g a d) = if d.val % 2 = 0 then 0 else Ideal.sin (theta s (d.val / 2))) :
    (if h : (tq g a d).val < 128 then
      X ⟨(tq g a d).val, (tq g a d).isLt⟩ * C (tq g a d) + X ⟨((tq g a d).val + 128 - 127) % 128, by omega⟩ * A (tq g a d)
        + X ⟨((tq g a d).val + 128 - 1) % 128, by omega⟩ * B (tq g a d)
    else
      X ⟨128 + ((tq g a d).val - 128), by omega⟩ * C ⟨128 + ((tq g a d).val - 128), by omega⟩
        + X ⟨128 + ((tq g a d).val - 128 + 128 - 127) % 128, by omega⟩ * A ⟨128 + ((tq g a d).val - 128), by omega⟩
        + X ⟨128 + ((tq g a d).val - 128 + 128 - 1) % 128, by omega⟩ * B ⟨128 + ((tq g a d).val - 128), by omega⟩)
      = rot (fun d => X (tq g a d)) s d := by
  have hl : (tq g a d).val = g.val * 128 + (a.val * 32 + d.val) := rfl
  unfold rot
  have key : ∀ (x0 x1 x2 : Fin 256), x0 = tq g a d → (d.val % 2 = 0 → x1 = tq g a ⟨(d.val + 1) % 32, by omega⟩) →
      (d.val % 2 ≠ 0 → x2 = tq g a ⟨d.val - 1, by omega⟩) →
      X x0 * C x0 + X x1 * A x0 + X x2 * B x0
        = if d.val % 2 = 0 then X (tq g a d) * Ideal.cos (theta s (d.val / 2)) - X (tq g a ⟨(d.val + 1) % 32, by omega⟩) * Ideal.sin (theta s (d.val / 2))
          else X (tq g a ⟨d.val - 1, by omega⟩) * Ideal.sin (theta s (d.val / 2)) + X (tq g a d) * Ideal.cos (theta s (d.val / 2)) := by
    intro x0 x1 x2 h0 h1 h2
    rw [h0, hC, hA, hB]
    by_cases hd : d.val % 2 = 0
    · simp only [if_pos hd]
      rw [h1 hd, mul_zero, add_zero, mul_neg, sub_eq_add_neg]
    · simp only [if_neg hd]
      rw [h2 hd, mul_zero, add_zero, add_comm]
  by_cases h : (tq g a d).val < 128
  · refine (dif_pos h).trans ?_
    exact key _ _ _ rfl (fun hd => Fin.ext (by simp only [tq]; omega)) (fun hd => Fin.ext (by simp only [tq]; omega))
  · refine (dif_neg h).trans ?_
    have e : (⟨128 + ((tq g a d).val - 128), by omega⟩ : Fin 256) = tq g a d := Fin.ext (by dsimp only; omega)
    rw [e]
    exact key _ _ _ rfl (fun hd => Fin.ext (by simp only [tq]; omega)) (fun hd => Fin.ext (by simp only [tq]; omega))

section Blocks

variable (x0 : Vec Ideal S1x512x1536 .f32) (x1 : Vec Ideal S512x256 .f32) (x2 : Vec Ideal S2x512x256 .f32) (r : Fin 512) (s : ℕ)
  (g : Fin 2) (a : Fin 4)

/-- The tile's queries are rotated. -/
theorem qT_at (d : Fin 32) (hC : x1 (ix2 r (tq g a d)) = Ideal.cos (theta s (d.val / 2)))
    (hA : x2 (ix3 0 r (tq g a d)) = if d.val % 2 = 0 then - Ideal.sin (theta s (d.val / 2)) else 0)
    (hB : x2 (ix3 1 r (tq g a d)) = if d.val % 2 = 0 then 0 else Ideal.sin (theta s (d.val / 2))) :
    qT x0 x1 x2 (ix2 r (tq g a d)) = rot (fun d => x0 (ix3 0 r ⟨(tq g a d).val, by omega⟩)) s d := by
  pointwise [qT, rotT, rotHalf]
  exact rot_pick (fun l => x0 (ix3 0 r ⟨l.val, by omega⟩)) (fun l => x1 (ix2 r l)) (fun l => x2 (ix3 0 r l)) (fun l => x2 (ix3 1 r l)) s g a d hC hA hB

/-- The tile's keys are rotated and scaled. -/
theorem kT_at (d : Fin 32) (hC : x1 (ix2 r (tq g a d)) = Ideal.cos (theta s (d.val / 2)))
    (hA : x2 (ix3 0 r (tq g a d)) = if d.val % 2 = 0 then - Ideal.sin (theta s (d.val / 2)) else 0)
    (hB : x2 (ix3 1 r (tq g a d)) = if d.val % 2 = 0 then 0 else Ideal.sin (theta s (d.val / 2))) :
    kT x0 x1 x2 (ix2 r (tq g a d)) = rot (fun d => x0 (ix3 0 r ⟨256 + (tq g a d).val, by omega⟩)) s d * Ideal.ofBits FTy.f32 0x3E3504F3#32 := by
  pointwise [kT, rotT, rotHalf]
  refine congrArg (· * Ideal.ofBits FTy.f32 0x3E3504F3#32) ?_
  exact rot_pick (fun l => x0 (ix3 0 r ⟨256 + l.val, by omega⟩)) (fun l => x1 (ix2 r l)) (fun l => x2 (ix3 0 r l)) (fun l => x2 (ix3 1 r l)) s g a d hC hA hB

theorem vT_at (l : Fin 512) : vT x0 (ix2 r l) = x0 (ix3 0 r ⟨512 + l.val, by omega⟩) := by
  pointwise [vT]

theorem zT_at (l : Fin 512) : zT x0 (ix2 r l) = x0 (ix3 0 r ⟨1024 + l.val, by omega⟩) := by
  pointwise [zT]

end Blocks

theorem drop_D (Y : Vec Ideal S1x256x256 .f32) (r l : Fin 256) :
    shapeCast S256x256 Y shapeCasts_S1x256x256_S256x256 (ix2 r l) = Y (ix3 0 r l) := by pointwise
theorem drop_Q (Y : Vec Ideal S1x64x128 .f32) (r : Fin 64) (l : Fin 128) :
    shapeCast S64x128 Y shapeCasts_S1x64x128_S64x128 (ix2 r l) = Y (ix3 0 r l) := by pointwise
theorem drop_S (Y : Vec Ideal S1x128x256 .f32) (r : Fin 128) (l : Fin 256) :
    shapeCast S128x256 Y shapeCasts_S1x128x256_S128x256 (ix2 r l) = Y (ix3 0 r l) := by pointwise
theorem add_S (Y : Vec Ideal S128x256 .f32) (r : Fin 128) (l : Fin 256) :
    shapeCast S1x128x256 Y shapeCasts_S128x256_S1x128x256 (ix3 0 r l) = Y (ix2 r l) := by pointwise

theorem dmatG_at (x : Vec Ideal S2x256x256 .f32) (g : Fin 2) (r l : Fin 256) : dmatG x g (ix2 r l) = x (ix3 g r l) := by
  refine (drop_D _ r l).trans ?_
  refine congrArg x (funext fun a => Fin.ext ?_)
  fin_cases a <;> simp

theorem decG_at (x : Vec Ideal S2x64x128 .f32) (g : Fin 2) (r : Fin 64) (l : Fin 128) : Hand.decG x g (ix2 r l) = x (ix3 g r l) := by
  refine (drop_Q _ r l).trans ?_
  refine congrArg x (funext fun a => Fin.ext ?_)
  fin_cases a <;> simp

theorem stG_at (x : Vec Ideal S2x128x256 .f32) (g : Fin 2) (r : Fin 128) (l : Fin 256) : stG x g (ix2 r l) = x (ix3 g r l) := by
  refine (drop_S _ r l).trans ?_
  refine congrArg x (funext fun a => Fin.ext ?_)
  fin_cases a <;> simp

end Cert.KernelIdeal.Hand

end
-- ==== Proof.RetTables.lean ====
/- The retention kernel's staged tables, read at an index. -/
module

public import proofs.«01_k».proof.Proof.RetOut
public import Idealize.ShloMosaic.Lib.StableHlo.ReadAt
public import Idealize.ShloMosaic.Lib.WordCmp

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Layer

variable (m : (ℓ : Loc nD τ sig) → Buf (Elt Ideal) ℓ) (c : Dev nD)

/-- The staged norm weight. -/
theorem nw_at (l : Fin 512) :
    (V m c main_v97 : FVec Ideal S1x512 .f32) (ix2 0 l) = (m ((c : Thread nD τ).loc main_arg1) : FVec Ideal S512 .f32) (ix1 l) := by
  unfold V
  after_reads_at

/-- The decay over a chunk, on its rows' heads. -/
theorem gam_at (g : Fin 2) (a : Fin 4) (d : Fin 32) (w : Fin 256) :
    (V m c main_v96 : FVec Ideal S2x128x256 .f32) (ix3 g (l4 a d) w) = Layer.decG (g.val * 4 + a.val) := by
  have e : (l4 a d).val / 32 = a.val := by simp only [l4]; omega
  rw [← e]
  unfold V
  after_reads_at
  rfl

/-- The decay from the chunk's start, on its lanes' heads. -/
theorem qd_at (g : Fin 2) (i : Fin 64) (a : Fin 4) (d : Fin 32) :
    (V m c main_v81 : FVec Ideal S2x64x128 .f32) (ix3 g i (l4 a d)) = decQ (g.val * 4 + a.val) i := by
  have e : (l4 a d).val / 32 = a.val := by simp only [l4]; omega
  rw [← e]
  unfold V
  after_reads_at
  rfl

/-- The decay to the chunk's end, on its lanes' heads. -/
theorem kt_at (g : Fin 2) (i : Fin 64) (a : Fin 4) (d : Fin 32) :
    (V m c main_v89 : FVec Ideal S2x64x128 .f32) (ix3 g i (l4 a d)) = decK (g.val * 4 + a.val) i := by
  have e : (l4 a d).val / 32 = a.val := by simp only [l4]; omega
  rw [← e]
  unfold V
  after_reads_at
  rfl

/-- Whether two heads are the same, as a number. -/
theorem same_head (n k : ℕ) (hn : n < 4) (hk : k < 4) :
    (FloatOps.uitofp FTy.f32 (IntOp.cmpi CmpIPredicate.eq (IntOp.addi (BitVec.ofNat 32 n) 0#32) (BitVec.ofNat 32 k)) : Ideal .f32) = if n = k then 1 else 0 := by
  have e : IntOp.cmpi CmpIPredicate.eq (IntOp.addi (BitVec.ofNat 32 n) 0#32) (BitVec.ofNat 32 k) = BitVec.ofBool (decide (n = k)) := by
    rw [show IntOp.addi (BitVec.ofNat 32 n) 0#32 = BitVec.ofNat 32 n from BitVec.add_zero _]
    word_cmp
  rw [e]
  by_cases h : n = k
  · simp [h, FloatOps.uitofp]
  · simp [h, FloatOps.uitofp]

/-- The decay inside a chunk: zero between different heads. -/
theorem dm_at (g : Fin 2) (a b : Fin 4) (i j : Fin 64) :
    (V m c main_v71 : FVec Ideal S2x256x256 .f32) (ix3 g (r4 a i) (r4 b j)) = if a = b then decD (g.val * 4 + a.val) i j else 0 := by
  have ea : (r4 a i).val / 64 = a.val := by simp only [r4]; omega
  have ei : (r4 a i).val % 64 = i.val := by simp only [r4]; omega
  have eb : (r4 b j).val / 64 = b.val := by simp only [r4]; omega
  have ej : (r4 b j).val % 64 = j.val := by simp only [r4]; omega
  have e : (V m c main_v71 : FVec Ideal S2x256x256 .f32) (ix3 g (r4 a i) (r4 b j))
      = (decD (g.val * 4 + (r4 a i).val / 64) ((r4 a i).val % 64) ((r4 b j).val % 64)
        * (FloatOps.uitofp FTy.f32 (IntOp.cmpi CmpIPredicate.eq (IntOp.addi (BitVec.ofNat 32 ((r4 a i).val / 64)) 0#32) (BitVec.ofNat 32 ((r4 b j).val / 64))) : Ideal .f32) : EReal) := by
    unfold V
    after_reads_at
    rfl
  rw [e, ea, ei, eb, ej, same_head _ _ a.isLt b.isLt]
  by_cases h : a = b
  · rw [if_pos h, if_pos (congrArg Fin.val h), mul_one]
  · rw [if_neg h, if_neg (fun h' => h (Fin.ext h')), mul_zero]

/-- The angles' cosines. -/
theorem cos_at (s : Fin 4096) (l : Fin 256) :
    (V m c main_v16 : FVec Ideal S4096x256 .f32) (ix2 s l) = Ideal.cos (theta s (l.val % 32 / 2)) := by
  unfold V
  after_reads_at
  split
  · after_reads_at
    unfold theta lin
    rw [if_pos ‹_›]
    rfl
  · after_reads_at
    unfold theta lin
    rw [if_neg ‹_›]
    rfl

/-- Whether a word is a multiple of another: its remainder, with the divisor's sign, is zero. -/
def evenBit (w t : BitVec 32) : BitVec 1 :=
  IntOp.cmpi CmpIPredicate.eq
    (Scalar.select
      (IntOp.andi
        (IntOp.cmpi CmpIPredicate.ne
          (IntOp.cmpi CmpIPredicate.slt (IntOp.remsi ArithUnit.host w (Scalar.select (IntOp.cmpi CmpIPredicate.eq t 0#32) (1#32) t)) 0#32)
          (IntOp.cmpi CmpIPredicate.slt (Scalar.select (IntOp.cmpi CmpIPredicate.eq t 0#32) (1#32) t) 0#32))
        (IntOp.cmpi CmpIPredicate.ne (IntOp.remsi ArithUnit.host w (Scalar.select (IntOp.cmpi CmpIPredicate.eq t 0#32) (1#32) t)) 0#32))
      (IntOp.addi (IntOp.remsi ArithUnit.host w (Scalar.select (IntOp.cmpi CmpIPredicate.eq t 0#32) (1#32) t))
        (Scalar.select (IntOp.cmpi CmpIPredicate.eq t 0#32) (1#32) t))
      (IntOp.remsi ArithUnit.host w (Scalar.select (IntOp.cmpi CmpIPredicate.eq t 0#32) (1#32) t)))
    0#32

theorem evenBit_at : ∀ l : Fin 256, evenBit (BitVec.ofNat 32 l.val) 2#32 = BitVec.ofBool (decide (l.val % 2 = 0)) := by decide +kernel

/-- The negated sines, on even lanes. -/
theorem sinA_at_raw (s : Fin 4096) (l : Fin 256) (z : EReal) (hz : z = Ideal.ofBits FTy.f32 0#32) :
    (V m c main_v33 : FVec Ideal S2x4096x256 .f32) (ix3 0 s l)
      = Scalar.select (evenBit (BitVec.ofNat 32 l.val) 2#32) (-Ideal.sin (theta s (l.val % 32 / 2))) (z) := by
  unfold V
  after_reads_at
  split
  · after_reads_at
    unfold theta lin
    rw [if_pos ‹_›, hz]
    rfl
  · after_reads_at
    unfold theta lin
    rw [if_neg ‹_›, hz]
    rfl

/-- The negated sines, on even lanes. -/
theorem sinA_at (s : Fin 4096) (l : Fin 256) : (V m c main_v33 : FVec Ideal S2x4096x256 .f32) (ix3 0 s l) = if l.val % 2 = 0 then - Ideal.sin (theta s (l.val % 32 / 2)) else 0 := by
  rw [sinA_at_raw m c s l 0 (by simp), evenBit_at]
  by_cases h : l.val % 2 = 0 <;> simp [h, Scalar.select]

/-- The sines, on odd lanes. -/
theorem sinB_at_raw (s : Fin 4096) (l : Fin 256) (z : EReal) (hz : z = Ideal.ofBits FTy.f32 0#32) :
    (V m c main_v33 : FVec Ideal S2x4096x256 .f32) (ix3 1 s l)
      = Scalar.select (evenBit (BitVec.ofNat 32 l.val) 2#32) (z) (Ideal.sin (theta s (l.val % 32 / 2))) := by
  unfold V
  after_reads_at
  split
  · after_reads_at
    unfold theta lin
    rw [if_pos ‹_›, hz]
    rfl
  · after_reads_at
    unfold theta lin
    rw [if_neg ‹_›, hz]
    rfl

/-- The sines, on odd lanes. -/
theorem sinB_at (s : Fin 4096) (l : Fin 256) : (V m c main_v33 : FVec Ideal S2x4096x256 .f32) (ix3 1 s l) = if l.val % 2 = 0 then 0 else Ideal.sin (theta s (l.val % 32 / 2)) := by
  rw [sinB_at_raw m c s l 0 (by simp), evenBit_at]
  by_cases h : l.val % 2 = 0 <;> simp [h, Scalar.select]

end Cert.KernelIdeal.Hand

end
-- ==== Proof.RetOpen.lean ====
module

public import proofs.«01_k».proof.Proof.RetOps
public import Idealize.ShloMosaic.Lib.Pipeline.ReadBack

/-! The retention's launch, opened: what one grid point leaves in the output block and in the carried
state, in the words of RetOps.lean, in each of the two cases (first tile of a batch, later tile). -/

@[expose] public section
set_option maxRecDepth 16384
noncomputable section
namespace Cert.KernelIdeal.Hand
open Idealize.ShloMosaic Idealize.ShloMosaic.TcCoe Idealize.ShloMosaic.Tactic Idealize.SL.Sem
open Cert.KernelIdeal Cert.KernelIdeal.Gen
variable {F : FTy → Type} [FloatOps F] (m : (ℓ : Loc nD τ sig) → Buf (Elt F) ℓ)

/-- The first tile's output block: the state begins at zero. -/
theorem outA (c : Dev nD) (t : Fin cfg0.N) (h : t.val % 8 = 0) : (outsAt0 m c t.val t.isLt).1 =
    tileOut (iblk m c 0 t) (iblk m c 1 t) (iblk m c 2 t) (iblk m c 3 t) (iblk m c 4 t) (iblk m c 5 t) (iblk m c 6 t) (iblk m c 7 t)
      (stG k0_pay2 0) (stG k0_pay2 1) := by
  rw [outsAt0_A m c t h]; dsimp only; frame_out
  simp -failIfUnchanged (disch := decide) only [↓ View.readCov_skip, ↓ View.readCov_cons_toLoadRect, ↓ View.readCov_fill]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  sl_kernel_rfl

/-- The first tile's state: one block for each group of heads, over the zero that it began from. -/
theorem stA (c : Dev nD) (t : Fin cfg0.N) (h : t.val % 8 = 0) : (outsAt0 m c t.val t.isLt).2 =
    View.canon
      [⟨Rect.unit ![1, 0, 0] ![1, 128, 256] inb_S2x128x256_S1x128x256_1_0_0, tileSt (iblk m c 0 t) (iblk m c 1 t) (iblk m c 2 t) (iblk m c 5 t) (iblk m c 6 t) 1 (stG k0_pay2 1)⟩,
       ⟨Rect.unit ![0, 0, 0] ![1, 128, 256] inb_S2x128x256_S1x128x256_0_0_0, tileSt (iblk m c 0 t) (iblk m c 1 t) (iblk m c 2 t) (iblk m c 5 t) (iblk m c 6 t) 0 (stG k0_pay2 0)⟩,
       ⟨Rect.unit ![0, 0, 0] ![2, 128, 256] inb_S2x128x256_S2x128x256_0_0_0, k0_pay2⟩] := by
  rw [outsAt0_A m c t h]; dsimp only; frame_out
  simp -failIfUnchanged (disch := decide) only [↓ View.readCov_skip, ↓ View.readCov_cons_toLoadRect, ↓ View.readCov_fill]
  generalize iblk m c 0 t = x0
  generalize iblk m c 1 t = x1
  generalize iblk m c 2 t = x2
  generalize iblk m c 5 t = x5
  generalize iblk m c 6 t = x6
  sl_kernel_rfl

/-- A later tile's output block, from the state that the tile before it left. -/
theorem outB (c : Dev nD) (t : Fin cfg0.N) (h : ¬ t.val % 8 = 0) : (outsAt0 m c t.val t.isLt).1 =
    tileOut (iblk m c 0 t) (iblk m c 1 t) (iblk m c 2 t) (iblk m c 3 t) (iblk m c 4 t) (iblk m c 5 t) (iblk m c 6 t) (iblk m c 7 t)
      (stG (outsAt0 m c (t.val - 1) (Nat.lt_of_le_of_lt (Nat.sub_le _ _) t.isLt)).2 0) (stG (outsAt0 m c (t.val - 1) (Nat.lt_of_le_of_lt (Nat.sub_le _ _) t.isLt)).2 1) := by
  rw [outsAt0_B m c t h]; dsimp only; frame_out
  generalize (outsAt0 m c (t.val - 1) (Nat.lt_of_le_of_lt (Nat.sub_le _ _) t.isLt)).2 = S
  rw [read_unread_whole]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  sl_kernel_rfl

/-- A later tile's state: one block for each group of heads. -/
theorem stB (c : Dev nD) (t : Fin cfg0.N) (h : ¬ t.val % 8 = 0) : (outsAt0 m c t.val t.isLt).2 =
    View.canon
      [⟨Rect.unit ![1, 0, 0] ![1, 128, 256] inb_S2x128x256_S1x128x256_1_0_0, tileSt (iblk m c 0 t) (iblk m c 1 t) (iblk m c 2 t) (iblk m c 5 t) (iblk m c 6 t) 1 (stG (outsAt0 m c (t.val - 1) (Nat.lt_of_le_of_lt (Nat.sub_le _ _) t.isLt)).2 1)⟩,
       ⟨Rect.unit ![0, 0, 0] ![1, 128, 256] inb_S2x128x256_S1x128x256_0_0_0, tileSt (iblk m c 0 t) (iblk m c 1 t) (iblk m c 2 t) (iblk m c 5 t) (iblk m c 6 t) 0 (stG (outsAt0 m c (t.val - 1) (Nat.lt_of_le_of_lt (Nat.sub_le _ _) t.isLt)).2 0)⟩] := by
  rw [outsAt0_B m c t h]; dsimp only; frame_out
  generalize (outsAt0 m c (t.val - 1) (Nat.lt_of_le_of_lt (Nat.sub_le _ _) t.isLt)).2 = S
  rw [read_unread_whole]
  generalize iblk m c 0 t = x0
  generalize iblk m c 1 t = x1
  generalize iblk m c 2 t = x2
  generalize iblk m c 5 t = x5
  generalize iblk m c 6 t = x6
  sl_kernel_rfl

end Cert.KernelIdeal.Hand
end
-- ==== Proof.RetBlocks.lean ====
/- The retention kernel's blocks at a grid point, and the tile that it computes from them. -/
module

public import proofs.«01_k».proof.Proof.RetTables
public import proofs.«01_k».proof.Proof.RetOpen

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Layer

variable (m : (ℓ : Loc nD τ sig) → Buf (Elt Ideal) ℓ) (c : Dev nD)

/-- Point `t` is tile `t % 8` of batch `t / 8`: it takes the tile's 512 tokens, the angles' rows for them, and the whole
    of the other tables. -/
theorem idx : ∀ t : Fin cfg0.N, win0_0.index t = ![t.val / 8, t.val % 8, 0] ∧ win0_1.index t = ![t.val % 8, 0] ∧ win0_2.index t = ![0, t.val % 8, 0]
    ∧ win0_3.index t = ![0, 0, 0] ∧ win0_4.index t = ![0, 0, 0] ∧ win0_5.index t = ![0, 0, 0] ∧ win0_6.index t = ![0, 0, 0]
    ∧ win0_7.index t = ![0, 0] ∧ win0_8.index t = ![t.val / 8, t.val % 8, 0] :=
  (by decide +kernel : ∀ t : Fin grid0.N, _)

/-- The batch of grid point `t`. -/
def bt (t : Fin cfg0.N) : Fin 8 := ⟨t.val / 8, by have h : t.val < 64 := lt_of_lt_of_eq t.isLt N_0; omega⟩

/-- The token of row `r` of grid point `t`. -/
def tk (t : Fin cfg0.N) (r : Fin 512) : Fin 4096 := ⟨t.val % 8 * 512 + r.val, by omega⟩

variable (t : Fin cfg0.N)

theorem blk0_at (r : Fin 512) (l : Fin 1536) :
    (iblk m c 0 t : Vec Ideal S1x512x1536 .f32) (ix3 0 r l) = (m ((c : Thread nD τ).loc main_arg0) : FVec Ideal S8x4096x1536 .f32) (ix3 (bt t) (tk t r) l) := by
  blk_point [iblk, V_main_arg0, idx t]
  all_goals rfl

theorem blk1_at (r : Fin 512) (l : Fin 256) :
    (iblk m c 1 t : Vec Ideal S512x256 .f32) (ix2 r l) = (V m c main_v16 : FVec Ideal S4096x256 .f32) (ix2 (tk t r) l) := by
  blk_point [iblk, idx t]
  all_goals rfl

theorem blk2_at (g : Fin 2) (r : Fin 512) (l : Fin 256) :
    (iblk m c 2 t : Vec Ideal S2x512x256 .f32) (ix3 g r l) = (V m c main_v33 : FVec Ideal S2x4096x256 .f32) (ix3 g (tk t r) l) := by
  blk_point [iblk, idx t]
  all_goals rfl

theorem blk3_at (g : Fin 2) (r l : Fin 256) :
    (iblk m c 3 t : Vec Ideal S2x256x256 .f32) (ix3 g r l) = (V m c main_v71 : FVec Ideal S2x256x256 .f32) (ix3 g r l) := by
  blk_point [iblk, idx t]

theorem blk4_at (g : Fin 2) (r : Fin 64) (l : Fin 128) :
    (iblk m c 4 t : Vec Ideal S2x64x128 .f32) (ix3 g r l) = (V m c main_v81 : FVec Ideal S2x64x128 .f32) (ix3 g r l) := by
  blk_point [iblk, idx t]

theorem blk5_at (g : Fin 2) (r : Fin 64) (l : Fin 128) :
    (iblk m c 5 t : Vec Ideal S2x64x128 .f32) (ix3 g r l) = (V m c main_v89 : FVec Ideal S2x64x128 .f32) (ix3 g r l) := by
  blk_point [iblk, idx t]

theorem blk6_at (g : Fin 2) (r : Fin 128) (l : Fin 256) :
    (iblk m c 6 t : Vec Ideal S2x128x256 .f32) (ix3 g r l) = (V m c main_v96 : FVec Ideal S2x128x256 .f32) (ix3 g r l) := by
  blk_point [iblk, idx t]

theorem blk7_at (l : Fin 512) :
    (iblk m c 7 t : Vec Ideal S1x512 .f32) (ix2 0 l) = (V m c main_v97 : FVec Ideal S1x512 .f32) (ix2 0 l) := by
  blk_point [iblk, idx t]

/-- Head `a` of group `g`. -/
def hd (g : Fin 2) (a : Fin 4) : Fin 8 := ⟨g.val * 4 + a.val, by omega⟩

theorem tok_tile (n : Fin 8) (i : Fin 64) : tok (t.val % 8 * 8 + n.val) i = tk t (tr n i) :=
  Fin.ext (by simp only [tok, tk, tr]; omega)

/-- The program's argument arrays: the projected tokens and the norm weight. -/
abbrev argP : FVec Ideal S8x4096x1536 .f32 := m ((c : Thread nD τ).loc main_arg0)
abbrev argW : FVec Ideal S512 .f32 := m ((c : Thread nD τ).loc main_arg1)

/-- Lane `d` of a head, counted among all heads' lanes. -/
theorem tq_mod (g : Fin 2) (a : Fin 4) (d : Fin 32) : (tq g a d).val % 32 = d.val := by simp only [tq]; omega
theorem tq_mod2 (g : Fin 2) (a : Fin 4) (d : Fin 32) : (tq g a d).val % 2 = d.val % 2 := by simp only [tq]; omega

theorem q_at (g : Fin 2) (n : Fin 8) (a : Fin 4) (i : Fin 64) (d : Fin 32) :
    qT (iblk m c 0 t) (iblk m c 1 t) (iblk m c 2 t) (ix2 (tr n i) (tq g a d)) = rq (argP m c) (bt t) (hd g a) (tok (t.val % 8 * 8 + n.val) i) d := by
  rw [tok_tile]
  refine (qT_at _ _ _ (tr n i) (tk t (tr n i)).val g a d ?_ ?_ ?_).trans ?_
  · rw [blk1_at, cos_at, tq_mod]
  · rw [blk2_at, sinA_at, tq_mod, tq_mod2]
  · rw [blk2_at, sinB_at, tq_mod, tq_mod2]
  · unfold rq
    refine congrArg (fun x => rot x (tk t (tr n i)).val d) (funext fun d => ?_)
    rw [blk0_at]
    exact congrArg (argP m c) ((ix3_inj ..).2 ⟨rfl, rfl, Fin.ext (by simp only [tq, hd]; omega)⟩)

theorem k_at (g : Fin 2) (n : Fin 8) (a : Fin 4) (i : Fin 64) (d : Fin 32) :
    kT (iblk m c 0 t) (iblk m c 1 t) (iblk m c 2 t) (ix2 (tr n i) (tq g a d)) = rk (argP m c) (bt t) (hd g a) (tok (t.val % 8 * 8 + n.val) i) d := by
  rw [tok_tile]
  refine (kT_at _ _ _ (tr n i) (tk t (tr n i)).val g a d ?_ ?_ ?_).trans ?_
  · rw [blk1_at, cos_at, tq_mod]
  · rw [blk2_at, sinA_at, tq_mod, tq_mod2]
  · rw [blk2_at, sinB_at, tq_mod, tq_mod2]
  · unfold rk
    refine congrArg (fun x => rot x (tk t (tr n i)).val d * Ideal.ofBits FTy.f32 0x3E3504F3#32) (funext fun d => ?_)
    rw [blk0_at]
    exact congrArg (argP m c) ((ix3_inj ..).2 ⟨rfl, rfl, Fin.ext (by simp only [tq, hd]; omega)⟩)

theorem v_at (g : Fin 2) (n : Fin 8) (a : Fin 4) (i w : Fin 64) :
    vT (iblk m c 0 t) (ix2 (tr n i) (tv g a w)) = rv (argP m c) (bt t) (hd g a) (tok (t.val % 8 * 8 + n.val) i) w := by
  rw [tok_tile, vT_at, blk0_at]
  exact congrArg (argP m c) ((ix3_inj ..).2 ⟨rfl, rfl, Fin.ext (by simp only [tv, hd]; omega)⟩)

theorem z_at (g : Fin 2) (n : Fin 8) (a : Fin 4) (i w : Fin 64) :
    zT (iblk m c 0 t) (ix2 (tr n i) (tv g a w)) = argP m c (ix3 (bt t) (tok (t.val % 8 * 8 + n.val) i) ⟨1024 + ((hd g a).val * 64 + w.val), by omega⟩) := by
  rw [tok_tile, zT_at, blk0_at]
  exact congrArg (argP m c) ((ix3_inj ..).2 ⟨rfl, rfl, Fin.ext (by simp only [tv, hd]; omega)⟩)

theorem d_at (g : Fin 2) (a b : Fin 4) (i j : Fin 64) :
    dmatG (iblk m c 3 t) g (ix2 (r4 a i) (r4 b j)) = if a = b then decD (hd g a).val i j else 0 := by
  rw [dmatG_at, blk3_at, dm_at]; rfl

theorem qdec_at (g : Fin 2) (a : Fin 4) (i : Fin 64) (d : Fin 32) :
    Hand.decG (iblk m c 4 t) g (ix2 i (l4 a d)) = decQ (hd g a).val i := by
  rw [decG_at, blk4_at, qd_at]; rfl

theorem ktail_at (g : Fin 2) (a : Fin 4) (i : Fin 64) (d : Fin 32) :
    Hand.decG (iblk m c 5 t) g (ix2 i (l4 a d)) = decK (hd g a).val i := by
  rw [decG_at, blk5_at, kt_at]; rfl

theorem gamma_at (g : Fin 2) (a : Fin 4) (d : Fin 32) (b : Fin 4) (w : Fin 64) :
    stG (iblk m c 6 t) g (ix2 (l4 a d) (r4 b w)) = Layer.decG (hd g a).val := by
  rw [stG_at, blk6_at, gam_at]; rfl

/-- A state: each head's own, and nothing between different heads. -/
def IsState (S : Vec Ideal S2x128x256 .f32) (b : Fin 8) (n : ℕ) : Prop :=
  ∀ (g : Fin 2) (a : Fin 4) (d : Fin 32) (a' : Fin 4) (w : Fin 64),
    S (ix3 g (l4 a d) (r4 a' w)) = if a = a' then rs (argP m c) b (hd g a) n d w else 0

/-- The state after a tile, from the state before it. -/
theorem tileSt_at (S : Vec Ideal S2x128x256 .f32) (hS : IsState m c S (bt t) (t.val % 8 * 8)) (g : Fin 2) (a : Fin 4) (d : Fin 32) (a' : Fin 4) (w : Fin 64) :
    tileSt (iblk m c 0 t) (iblk m c 1 t) (iblk m c 2 t) (iblk m c 5 t) (iblk m c 6 t) g (stG S g) (ix3 0 (l4 a d) (r4 a' w))
      = if a = a' then rs (argP m c) (bt t) (hd g a) (t.val % 8 * 8 + 8) d w else 0 :=
  (add_S _ _ _).trans (stAt_at _ _ _ _ g (stG S g) (t.val % 8 * 8)
    (fun a n i d => rk (argP m c) (bt t) (hd g a) (tok n i) d)
    (fun a n i w => rv (argP m c) (bt t) (hd g a) (tok n i) w)
    (fun a i => decK (hd g a).val i) (fun a => Layer.decG (hd g a).val)
    (fun n a i d => k_at m c t g n a i d) (fun n a i w => v_at m c t g n a i w) (fun a i d => ktail_at m c t g a i d)
    (fun a d b w => gamma_at m c t g a d b w) (fun a d b w => (stG_at S g _ _).trans (hS g a d b w)) 8 le_rfl a d a' w)

/-- What a tile writes, from the state before it. -/
theorem tileOut_at (S : Vec Ideal S2x128x256 .f32) (hS : IsState m c S (bt t) (t.val % 8 * 8)) (n : Fin 8) (i : Fin 64) (g : Fin 2) (a : Fin 4) (w : Fin 64) :
    tileOut (iblk m c 0 t) (iblk m c 1 t) (iblk m c 2 t) (iblk m c 3 t) (iblk m c 4 t) (iblk m c 5 t) (iblk m c 6 t) (iblk m c 7 t) (stG S 0) (stG S 1)
        (ix3 0 (tr n i) (tv g a w))
      = rout (argP m c) (argW m c) (bt t) (hd g a) (t.val % 8 * 8 + n.val) i w := by
  unfold tileOut
  have hy : ∀ w, yTile (qT (iblk m c 0 t) (iblk m c 1 t) (iblk m c 2 t)) (kT (iblk m c 0 t) (iblk m c 1 t) (iblk m c 2 t)) (vT (iblk m c 0 t))
      (iblk m c 3 t) (iblk m c 4 t) (iblk m c 5 t) (iblk m c 6 t) (stG S 0) (stG S 1) (ix2 (tr n i) (tv g a w))
      = ry (argP m c) (bt t) (hd g a) (t.val % 8 * 8 + n.val) i w := fun w =>
    (yTile_at _ _ _ _ _ _ _ (fun g => stG S g) g _ a w).trans ((yGroup_at _ _ _ _ _ _ _ _ _ n i _).trans
      (yAt_at (qT (iblk m c 0 t) (iblk m c 1 t) (iblk m c 2 t)) (kT (iblk m c 0 t) (iblk m c 1 t) (iblk m c 2 t)) (vT (iblk m c 0 t))
        (iblk m c 3 t) (iblk m c 4 t) (iblk m c 5 t) (iblk m c 6 t) g (stG S g) (t.val % 8 * 8)
        (fun a n i d => rq (argP m c) (bt t) (hd g a) (tok n i) d) (fun a n i d => rk (argP m c) (bt t) (hd g a) (tok n i) d)
        (fun a n i w => rv (argP m c) (bt t) (hd g a) (tok n i) w) (fun a i j => decD (hd g a).val i j) (fun a i => decQ (hd g a).val i)
        (fun a i => decK (hd g a).val i) (fun a => Layer.decG (hd g a).val)
        (fun n a i d => q_at m c t g n a i d) (fun n a i d => k_at m c t g n a i d) (fun n a i w => v_at m c t g n a i w)
        (fun a b i j => d_at m c t g a b i j) (fun a i d => qdec_at m c t g a i d) (fun a i d => ktail_at m c t g a i d)
        (fun a d b w => gamma_at m c t g a d b w) (fun a d b w => (stG_at S g _ _).trans (hS g a d b w)) n i a w))
  have hz := fun w => z_at m c t g n a i w
  have hw : ∀ l, (iblk m c 7 t : Vec Ideal S1x512 .f32) (ix2 0 l) = argW m c (ix1 l) := fun l => (blk7_at m c t l).trans (nw_at m c l)
  generalize yTile (qT (iblk m c 0 t) (iblk m c 1 t) (iblk m c 2 t)) (kT (iblk m c 0 t) (iblk m c 1 t) (iblk m c 2 t)) (vT (iblk m c 0 t))
      (iblk m c 3 t) (iblk m c 4 t) (iblk m c 5 t) (iblk m c 6 t) (stG S 0) (stG S 1) = y at hy ⊢
  generalize zT (iblk m c 0 t) = z at hz ⊢
  generalize (iblk m c 7 t : Vec Ideal S1x512 .f32) = W at hw ⊢
  refine (outT_at y z W (tr n i) g a w).trans ?_
  simp only [hy, hz, hw]
  unfold rout
  have e : argW m c (ix1 (tv g a w)) = argW m c (ix1 ⟨(hd g a).val * 64 + w.val, by omega⟩) :=
    congrArg (argW m c) ((ix1_inj ..).2 (Fin.ext (by simp only [tv, hd]; omega)))
  rw [e]

end Cert.KernelIdeal.Hand

end
-- ==== Proof.RetKernel.lean ====
/- The retention kernel's result: the state carried over a batch's tiles, and the array that the tiles fill. -/
module

public import proofs.«01_k».proof.Proof.RetBlocks

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Layer
open Idealize.ShloMosaic.Pipeline (Dat)

variable (m : (ℓ : Loc nD τ sig) → Buf (Elt Ideal) ℓ) (c : Dev nD)

/-- The block of the second group of heads in the carried state. -/
abbrev rowOne : Rect S2x128x256 := Rect.unit ![1, 0, 0] ![1, 128, 256] inb_S2x128x256_S1x128x256_1_0_0
/-- The block of the first group of heads in the carried state. -/
abbrev rowZero : Rect S2x128x256 := Rect.unit ![0, 0, 0] ![1, 128, 256] inb_S2x128x256_S1x128x256_0_0_0

section Canon

variable (A B : Vec Ideal S1x128x256 .f32) (L : List (View.Piece (Elt Ideal) S2x128x256 .f32))

theorem canon_one (r : Fin 128) (l : Fin 256) :
    View.canon (⟨rowOne, A⟩ :: L) (ix3 1 r l) = A (ix3 0 r l) := by
  refine Eq.trans (congrArg _ ?_) (View.canon_cons_emb rowOne A L (ix3 0 r l))
  refine funext fun a => Fin.ext ?_
  fin_cases a
  · show 1 = 1 + 1 * 0; rfl
  · show r.val = 0 + 1 * r.val; omega
  · show l.val = 0 + 1 * l.val; omega

theorem canon_zero (r : Fin 128) (l : Fin 256) :
    View.canon (⟨rowOne, A⟩
      :: ⟨rowZero, B⟩ :: L) (ix3 0 r l) = B (ix3 0 r l) := by
  refine (View.canon_cons_of_not_mem _ _ ?_).trans (Eq.trans (congrArg _ ?_)
    (View.canon_cons_emb rowZero B L (ix3 0 r l)))
  · intro h
    have h0 := ((Rect.mem_set_unit (inb := inb_S2x128x256_S1x128x256_1_0_0) (i := ix3 0 r l)).1 h (0 : Fin 3)).1
    have h1 : 1 ≤ 0 := h0
    omega
  · refine funext fun a => Fin.ext ?_
    fin_cases a
    · show 0 = 0 + 1 * 0; rfl
    · show r.val = 0 + 1 * r.val; omega
    · show l.val = 0 + 1 * l.val; omega

end Canon

/-- The state that a batch begins from. -/
theorem isState_zero (b : Fin 8) : IsState m c (k0_pay2 (F := Ideal)) b 0 := by
  intro g a d a' w
  refine Eq.trans (b := (0 : EReal)) (by pointwise [k0_pay2]) ?_
  split <;> rfl

/-- Two blocks, one for each group of heads, make a state. -/
theorem isState_canon (t : Fin cfg0.N) (n : ℕ) (A : Fin 2 → Vec Ideal S1x128x256 .f32) (L : List (View.Piece (Elt Ideal) S2x128x256 .f32))
    (h : ∀ g a d a' w, A g (ix3 0 (l4 a d) (r4 a' w)) = if a = a' then rs (argP m c) (bt t) (hd g a) n d w else 0) :
    IsState m c (View.canon (⟨rowOne, A 1⟩
      :: ⟨rowZero, A 0⟩ :: L)) (bt t) n := by
  intro g a d a' w
  obtain ⟨g, hg⟩ := g
  interval_cases g
  · exact (canon_zero _ _ L _ _).trans (h 0 a d a' w)
  · exact (canon_one _ _ _ _).trans (h 1 a d a' w)

/-- What a tile leaves as the state, from a state. -/
theorem isState_tile (t : Fin cfg0.N) (S : Vec Ideal S2x128x256 .f32) (hS : IsState m c S (bt t) (t.val % 8 * 8))
    (L : List (View.Piece (Elt Ideal) S2x128x256 .f32)) :
    IsState m c (View.canon (⟨rowOne, tileSt (iblk m c 0 t) (iblk m c 1 t) (iblk m c 2 t) (iblk m c 5 t) (iblk m c 6 t) 1 (stG S 1)⟩
      :: ⟨rowZero, tileSt (iblk m c 0 t) (iblk m c 1 t) (iblk m c 2 t) (iblk m c 5 t) (iblk m c 6 t) 0 (stG S 0)⟩ :: L)) (bt t) (t.val % 8 * 8 + 8) :=
  isState_canon m c t _ (fun g => tileSt (iblk m c 0 t) (iblk m c 1 t) (iblk m c 2 t) (iblk m c 5 t) (iblk m c 6 t) g (stG S g)) L
    (tileSt_at m c t S hS)

/-- The first tile of a batch begins from the zero state. -/
theorem isState_first (t : Fin cfg0.N) (h : t.val % 8 = 0) : IsState m c (k0_pay2 (F := Ideal)) (bt t) (t.val % 8 * 8) := by
  have e : t.val % 8 * 8 = 0 := by omega
  rw [e]
  exact isState_zero m c _

/-- A state before tile `t`, from the state after tile `t - 1` of the same batch. -/
theorem isState_next (t : Fin cfg0.N) (h : ¬ t.val % 8 = 0) (S : Vec Ideal S2x128x256 .f32) (s : Fin cfg0.N) (hs : s.val = t.val - 1)
    (ih : IsState m c S (bt s) (s.val % 8 * 8 + 8)) : IsState m c S (bt t) (t.val % 8 * 8) := by
  have eb : bt s = bt t := Fin.ext (by simp only [bt]; omega)
  have en : s.val % 8 * 8 + 8 = t.val % 8 * 8 := by omega
  rw [eb, en] at ih
  exact ih

/-- After tile `t`, the carried state is the state after the tile's chunks. -/
theorem isState_after (k : ℕ) : ∀ (t : Fin cfg0.N), t.val % 8 = k → IsState m c (outsAt0 m c t.val t.isLt).2 (bt t) (t.val % 8 * 8 + 8) := by
  induction k with
  | zero =>
    intro t h
    have e := stA m c t h
    generalize (outsAt0 m c t.val t.isLt).2 = S at e ⊢
    subst e
    exact isState_tile m c t _ (isState_first m c t h) _
  | succ k ih =>
    intro t h
    have hi := isState_next m c t (by omega) _ _ rfl (ih ⟨t.val - 1, Nat.lt_of_le_of_lt (Nat.sub_le _ _) t.isLt⟩ (by dsimp only; omega))
    have e := stB m c t (by omega)
    generalize (outsAt0 m c t.val t.isLt).2 = S at e ⊢
    subst e
    exact isState_tile m c t _ hi _

/-- What tile `t` writes: each head's rows of the tile's eight chunks. -/
theorem out_chunk (t : Fin cfg0.N) (n : Fin 8) (i : Fin 64) (g : Fin 2) (a : Fin 4) (w : Fin 64) :
    (outsAt0 m c t.val t.isLt).1 (ix3 0 (tr n i) (tv g a w)) = rout (argP m c) (argW m c) (bt t) (hd g a) (t.val % 8 * 8 + n.val) i w := by
  by_cases h : t.val % 8 = 0
  · exact (congrFun (outA m c t h) _).trans (tileOut_at m c t _ (isState_first m c t h) n i g a w)
  · have hi := isState_next m c t h _ _ rfl (isState_after m c _ ⟨t.val - 1, Nat.lt_of_le_of_lt (Nat.sub_le _ _) t.isLt⟩ rfl)
    exact (congrFun (outB m c t h) _).trans (tileOut_at m c t _ hi n i g a w)

/-- What tile `t` writes is the retention at the tile's tokens. -/
theorem out_tile (t : Fin cfg0.N) (r l : Fin 512) :
    (outsAt0 m c t.val t.isLt).1 (ix3 0 r l) = ret (argP m c) (argW m c) (bt t) (tk t r) l := by
  have er : r = tr ⟨r.val / 64, by omega⟩ ⟨r.val % 64, by omega⟩ := Fin.ext (by simp only [tr]; omega)
  have el : l = tv ⟨l.val / 256, by omega⟩ ⟨l.val % 256 / 64, by omega⟩ ⟨l.val % 64, by omega⟩ := Fin.ext (by simp only [tv]; omega)
  conv_lhs => rw [er, el]
  rw [out_chunk]
  unfold ret
  have e1 : hd ⟨l.val / 256, by omega⟩ ⟨l.val % 256 / 64, by omega⟩ = ⟨l.val / 64, by omega⟩ := Fin.ext (by simp only [hd]; omega)
  have e2 : t.val % 8 * 8 + r.val / 64 = (tk t r).val / 64 := by simp only [tk]; omega
  have e3 : (⟨r.val % 64, by omega⟩ : Fin 64) = ⟨(tk t r).val % 64, by omega⟩ := Fin.ext (by simp only [tk]; omega)
  rw [e1, e2, e3]

/-- The kernel's result array after its run: the retention of its arguments. -/
theorem final (c : Dev nD) : (dats m 0 c).arrAt 8 cfg0.N
    = fun i : S8x4096x512.Idx => ret (argP m c) (argW m c) (i 0) (i 1) (i 2) := by
  refine (dats m 0 c).arrAt_eq_of_covers 8 _ (by decide +kernel) fun t _ y => ?_
  blk_simp
  rw [after0_8]
  have ey : (y : S1x512x512.Idx) = ix3 0 (y 1) (y 2) := by
    refine funext fun a => Fin.ext ?_
    fin_cases a
    · have h : (y 0).val < 1 := (y 0).isLt
      show (y 0).val = 0
      omega
    · rfl
    · rfl
  refine Eq.trans (congrArg _ ey) ((out_tile m c t (y 1) (y 2)).trans ?_)
  have h0 : bt t = (win0_8.blk t).view.emb y 0 := Fin.ext (Eq.symm (Eq.trans (b := win0_8.index t (0 : Fin 3) * 1 + 1 * (y 0).val) rfl (by
    have h : (y 0).val < 1 := (y 0).isLt
    rw [(idx t).2.2.2.2.2.2.2.2]
    show t.val / 8 * 1 + 1 * (y 0).val = t.val / 8
    omega)))
  have h1 : tk t (y 1) = (win0_8.blk t).view.emb y 1 := Fin.ext (Eq.symm (Eq.trans (b := win0_8.index t (1 : Fin 3) * 512 + 1 * (y 1).val) rfl (by
    rw [(idx t).2.2.2.2.2.2.2.2]
    show t.val % 8 * 512 + 1 * (y 1).val = t.val % 8 * 512 + (y 1).val
    omega)))
  have h2 : (y 2 : Fin 512) = (win0_8.blk t).view.emb y 2 := Fin.ext (Eq.symm (Eq.trans (b := win0_8.index t (2 : Fin 3) * 512 + 1 * (y 2).val) rfl (by
    rw [(idx t).2.2.2.2.2.2.2.2]
    show 0 * 512 + 1 * (y 2).val = (y 2).val
    omega)))
  exact congr (congr (congrArg (ret (argP m c) (argW m c)) h0) h1) h2

end Cert.KernelIdeal.Hand

end
-- ==== Proof.RetTrip.lean ====
/- One trip of the retention's loop over the chunks: the state's step, and where the state before it is kept. -/
module

public import proofs.«01_k».proof.Proof.RetRun
public import Idealize.ShloMosaic.Lib.DynamicIndex
public import Idealize.ShloMosaic.Lib.WordCmp

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Idealize.ShloMosaic.StableHlo

/-- Chunk `k`'s slab of an array of slabs, read at the loop's index. -/
theorem slab3_at (x : FVec Ideal S64x8x8 .f32) (start : Fin 3 → ℤ) (hf : S64x8x8.Slices (fun _ => 0) S1x8x8) (hc : S1x8x8.ShapeCasts S8x8) (k : Fin 64)
    (h0 : start 0 = k.val) (h1 : start 1 = 0) (h2 : start 2 = 0) (b h : Fin 8) :
    shapeCast S8x8 (Host.dynamicSlice S1x8x8 x start hf) hc (ix2 b h) = x (ix3 k b h) := by
  rw [Host.dynamicSlice_eq_extractStridedSlice S1x8x8 x start ![k.val, 0, 0] hf ⟨rfl, fun a => by
      match a with
      | ⟨0, _⟩ => show k.val + 1 ≤ 64; omega
      | ⟨1, _⟩ => show 0 + 8 ≤ 8; omega
      | ⟨2, _⟩ => show 0 + 8 ≤ 8; omega⟩ (fun a => by
      match a with
      | ⟨0, _⟩ => exact h0
      | ⟨1, _⟩ => exact h1
      | ⟨2, _⟩ => exact h2)]
  pointwise

/-- Chunk `k`'s slab of what the chunks add to the state, read at the loop's index. -/
theorem slab5_at (x : FVec Ideal S64x8x8x32x64 .f32) (start : Fin 5 → ℤ) (hf : S64x8x8x32x64.Slices (fun _ => 0) S1x8x8x32x64)
    (hc : S1x8x8x32x64.ShapeCasts S8x8x32x64) (k : Fin 64)
    (h0 : start 0 = k.val) (h1 : start 1 = 0) (h2 : start 2 = 0) (h3 : start 3 = 0) (h4 : start 4 = 0) (b h : Fin 8) (d : Fin 32) (w : Fin 64) :
    shapeCast S8x8x32x64 (Host.dynamicSlice S1x8x8x32x64 x start hf) hc (ix4 b h d w) = x (ix5 k b h d w) := by
  rw [Host.dynamicSlice_eq_extractStridedSlice S1x8x8x32x64 x start ![k.val, 0, 0, 0, 0] hf ⟨rfl, fun a => by
      match a with
      | ⟨0, _⟩ => show k.val + 1 ≤ 64; omega
      | ⟨1, _⟩ => show 0 + 8 ≤ 8; omega
      | ⟨2, _⟩ => show 0 + 8 ≤ 8; omega
      | ⟨3, _⟩ => show 0 + 32 ≤ 32; omega
      | ⟨4, _⟩ => show 0 + 64 ≤ 64; omega⟩ (fun a => by
      match a with
      | ⟨0, _⟩ => exact h0
      | ⟨1, _⟩ => exact h1
      | ⟨2, _⟩ => exact h2
      | ⟨3, _⟩ => exact h3
      | ⟨4, _⟩ => exact h4)]
  pointwise

/-- The states kept, after the state before chunk `k` is put among them. -/
theorem put5_at (x : FVec Ideal S64x8x8x32x64 .f32) (u : FVec Ideal S1x8x8x32x64 .f32) (start : Fin 5 → ℤ) (hf : S64x8x8x32x64.Slices (fun _ => 0) S1x8x8x32x64)
    (k : Fin 64) (h0 : start 0 = k.val) (h1 : start 1 = 0) (h2 : start 2 = 0) (h3 : start 3 = 0) (h4 : start 4 = 0) (n : Fin 64) (b h : Fin 8) (d : Fin 32) (w : Fin 64) :
    Host.dynamicUpdateSlice x u start hf (ix5 n b h d w) = if n = k then u (ix5 0 b h d w) else x (ix5 n b h d w) := by
  have hk : S64x8x8x32x64.Slices ![k.val, 0, 0, 0, 0] S1x8x8x32x64 := ⟨rfl, fun a => by
      match a with
      | ⟨0, _⟩ => show k.val + 1 ≤ 64; omega
      | ⟨1, _⟩ => show 0 + 8 ≤ 8; omega
      | ⟨2, _⟩ => show 0 + 8 ≤ 8; omega
      | ⟨3, _⟩ => show 0 + 32 ≤ 32; omega
      | ⟨4, _⟩ => show 0 + 64 ≤ 64; omega⟩
  rw [WordCmp.dynamicUpdateSlice_eq_update x u start hf ![k.val, 0, 0, 0, 0] hk (fun a => by
      match a with
      | ⟨0, _⟩ => exact h0
      | ⟨1, _⟩ => exact h1
      | ⟨2, _⟩ => exact h2
      | ⟨3, _⟩ => exact h3
      | ⟨4, _⟩ => exact h4)]
  pointwise
  by_cases e : n = k
  · subst e
    rw [if_pos rfl, dif_pos ⟨Nat.le_refl _, by omega⟩]
    refine congrArg (fun z : Fin 1 => u (ix5 z b h d w)) (Fin.ext ?_)
    show n.val - n.val = 0
    omega
  · rw [if_neg e, dif_neg fun hh => e (Fin.ext (by omega))]

section Arrays

variable (V : Valuation τ sig (Elt Ideal))

/-- What the chunks add to the state. -/
abbrev a0 : FVec Ideal S64x8x8x32x64 .f32 := V (Proc.devRef .tc main_v119_0)
/-- The chunks' decays. -/
abbrev a1 : FVec Ideal S64x8x8 .f32 := V (Proc.devRef .tc main_v119_1)
/-- The loop's counter. -/
abbrev a2 : IVec S_ 32 := V (Proc.devRef .tc main_v119_2)
/-- The state. -/
abbrev a3 : FVec Ideal S8x8x32x64 .f32 := V (Proc.devRef .tc main_v119_3)
/-- The states kept. -/
abbrev a4 : FVec Ideal S64x8x8x32x64 .f32 := V (Proc.devRef .tc main_v119_4)

end Arrays

/-- One trip's state, at an index: the state decayed by the chunk's decay, and what the chunk adds. -/
theorem step3_at (V : Valuation τ sig (Elt Ideal)) (k : Fin 64) (hk : a2 V = fun _ => BitVec.ofNat 32 k.val)
    (b h : Fin 8) (d : Fin 32) (w : Fin 64) :
    (step_main_v119_3 V : FVec Ideal S8x8x32x64 .f32) (ix4 b h d w)
      = a3 V (ix4 b h d w) * a1 V (ix3 k b h)
        + a0 V (ix5 k b h d w) := by
  have hz : (a2 V (Shape.Idx.first h_S_)).toInt = k.val := by
    rw [hk]
    exact toInt_ofNat_of_lt (by omega)
  refine congrArg₂ (· + ·) (congrArg (fun z : EReal => a3 V (ix4 b h d w) * z) ?_) ?_
  · exact slab3_at (a1 V) (fun k => ((![a2 V, constantI S_ 32 0#32, constantI S_ 32 0#32] : Fin 3 → IVec S_ 32) k (Shape.Idx.first h_S_)).toInt)
      sliceFits_S64x8x8_S1x8x8 shapeCasts_S1x8x8_S8x8 k hz rfl rfl b h
  · exact slab5_at (a0 V) (fun k => ((![a2 V, constantI S_ 32 0#32, constantI S_ 32 0#32, constantI S_ 32 0#32, constantI S_ 32 0#32] : Fin 5 → IVec S_ 32) k
      (Shape.Idx.first h_S_)).toInt) sliceFits_S64x8x8x32x64_S1x8x8x32x64 shapeCasts_S1x8x8x32x64_S8x8x32x64 k hz rfl rfl rfl rfl b h d w

/-- The states kept after one trip, at an index. -/
theorem step4_at (V : Valuation τ sig (Elt Ideal)) (k : Fin 64) (hk : a2 V = fun _ => BitVec.ofNat 32 k.val)
    (n : Fin 64) (b h : Fin 8) (d : Fin 32) (w : Fin 64) :
    (step_main_v119_4 V : FVec Ideal S64x8x8x32x64 .f32) (ix5 n b h d w)
      = if n = k then a3 V (ix4 b h d w)
        else a4 V (ix5 n b h d w) := by
  have hz : (a2 V (Shape.Idx.first h_S_)).toInt = k.val := by
    rw [hk]
    exact toInt_ofNat_of_lt (by omega)
  show Host.dynamicUpdateSlice _ _ _ updateFits_S64x8x8x32x64_S1x8x8x32x64 (ix5 n b h d w) = _
  rw [put5_at _ _ _ _ k hz rfl rfl rfl rfl n b h d w]
  refine if_congr Iff.rfl ?_ rfl
  pointwise

end Cert.ReferenceIdeal.Hand

end
-- ==== Proof.RetEntry.lean ====
/- What the plain program of the retention holds when its loop over the chunks begins, value by value. -/
module

public import proofs.«01_k».proof.Proof.RetRun
public import proofs.«01_k».proof.Proof.RetSpec

@[expose] public section

set_option maxRecDepth 16384

noncomputable section

namespace Cert.ReferenceIdeal.Hand

open Cert.ReferenceIdeal Cert.ReferenceIdeal.Gen Cert.ReferenceIdeal.Value Cert.Layer Idealize.ShloMosaic Idealize.ShloMosaic.TcCoe
open Idealize.ShloMosaic.StableHlo

variable (m : (ℓ : Loc nD τ sig) → Buf (Elt Ideal) ℓ) (c : Dev nD)

/-- The buffers when the loop begins. -/
abbrev E := entryContents preI m c

/-- The projections given. -/
abbrev argP : FVec Ideal S8x4096x1536 .f32 := m ((c : Thread nD τ).loc main_arg0)

/-- The norm's weights given. -/
abbrev argW : FVec Ideal S512 .f32 := m ((c : Thread nD τ).loc main_arg1)

/-- The projections at equal places are equal. -/
theorem argP_at (b : Fin 8) {s s' : Fin 4096} {l l' : Fin 1536} (hs : s.val = s'.val) (hl : l.val = l'.val) :
    (launchContents m c (Proc.devRef .tc main_arg0) : FVec Ideal S8x4096x1536 .f32) (ix3 b s l) = argP m c (ix3 b s' l') := by
  rw [Fin.ext hs, Fin.ext hl]

/-- A token of a chunk as a place among all tokens. -/
theorem tok_val (n i : Fin 64) : (tok n.val i).val = n.val * 64 + i.val := by
  show (n.val * 64 + i.val) % 4096 = _
  omega

/-- The points below the last, written out. -/
theorem lin_lt (j : ℕ) (h : j < 15) : lin j = Ideal.ofBits FTy.f32 0#32 * (1 - Ideal.div (cnt j) (Ideal.ofBits FTy.f32 1097859072#32))
    + Ideal.ofBits FTy.f32 1065353216#32 * Ideal.div (cnt j) (Ideal.ofBits FTy.f32 1097859072#32) := if_pos h

/-- The last point. -/
theorem lin_ge (j : ℕ) (h : ¬ j < 15) : lin j = Ideal.ofBits FTy.f32 1065353216#32 := if_neg h

/-- The angle, from its point. -/
theorem theta_of (s j : ℕ) {l : EReal} (hl : lin j = l) :
    theta s j = (FloatOps.sitofp FTy.f32 (BitVec.ofNat 32 s) : Ideal .f32) * Ideal.div 1 (Ideal.pow (Ideal.ofBits FTy.f32 1176256512#32) l) := by
  rw [← hl]
  rfl

/-- A chunk's rotated query, with its token's place written out. -/
theorem rq_tok (P : FVec Ideal S8x4096x1536 .f32) (b : Fin 8) (n i : Fin 64) (h : Fin 8) (d : Fin 32) :
    rq P b h (tok n.val i) d = rot (fun d => P (ix3 b (tok n.val i) ⟨h.val * 32 + d.val, by omega⟩)) (n.val * 64 + i.val) d := by
  unfold rq
  rw [tok_val]

/-- A chunk's rotated and scaled key, with its token's place written out. -/
theorem rk_tok (P : FVec Ideal S8x4096x1536 .f32) (b : Fin 8) (n i : Fin 64) (h : Fin 8) (d : Fin 32) :
    rk P b h (tok n.val i) d = rot (fun d => P (ix3 b (tok n.val i) ⟨256 + (h.val * 32 + d.val), by omega⟩)) (n.val * 64 + i.val) d
      * Ideal.ofBits FTy.f32 1043662067#32 := by
  unfold rk
  rw [tok_val]

/-- An even lane of the rotation from its pair and its angle. -/
theorem rot_even (x : Fin 32 → EReal) (s : ℕ) (d : Fin 32) (h : d.val % 2 = 0) {t p q : EReal} (ht : theta s (d.val / 2) = t) (hp : p = x d)
    (hq : q = x ⟨(d.val + 1) % 32, by omega⟩) : p * Ideal.cos t - q * Ideal.sin t = rot x s d := by
  unfold rot
  rw [if_pos h, hp, hq, ht]

/-- An odd lane of the rotation from its pair and its angle. -/
theorem rot_odd (x : Fin 32 → EReal) (s : ℕ) (d : Fin 32) (h : ¬ d.val % 2 = 0) {t p q : EReal} (ht : theta s (d.val / 2) = t) (hp : p = x ⟨d.val - 1, by omega⟩)
    (hq : q = x d) : p * Ideal.sin t + q * Ideal.cos t = rot x s d := by
  unfold rot
  rw [if_neg h, hp, hq, ht]

/-- The values, by chunks. -/
theorem v89_at (b : Fin 8) (n i : Fin 64) (h : Fin 8) (w : Fin 64) :
    (E m c (Proc.devRef .tc main_v89) : FVec Ideal S8x64x64x8x64 .f32) (ix5 b n i h w) = rv (argP m c) b h (tok n.val i) w := by
  unfold E entryContents
  rw [afterL_eq_after_flatten]
  after_reads_at
  exact argP_at m c b (tok_val n i).symm rfl

/-- The gate's argument. -/
theorem v3_at (b : Fin 8) (s : Fin 4096) (l : Fin 512) :
    (E m c (Proc.devRef .tc main_v3) : FVec Ideal S8x4096x512 .f32) (ix3 b s l) = argP m c (ix3 b s ⟨1024 + l.val, by omega⟩) := by
  unfold E entryContents
  rw [afterL_eq_after_flatten]
  after_reads_at

set_option maxHeartbeats 1000000 in
/-- The rotated queries, by chunks. -/
theorem v87_at (b : Fin 8) (n i : Fin 64) (h : Fin 8) (d : Fin 32) :
    (E m c (Proc.devRef .tc main_v87) : FVec Ideal S8x64x64x8x32 .f32) (ix5 b n i h d) = rq (argP m c) b h (tok n.val i) d := by
  unfold E entryContents
  rw [afterL_eq_after_flatten]
  after_reads_at
  refine Eq.trans ?_ (rq_tok _ b n i h d).symm
  by_cases hl : d.val / 2 < 15 <;> split <;> rename_i h0 <;> after_reads_at
  · simp only [hl, ↓reduceDIte]
    after_reads_at
    exact rot_even _ _ d (by omega) (theta_of _ _ (lin_lt _ hl)) (argP_at m c b (tok_val n i).symm (by show h.val * 32 + _ = h.val * 32 + d.val; omega))
      (argP_at m c b (tok_val n i).symm (by show h.val * 32 + _ = h.val * 32 + ((d.val + 1) % 32); omega))
  · simp only [hl, ↓reduceDIte]
    after_reads_at
    exact rot_odd _ _ d (by omega) (theta_of _ _ (lin_lt _ hl)) (argP_at m c b (tok_val n i).symm (by show h.val * 32 + _ = h.val * 32 + (d.val - 1); omega))
      (argP_at m c b (tok_val n i).symm (by show h.val * 32 + _ = h.val * 32 + d.val; omega))
  · simp only [hl, ↓reduceDIte]
    after_reads_at
    exact rot_even _ _ d (by omega) (theta_of _ _ (lin_ge _ hl)) (argP_at m c b (tok_val n i).symm (by show h.val * 32 + _ = h.val * 32 + d.val; omega))
      (argP_at m c b (tok_val n i).symm (by show h.val * 32 + _ = h.val * 32 + ((d.val + 1) % 32); omega))
  · simp only [hl, ↓reduceDIte]
    after_reads_at
    exact rot_odd _ _ d (by omega) (theta_of _ _ (lin_ge _ hl)) (argP_at m c b (tok_val n i).symm (by show h.val * 32 + _ = h.val * 32 + (d.val - 1); omega))
      (argP_at m c b (tok_val n i).symm (by show h.val * 32 + _ = h.val * 32 + d.val; omega))

set_option maxHeartbeats 1000000 in
/-- The rotated and scaled keys, by chunks. -/
theorem v88_at (b : Fin 8) (n i : Fin 64) (h : Fin 8) (d : Fin 32) :
    (E m c (Proc.devRef .tc main_v88) : FVec Ideal S8x64x64x8x32 .f32) (ix5 b n i h d) = rk (argP m c) b h (tok n.val i) d := by
  unfold E entryContents
  rw [afterL_eq_after_flatten]
  after_reads_at
  refine Eq.trans ?_ (rk_tok _ b n i h d).symm
  refine congrArg (· * Ideal.ofBits FTy.f32 1043662067#32) ?_
  by_cases hl : d.val / 2 < 15 <;> split <;> rename_i h0 <;> after_reads_at
  · simp only [hl, ↓reduceDIte]
    after_reads_at
    exact rot_even _ _ d (by omega) (theta_of _ _ (lin_lt _ hl)) (argP_at m c b (tok_val n i).symm (by show 256 + (h.val * 32 + _) = 256 + (h.val * 32 + d.val); omega))
      (argP_at m c b (tok_val n i).symm (by show 256 + (h.val * 32 + _) = 256 + (h.val * 32 + ((d.val + 1) % 32)); omega))
  · simp only [hl, ↓reduceDIte]
    after_reads_at
    exact rot_odd _ _ d (by omega) (theta_of _ _ (lin_lt _ hl)) (argP_at m c b (tok_val n i).symm (by show 256 + (h.val * 32 + _) = 256 + (h.val * 32 + (d.val - 1)); omega))
      (argP_at m c b (tok_val n i).symm (by show 256 + (h.val * 32 + _) = 256 + (h.val * 32 + d.val); omega))
  · simp only [hl, ↓reduceDIte]
    after_reads_at
    exact rot_even _ _ d (by omega) (theta_of _ _ (lin_ge _ hl)) (argP_at m c b (tok_val n i).symm (by show 256 + (h.val * 32 + _) = 256 + (h.val * 32 + d.val); omega))
      (argP_at m c b (tok_val n i).symm (by show 256 + (h.val * 32 + _) = 256 + (h.val * 32 + ((d.val + 1) % 32)); omega))
  · simp only [hl, ↓reduceDIte]
    after_reads_at
    exact rot_odd _ _ d (by omega) (theta_of _ _ (lin_ge _ hl)) (argP_at m c b (tok_val n i).symm (by show 256 + (h.val * 32 + _) = 256 + (h.val * 32 + (d.val - 1)); omega))
      (argP_at m c b (tok_val n i).symm (by show 256 + (h.val * 32 + _) = 256 + (h.val * 32 + d.val); omega))

end Cert.ReferenceIdeal.Hand

end
-- ==== Proof.RetScalar.lean ====
/- The decays of the retention as real numbers: a running sum of one number is a multiple of it. -/
module

public import proofs.«01_k».proof.Proof.RetSpec
public import Idealize.ShloMosaic.Lib.WordCmp

@[expose] public section

set_option maxRecDepth 16384

noncomputable section

namespace Cert.Layer

open Idealize.ShloMosaic

/-- A small count is its number. -/
theorem cnt_eq (n : ℕ) (h : n < 64) : cnt n = ((n : ℝ) : EReal) := by
  show (((BitVec.ofNat 32 n).toInt : ℝ) : EReal) = _
  have e : (BitVec.ofNat 32 n).toInt = (n : ℤ) := by
    rw [BitVec.toInt_eq_toNat_of_lt] <;> rw [BitVec.toNat_ofNat, Nat.mod_eq_of_lt (by omega)]
    omega
  rw [e]
  norm_cast

/-- The pattern of sixty-three. -/
theorem bits63 : Ideal.ofBits FTy.f32 1115422720#32 = ((63 : ℝ) : EReal) := by
  simp [Ideal.ofBits, Ideal.ieee, -EReal.coe_mul]; norm_num

/-- The pattern of sixty-four. -/
theorem bits64 : Ideal.ofBits FTy.f32 1115684864#32 = ((64 : ℝ) : EReal) := by
  simp [Ideal.ofBits, Ideal.ieee, -EReal.coe_mul]; norm_num

/-- The pattern of one sixty-fourth. -/
theorem bits64th : Ideal.ofBits FTy.f32 0x3C800000#32 = ((1 / 64 : ℝ) : EReal) := by
  simp [Ideal.ofBits, Ideal.ieee, -EReal.coe_mul]; norm_num

/-- The pattern of minus five. -/
theorem bitsm5 : Ideal.ofBits FTy.f32 3231711232#32 = ((-5 : ℝ) : EReal) := by
  simp [Ideal.ofBits, Ideal.ieee, -EReal.coe_mul, -EReal.coe_neg]; norm_num

/-- The pattern of two's logarithm is a positive number. -/
theorem bitsln2 : ∃ a : ℝ, 0 < a ∧ Ideal.ofBits FTy.f32 1060205080#32 = (a : EReal) := by
  refine ⟨11629080 / 2 ^ 24, by norm_num, ?_⟩
  simp [Ideal.ofBits, Ideal.ieee, -EReal.coe_mul]; norm_num

/-- The pattern of minus infinity. -/
theorem bitsbot : Ideal.ofBits FTy.f32 4286578688#32 = ⊥ := by
  simp [Ideal.ofBits, Ideal.ieee]

/-- A head's log decay is a real number. -/
theorem lg_real (h : Fin 8) : ∃ r : ℝ, lg h = (r : EReal) := by
  obtain ⟨a, ha, e⟩ := bitsln2
  have hx : Real.exp (a * (-5 - (h.val : ℝ))) < 1 := by
    rw [Real.exp_lt_one_iff]
    have : (0 : ℝ) ≤ h.val := Nat.cast_nonneg _
    nlinarith
  refine ⟨Real.log (1 - Real.exp (a * (-5 - (h.val : ℝ)))), ?_⟩
  unfold lg
  rw [e, bitsm5, cnt_eq _ (by omega), ← EReal.coe_sub, ← EReal.coe_mul]
  show Ideal.log ((1 : ℝ) - (Real.exp _ : EReal)) = _
  rw [← EReal.coe_sub]
  exact if_neg (by linarith)

/-- The decay from the chunk's start, once the log decay is a real number. -/
theorem decQ_eq (h : Fin 8) (r : ℝ) (e : lg h = r) (i : Fin 64) : decQ h i = Ideal.exp (((r * (i.val + 1) : ℝ)) : EReal) := by
  unfold decQ
  rw [e, cnt_eq _ i.isLt]
  norm_cast

/-- The decay to the chunk's end. -/
theorem decK_eq (h : Fin 8) (r : ℝ) (e : lg h = r) (i : Fin 64) : decK h i = Ideal.exp (((r * (63 - i.val) : ℝ)) : EReal) := by
  unfold decK
  rw [e, cnt_eq _ i.isLt, bits63]
  norm_cast

/-- The decay over a chunk. -/
theorem decG_eq (h : Fin 8) (r : ℝ) (e : lg h = r) : decG h = Ideal.exp (((r * 64 : ℝ)) : EReal) := by
  unfold decG
  rw [e, bits64]
  norm_cast

/-- The decay between two tokens of a chunk. -/
theorem decD_eq (h : Fin 8) (r : ℝ) (e : lg h = r) (i j : Fin 64) :
    decD h i j = Ideal.exp (if j.val ≤ i.val then ((r * (i.val - j.val) : ℝ) : EReal) else Ideal.ofBits FTy.f32 4286578688#32) := by
  unfold decD
  rw [e, cnt_eq _ i.isLt, cnt_eq _ j.isLt, ← EReal.coe_sub, ← EReal.coe_mul]
  refine congrArg Ideal.exp (if_congr ?_ rfl rfl)
  rw [EReal.coe_nonneg, sub_nonneg]
  exact Nat.cast_le

end Cert.Layer

end
-- ==== Proof.RetCum.lean ====
/- The running sum along the tokens of a chunk, of numbers that do not change along it. -/
module

public import proofs.«01_k».proof.Proof.RetScalar
public import Idealize.ShloMosaic.Lib.ValueIdx

@[expose] public section

set_option maxRecDepth 16384

noncomputable section

namespace Cert.Layer

open Idealize.ShloMosaic

/-- A left fold of additions is the first number plus the sum. -/
theorem foldl_add_sum {α : Type} (g : α → EReal) (l : List α) (z : EReal) : l.foldl (fun r n => r + g n) z = z + (l.map g).sum := by
  induction l generalizing z with
  | nil => simp
  | cons a l ih => rw [List.foldl_cons, ih, List.map_cons, List.sum_cons, add_assoc]

/-- How many positions of a window of sixty-four that ends at token `i` are tokens. -/
theorem window_count (i : Fin 64) : (Finset.univ.filter fun y : Fin 64 => 63 ≤ i.val + y.val).card = i.val + 1 := by
  revert i
  decide +kernel

/-- A window's sum of one number. -/
theorem window_sum (i : Fin 64) (r : ℝ) : (∑ y : Fin 64, if 63 ≤ i.val + y.val then (r : EReal) else 0) = ((r * (i.val + 1) : ℝ) : EReal) := by
  rw [← Finset.sum_filter, Finset.sum_const, window_count, EReal.nsmul_eq_mul, mul_comm]
  push_cast
  norm_cast

/-- A window of one batch, one chunk, sixty-four tokens and one head. -/
abbrev Win : Shape := ⟨4, ![1, 1, 64, 1]⟩

/-- A sum over a window's places is a sum over its tokens. -/
theorem sum_win (g : Fin 64 → EReal) : (∑ y : Win.Idx, g (y 2)) = ∑ t, g t := by
  refine Fintype.sum_bijective (fun y : Win.Idx => (y 2 : Fin 64)) ⟨fun y y' e => ?_, fun t => ⟨ix4 (0 : Fin 1) (0 : Fin 1) t (0 : Fin 1), rfl⟩⟩ _ _ fun _ => rfl
  rw [eq_ix4 y, eq_ix4 y']
  have e' : y 2 = y' 2 := e
  rw [e', Subsingleton.elim (α := Fin 1) (y 0) (y' 0), Subsingleton.elim (α := Fin 1) (y 1) (y' 1), Subsingleton.elim (α := Fin 1) (y 3) (y' 3)]

/-- The running sum at token `i` of a chunk, of an array that holds `r` at every token of that chunk, is `i + 1` times `r`. -/
theorem cumsum_const (x : FVec Ideal ⟨4, ![8, 64, 64, 8]⟩ .f32) (init : FVec Ideal ⟨0, ![]⟩ .f32)
    (hw : (⟨4, ![8, 64, 64, 8]⟩ : Shape).ReduceWindows (![1, 1, 64, 1] : Fin 4 → Nat) ![1, 1, 1, 1] ![0, 0, 63, 0] ![0, 0, 0, 0] ⟨4, ![8, 64, 64, 8]⟩)
    (hu : 0 < (⟨0, ![]⟩ : Shape).numel) (b : Fin 8) (n i : Fin 64) (h : Fin 8) (r : ℝ) (hx : ∀ t, x (ix4 b n t h) = (r : EReal)) (hi : ∀ y, init y = 0) :
    Host.reduceWindowAdd ![1, 1, 64, 1] ![1, 1, 1, 1] ![0, 0, 63, 0] ![0, 0, 0, 0] x init hw hu (ix4 b n i h) = ((r * (i.val + 1) : ℝ) : EReal) := by
  show Ideal.hostReduceWindowAdd _ _ _ _ hw x (init _) (ix4 b n i h) = _
  rw [hi]
  unfold Ideal.hostReduceWindowAdd Host.reduceWindow
  refine Eq.trans (b := List.foldl (fun z k => z + if 63 ≤ i.val + (Win.rowMajor.symm k 2).val then (r : EReal) else 0) 0 (List.finRange Win.numel)) ?_
    ((foldl_add_sum (fun k => if 63 ≤ i.val + (Win.rowMajor.symm k 2).val then (r : EReal) else 0) (List.finRange Win.numel) 0).trans ?_)
  · refine congrArg (fun f => List.foldl f (0 : EReal) (List.finRange Win.numel)) (funext fun z => funext fun k => ?_)
    refine congrArg (z + ·) ?_
    have y0 : (Win.rowMajor.symm k 0).val = 0 := by have : (Win.rowMajor.symm k 0).val < 1 := (Win.rowMajor.symm k 0).isLt; omega
    have y1 : (Win.rowMajor.symm k 1).val = 0 := by have : (Win.rowMajor.symm k 1).val < 1 := (Win.rowMajor.symm k 1).isLt; omega
    have y3 : (Win.rowMajor.symm k 3).val = 0 := by have : (Win.rowMajor.symm k 3).val < 1 := (Win.rowMajor.symm k 3).isLt; omega
    have y2 : (Win.rowMajor.symm k 2).val < 64 := (Win.rowMajor.symm k 2).isLt
    have hb := b.isLt
    have hn := n.isLt
    have hh := h.isLt
    split
    · next hin =>
      have h2 : 63 ≤ i.val * 1 + (Win.rowMajor.symm k 2).val ∧ _ := hin 2
      rw [if_pos (by omega)]
      refine Eq.trans (congrArg x (funext fun a => Fin.ext ?_)) (hx ⟨i.val + (Win.rowMajor.symm k 2).val - 63, by omega⟩)
      match a with
      | ⟨0, _⟩ => show b.val * 1 + (Win.rowMajor.symm k 0).val - 0 = b.val; omega
      | ⟨1, _⟩ => show n.val * 1 + (Win.rowMajor.symm k 1).val - 0 = n.val; omega
      | ⟨2, _⟩ => show i.val * 1 + (Win.rowMajor.symm k 2).val - 63 = i.val + (Win.rowMajor.symm k 2).val - 63; omega
      | ⟨3, _⟩ => show h.val * 1 + (Win.rowMajor.symm k 3).val - 0 = h.val; omega
    · next hin =>
      rw [if_neg fun hle => hin fun a => by
        match a with
        | ⟨0, _⟩ => show 0 ≤ b.val * 1 + (Win.rowMajor.symm k 0).val ∧ b.val * 1 + (Win.rowMajor.symm k 0).val - 0 < 8; omega
        | ⟨1, _⟩ => show 0 ≤ n.val * 1 + (Win.rowMajor.symm k 1).val ∧ n.val * 1 + (Win.rowMajor.symm k 1).val - 0 < 64; omega
        | ⟨2, _⟩ => show 63 ≤ i.val * 1 + (Win.rowMajor.symm k 2).val ∧ i.val * 1 + (Win.rowMajor.symm k 2).val - 63 < 64; omega
        | ⟨3, _⟩ => show 0 ≤ h.val * 1 + (Win.rowMajor.symm k 3).val ∧ h.val * 1 + (Win.rowMajor.symm k 3).val - 0 < 8; omega]
  · rw [zero_add, ← List.ofFn_eq_map, List.sum_ofFn]
    rw [Equiv.sum_comp Win.rowMajor.symm (fun y : Win.Idx => if 63 ≤ i.val + (y 2).val then (r : EReal) else 0)]
    rw [← window_sum]
    exact sum_win fun t => if 63 ≤ i.val + t.val then (r : EReal) else 0

end Cert.Layer

end
-- ==== Proof.RetGates.lean ====
/- The decays that the plain program of the retention holds when its loop over the chunks begins. -/
module

public import proofs.«01_k».proof.Proof.RetEntry
public import proofs.«01_k».proof.Proof.RetCum

@[expose] public section

set_option maxRecDepth 16384

noncomputable section

namespace Cert.ReferenceIdeal.Hand

open Cert.ReferenceIdeal Cert.ReferenceIdeal.Gen Cert.ReferenceIdeal.Value Cert.Layer Idealize.ShloMosaic Idealize.ShloMosaic.TcCoe
open Idealize.ShloMosaic.StableHlo

variable (m : (ℓ : Loc nD τ sig) → Buf (Elt Ideal) ℓ) (c : Dev nD)

/-- The causal mask: a token sees itself and those before it. -/
theorem mask_at (i j : Fin 64) :
    Scalar.select (IntOp.cmpi CmpIPredicate.sge (IntOp.addi (BitVec.ofNat 32 i.val) 0#32) (BitVec.ofNat 32 j.val)) 1#1 0#1 = if j.val ≤ i.val then 1#1 else 0#1 := by
  revert i j
  decide +kernel

/-- The rotated queries when the loop begins. -/
abbrev b87 : FVec Ideal S8x64x64x8x32 .f32 := E m c (Proc.devRef .tc main_v87)

/-- The rotated and scaled keys when the loop begins. -/
abbrev b88 : FVec Ideal S8x64x64x8x32 .f32 := E m c (Proc.devRef .tc main_v88)

/-- The values when the loop begins. -/
abbrev b89 : FVec Ideal S8x64x64x8x64 .f32 := E m c (Proc.devRef .tc main_v89)

/-- The running sums of the log decays when the loop begins. -/
abbrev b91 : FVec Ideal S8x64x64x8 .f32 := E m c (Proc.devRef .tc main_v91)

/-- The decays between tokens when the loop begins. -/
abbrev b102 : FVec Ideal S8x64x8x64x64 .f32 := E m c (Proc.devRef .tc main_v102)

/-- The chunks' own parts when the loop begins. -/
abbrev b106 : FVec Ideal S8x64x64x8x64 .f32 := E m c (Proc.devRef .tc main_v106)

/-- The decayed keys when the loop begins. -/
abbrev b112 : FVec Ideal S8x64x64x8x32 .f32 := E m c (Proc.devRef .tc main_v112)

/-- The chunks' additions to the state when the loop begins. -/
abbrev b113 : FVec Ideal S64x8x8x32x64 .f32 := E m c (Proc.devRef .tc main_v113)

/-- The decays over a chunk when the loop begins. -/
abbrev b116 : FVec Ideal S64x8x8 .f32 := E m c (Proc.devRef .tc main_v116)

/-- The running sum of a head's log decay. -/
theorem v91_at (b : Fin 8) (n i : Fin 64) (h : Fin 8) (r : ℝ) (e : lg h = r) : b91 m c (ix4 b n i h) = ((r * (i.val + 1) : ℝ) : EReal) := by
  unfold b91 E entryContents
  rw [afterL_eq_after_flatten]
  after_reads_at
  exact cumsum_const _ _ _ _ b n i h r (fun _ => e) (fun _ => Ideal.ofBits_zero_f32)

/-- The decay between two tokens, from the running sums. -/
theorem v102_read (b : Fin 8) (n : Fin 64) (h : Fin 8) (i j : Fin 64) : b102 m c (ix5 b n h i j)
    = Ideal.exp (Scalar.select (Scalar.select (IntOp.cmpi CmpIPredicate.sge (IntOp.addi (BitVec.ofNat 32 i.val) 0#32) (BitVec.ofNat 32 j.val)) 1#1 0#1)
        (b91 m c (ix4 b n i h) - b91 m c (ix4 b n j h)) (Ideal.ofBits FTy.f32 4286578688#32)) := by
  unfold b102 b91 E entryContents
  rw [afterL_eq_after_flatten]
  after_reads_at
  all_goals rfl

/-- The decay between two tokens of a chunk. -/
theorem v102_at (b : Fin 8) (n : Fin 64) (h : Fin 8) (i j : Fin 64) : b102 m c (ix5 b n h i j) = decD h i j := by
  obtain ⟨r, e⟩ := lg_real h
  rw [v102_read, v91_at m c b n i h r e, v91_at m c b n j h r e, decD_eq h r e, mask_at, ← EReal.coe_sub]
  refine congrArg Ideal.exp ?_
  by_cases hj : j.val ≤ i.val
  · rw [if_pos hj, if_pos hj]
    exact congrArg (fun z : ℝ => (z : EReal)) (by ring)
  · rw [if_neg hj, if_neg hj]
    rfl

/-- The decay over a chunk, from the running sums. -/
theorem v116_read (n : Fin 64) (b h : Fin 8) : b116 m c (ix3 n b h) = Ideal.exp (b91 m c (ix4 b n 63 h)) := by
  unfold b116 b91 E entryContents
  rw [afterL_eq_after_flatten]
  after_reads_at

/-- The decay over a chunk. -/
theorem v116_at (n : Fin 64) (b h : Fin 8) : b116 m c (ix3 n b h) = decG h := by
  obtain ⟨r, e⟩ := lg_real h
  rw [v116_read, v91_at m c b n 63 h r e, decG_eq h r e]
  exact congrArg (fun z : ℝ => Ideal.exp (z : EReal)) (by norm_num)

/-- A chunk's decayed keys, from the keys and the running sums. -/
theorem v112_read (b : Fin 8) (n i : Fin 64) (h : Fin 8) (d : Fin 32) :
    b112 m c (ix5 b n i h d) = b88 m c (ix5 b n i h d) * Ideal.exp (b91 m c (ix4 b n 63 h) - b91 m c (ix4 b n i h)) := by
  unfold b112 b88 b91 E entryContents
  rw [afterL_eq_after_flatten]
  after_reads_at

/-- A chunk's keys, decayed to the chunk's end. -/
theorem v112_at (b : Fin 8) (n i : Fin 64) (h : Fin 8) (d : Fin 32) : b112 m c (ix5 b n i h d) = rk (argP m c) b h (tok n.val i) d * decK h i := by
  obtain ⟨r, e⟩ := lg_real h
  rw [v112_read, v91_at m c b n 63 h r e, v91_at m c b n i h r e, decK_eq h r e, ← EReal.coe_sub]
  refine congrArg₂ (· * ·) (v88_at m c b n i h d) (congrArg (fun z : ℝ => Ideal.exp (z : EReal)) ?_)
  norm_num
  ring

/-- What a chunk adds to the state, from its decayed keys and its values. -/
theorem v113_read (n : Fin 64) (b h : Fin 8) (d : Fin 32) (w : Fin 64) :
    b113 m c (ix5 n b h d w) = ∑ i : Fin 64, b112 m c (ix5 b n i h d) * b89 m c (ix5 b n i h w) := by
  unfold b113 b112 b89 E entryContents
  rw [afterL_eq_after_flatten]
  after_reads_at

/-- What a chunk adds to the state. -/
theorem v113_at (n : Fin 64) (b h : Fin 8) (d : Fin 32) (w : Fin 64) : b113 m c (ix5 n b h d w)
    = ∑ i : Fin 64, (rk (argP m c) b h (tok n.val i) d * decK h i) * rv (argP m c) b h (tok n.val i) w :=
  (v113_read m c n b h d w).trans (Finset.sum_congr rfl fun i _ => congrArg₂ (· * ·) (v112_at m c b n i h d) (v89_at m c b n i h w))

/-- What a chunk's own tokens give, from the queries, the keys, the values and the decays. -/
theorem v106_read (b : Fin 8) (n i : Fin 64) (h : Fin 8) (w : Fin 64) : b106 m c (ix5 b n i h w)
    = ∑ j : Fin 64, b89 m c (ix5 b n j h w) * ((∑ d : Fin 32, b87 m c (ix5 b n i h d) * b88 m c (ix5 b n j h d)) * b102 m c (ix5 b n h i j)) := by
  unfold b106 b89 b87 b88 b102 E entryContents
  rw [afterL_eq_after_flatten]
  after_reads_at

/-- What a chunk's own tokens give. -/
theorem v106_at (b : Fin 8) (n i : Fin 64) (h : Fin 8) (w : Fin 64) : b106 m c (ix5 b n i h w)
    = ∑ j : Fin 64, ((∑ d, rq (argP m c) b h (tok n.val i) d * rk (argP m c) b h (tok n.val j) d) * decD h i j) * rv (argP m c) b h (tok n.val j) w := by
  refine (v106_read m c b n i h w).trans (Finset.sum_congr rfl fun j _ => (mul_comm _ _).trans ?_)
  exact congrArg₂ (· * ·) (congrArg₂ (· * ·) (Finset.sum_congr rfl fun d _ => congrArg₂ (· * ·) (v87_at m c b n i h d) (v88_at m c b n j h d)) (v102_at m c b n h i j))
    (v89_at m c b n j h w)

end Cert.ReferenceIdeal.Hand

end
-- ==== Proof.RetLoop.lean ====
/- The retention's loop over the chunks: before each trip the state is the layer's, and the states before are kept. -/
module

public import proofs.«01_k».proof.Proof.RetTrip
public import proofs.«01_k».proof.Proof.RetGates

@[expose] public section

set_option maxRecDepth 16384

noncomputable section

namespace Cert.ReferenceIdeal.Hand

open Cert.ReferenceIdeal Cert.ReferenceIdeal.Gen Cert.ReferenceIdeal.Value Cert.Layer Idealize.ShloMosaic Idealize.ShloMosaic.TcCoe
open Idealize.ShloMosaic.StableHlo

variable (m : (ℓ : Loc nD τ sig) → Buf (Elt Ideal) ℓ) (c : Dev nD)

/-- What the chunks add, when the loop begins. -/
theorem a0_entry : a0 (E m c) = b113 m c := by
  unfold a0 b113 E entryContents
  rw [afterL_eq_after_flatten]
  after_reads_simp
  all_goals rfl

/-- The chunks' decays, when the loop begins. -/
theorem a1_entry : a1 (E m c) = b116 m c := by
  unfold a1 b116 E entryContents
  rw [afterL_eq_after_flatten]
  after_reads_simp
  all_goals rfl

/-- The state when the loop begins is zero. -/
theorem a3_entry (b h : Fin 8) (d : Fin 32) (w : Fin 64) : a3 (E m c) (ix4 b h d w) = 0 := by
  unfold a3 E entryContents
  rw [afterL_eq_after_flatten]
  after_reads_at
  exact Ideal.ofBits_zero_f32

/-- A carried buffer after one more trip. -/
theorem atK_succ (k : ℕ) (j : Ref sig .tc) (hj : j ∈ carriedRefs) : atK m (k + 1) c (Proc.devRef .tc j) = STEP (atK m k c) (Proc.devRef .tc j) :=
  trip_agree (atK m k c) j hj

/-- What the chunks add stays as it was. -/
theorem a0_keep : ∀ k, a0 (atK m k c) = b113 m c
  | 0 => a0_entry m c
  | k + 1 => ((atK_succ m c k main_v119_0 (by decide)).trans (STEP_main_v119_0 _)).trans (a0_keep k)

/-- The chunks' decays stay as they were. -/
theorem a1_keep : ∀ k, a1 (atK m k c) = b116 m c
  | 0 => a1_entry m c
  | k + 1 => ((atK_succ m c k main_v119_1 (by decide)).trans (STEP_main_v119_1 _)).trans (a1_keep k)

/-- The counter counts the trips. -/
theorem a2_at (k : ℕ) : a2 (atK m k c) = fun _ => BitVec.ofNat 32 k := by
  refine (atK_ctr m c k).trans (funext fun _ => ?_)
  show 0#32 + BitVec.ofNat 32 k * 1#32 = _
  rw [BitVec.mul_one, BitVec.zero_add]

/-- Before trip `k` the state is the layer's state before chunk `k`. -/
theorem a3_at (b h : Fin 8) (d : Fin 32) (w : Fin 64) : ∀ k, k ≤ 64 → a3 (atK m k c) (ix4 b h d w) = rs (argP m c) b h k d w
  | 0, _ => a3_entry m c b h d w
  | k + 1, hk => by
    have e : a3 (atK m (k + 1) c) = step_main_v119_3 (atK m k c) := (atK_succ m c k main_v119_3 (by decide)).trans (STEP_main_v119_3 _)
    refine (congrFun e _).trans ((step3_at (atK m k c) ⟨k, by omega⟩ (a2_at m c k) b h d w).trans ?_)
    rw [a0_keep, a1_keep, a3_at b h d w k (by omega), v116_at, v113_at]
    exact congrArg₂ (· + ·) (mul_comm _ _) rfl

/-- Before trip `k` the states before the chunks gone through are kept. -/
theorem a4_at (n : Fin 64) (b h : Fin 8) (d : Fin 32) (w : Fin 64) : ∀ k, k ≤ 64 → n.val < k → a4 (atK m k c) (ix5 n b h d w) = rs (argP m c) b h n d w
  | 0, _, hn => absurd hn (Nat.not_lt_zero _)
  | k + 1, hk, hn => by
    have e : a4 (atK m (k + 1) c) = step_main_v119_4 (atK m k c) := (atK_succ m c k main_v119_4 (by decide)).trans (STEP_main_v119_4 _)
    refine (congrFun e _).trans ((step4_at (atK m k c) ⟨k, by omega⟩ (a2_at m c k) n b h d w).trans ?_)
    by_cases h' : n = ⟨k, by omega⟩
    · rw [if_pos h', a3_at m c b h d w k (by omega), h']
    · rw [if_neg h']
      refine a4_at n b h d w k (by omega) ?_
      have : n.val ≠ k := fun q => h' (Fin.ext q)
      omega

end Cert.ReferenceIdeal.Hand

end
-- ==== Proof.RetRef.lean ====
/- The plain program's result of the retention, at an index. -/
module

public import proofs.«01_k».proof.Proof.RetLoop

@[expose] public section

set_option maxRecDepth 16384

noncomputable section

namespace Cert.ReferenceIdeal.Hand

open Cert.ReferenceIdeal Cert.ReferenceIdeal.Gen Cert.ReferenceIdeal.Value Cert.Layer Idealize.ShloMosaic Idealize.ShloMosaic.TcCoe
open Idealize.ShloMosaic.StableHlo

variable (m : (ℓ : Loc nD τ sig) → Buf (Elt Ideal) ℓ) (c : Dev nD)

section After

variable (V : Valuation τ sig (Elt Ideal))

/-- The rotated queries. -/
abbrev w87 : FVec Ideal S8x64x64x8x32 .f32 := V (Proc.devRef .tc main_v87)
/-- The running sums of the log decays. -/
abbrev w91 : FVec Ideal S8x64x64x8 .f32 := V (Proc.devRef .tc main_v91)
/-- The chunks' own parts. -/
abbrev w106 : FVec Ideal S8x64x64x8x64 .f32 := V (Proc.devRef .tc main_v106)
/-- The gate's argument. -/
abbrev w3 : FVec Ideal S8x4096x512 .f32 := V (Proc.devRef .tc main_v3)
/-- The norm's weights. -/
abbrev wW : FVec Ideal S512 .f32 := V (Proc.devRef .tc main_arg1)
/-- The result of what follows the loop. -/
abbrev o144 : FVec Ideal S8x4096x512 .bf16 := afterL postI V (Proc.devRef .tc main_v144)

/-- The retention at a token: its chunk's own part, and what the kept state gives. -/
def yAt (b : Fin 8) (n i : Fin 64) (h : Fin 8) (w : Fin 64) : EReal :=
  w106 V (ix5 b n i h w) + ∑ d : Fin 32, a4 V (ix5 n b h d w) * (w87 V (ix5 b n i h d) * Ideal.exp (w91 V (ix4 b n i h)))

/-- A head's retention, normalised, weighted and gated. -/
def zAt (b : Fin 8) (s : Fin 4096) (l : Fin 512) (n i : Fin 64) (h : Fin 8) (w : Fin 64) : EReal :=
  yAt V b n i h w * Ideal.rsqrt (Ideal.div (∑ u, yAt V b n i h u * yAt V b n i h u) (Ideal.ofBits FTy.f32 1115684864#32) + Ideal.ofBits FTy.f32 0x358637BD#32)
    * wW V (ix1 l) * (w3 V (ix3 b s l) * gate (w3 V (ix3 b s l)))

/-- What follows the loop, at an index. -/
theorem o144_at (b : Fin 8) (s : Fin 4096) (l : Fin 512) :
    o144 V (ix3 b s l) = zAt V b s l ⟨s.val / 64, by omega⟩ ⟨s.val % 64, by omega⟩ ⟨l.val / 64, by omega⟩ ⟨l.val % 64, by omega⟩ := by
  unfold o144
  rw [afterL_eq_after_flatten]
  after_reads_at
  rfl

end After

/-- The buffers when the loop has ended. -/
abbrev F := after condOps (atK m 64 c)

/-- A buffer that the loop does not write, when it has ended. -/
theorem F_keep (r : Ref sig .tc) (h : r ∉ loopWrites) : F m c (Proc.devRef .tc r) = E m c (Proc.devRef .tc r) := by
  have hc : r ∉ condOps_W := fun hm => h (by simp only [loopWrites, List.mem_append]; tauto)
  exact (after_of_writes_sub condOps _ condOps_writes hc).trans (loop_keep m c r h 64)

/-- The retention at a token is the layer's. -/
theorem yAt_eq (b : Fin 8) (n i : Fin 64) (h : Fin 8) (w : Fin 64) : yAt (F m c) b n i h w = ry (argP m c) b h n i w := by
  obtain ⟨r, e⟩ := lg_real h
  have e106 : w106 (F m c) = b106 m c := F_keep m c main_v106 (by decide)
  have e87 : w87 (F m c) = b87 m c := F_keep m c main_v87 (by decide)
  have e91 : w91 (F m c) = b91 m c := F_keep m c main_v91 (by decide)
  have e4 : a4 (F m c) = a4 (atK m 64 c) := cond_keeps (atK m 64 c) main_v119_4 (by decide)
  unfold yAt ry retRow
  rw [e106, e87, e91, e4]
  refine congrArg₂ (· + ·) (v106_at m c b n i h w) (Finset.sum_congr rfl fun d _ => (mul_comm _ _).trans ?_)
  rw [a4_at m c n b h d w 64 le_rfl n.isLt, v91_at m c b n i h r e, ← decQ_eq h r e]
  exact congrArg (fun z : EReal => z * decQ h i * rs (argP m c) b h n d w) (v87_at m c b n i h d)

/-- Dividing by sixty-four is multiplying by a sixty-fourth. -/
theorem div64 (x : EReal) : Ideal.div x (Ideal.ofBits FTy.f32 1115684864#32) = x * Ideal.ofBits FTy.f32 0x3C800000#32 := by
  rw [bits64, bits64th, Ideal.div_coe (by norm_num)]

/-- The program's result is the layer's retention of its arguments. -/
theorem result_at (b : Fin 8) (s : Fin 4096) (l : Fin 512) : o144 (F m c) (ix3 b s l) = ret (argP m c) (argW m c) b s l := by
  have e3 : w3 (F m c) = (E m c (Proc.devRef .tc main_v3) : FVec Ideal S8x4096x512 .f32) := F_keep m c main_v3 (by decide)
  have eW : wW (F m c) = argW m c := (F_keep m c main_arg1 (by decide)).trans (entry_keep m c main_arg1 (by decide))
  have hl : l.val / 64 * 64 + l.val % 64 = l.val := by omega
  have hs : s.val / 64 * 64 + s.val % 64 = s.val := by omega
  have hz : (E m c (Proc.devRef .tc main_v3) : FVec Ideal S8x4096x512 .f32) (ix3 b s l)
      = argP m c (ix3 b (tok (s.val / 64) ⟨s.val % 64, by omega⟩) ⟨1024 + (l.val / 64 * 64 + l.val % 64), by omega⟩) := by
    rw [v3_at]
    refine congrArg₂ (fun x y => argP m c (ix3 b x y)) (Fin.ext ?_) (Fin.ext ?_)
    · show s.val = (s.val / 64 * 64 + s.val % 64) % 4096
      omega
    · show 1024 + l.val = 1024 + (l.val / 64 * 64 + l.val % 64)
      omega
  have hw : argW m c (ix1 l) = argW m c (ix1 ⟨l.val / 64 * 64 + l.val % 64, by omega⟩) := congrArg (fun x => argW m c (ix1 x)) (Fin.ext hl.symm)
  rw [o144_at]
  unfold zAt ret rout
  rw [e3, eW, hz, hw, div64]
  simp only [yAt_eq]

/-- The program's result array. -/
theorem result : (finalContents condOps preI bodyI postI 64 m c (Proc.devRef .tc main_v144) : FVec Ideal S8x4096x512 .bf16)
    = fun i => ret (argP m c) (argW m c) (i 0) (i 1) (i 2) := by
  funext i
  refine (congrArg (o144 (F m c)) (eq_ix3 i)).trans (result_at m c (i 0) (i 1) (i 2))

end Cert.ReferenceIdeal.Hand

end
-- ==== Proof.RetAlgebraic.lean ====
/- Over the reals the retention kernel's result and the plain program's are one array. -/
module

public import proofs.«01_k».proof.Proof.RetKernel
public import proofs.«01_k».proof.Proof.RetRef

@[expose] public section

set_option maxRecDepth 16384

namespace Cert.Proof
open Idealize.ShloMosaic Idealize.ShloMosaic.TcCoe Idealize.SL.Sem

/-- Over the reals the retention kernel's result and the plain program's are one array. -/
theorem algebraic_Ret : Cert.algebraic_KernelIdeal_ReferenceIdeal := by
  pair_intro
  · run_from Cert.KernelIdeal.Value.run_blocks m g
  · run_from Cert.ReferenceIdeal.Value.run_fold m' g'
    · refine Eq.trans ?_ (Cert.KernelIdeal.Hand.final m c).symm
      refine (Cert.ReferenceIdeal.Hand.result m' c).trans ?_
      have e0 : Cert.ReferenceIdeal.Hand.argP m' c = Cert.KernelIdeal.Hand.argP m c := (hagree c).1
      have e1 : Cert.ReferenceIdeal.Hand.argW m' c = Cert.KernelIdeal.Hand.argW m c := (hagree c).2
      rw [e0, e1]
      rfl
    · exact (Cert.ReferenceIdeal.Hand.final_keep m' c Cert.ReferenceIdeal.main_arg0 (by decide) (by decide) (by decide)).trans (hagree c).1
    · exact (Cert.ReferenceIdeal.Hand.final_keep m' c Cert.ReferenceIdeal.main_arg1 (by decide) (by decide) (by decide)).trans (hagree c).2

end Cert.Proof
-- ==== Proof.lean ====
/- The certificate: the frames of every program, that each ideal kernel is its kernel, and that each ideal kernel
   computes its reference's results. The value claims are proved in the modules of their names. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.KernelProjRw
public import proofs.«01_k».proof.Proof.Gen.KernelProjRw.Skeleton
public import proofs.«01_k».proof.Proof.Gen.KernelProjRw.Launch
public import proofs.«01_k».proof.Proof.Gen.KernelProjRw.Points
public import proofs.«01_k».proof.Proof.Gen.KernelProjRw.Frame
public import proofs.«01_k».proof.Proof.Gen.KernelProjRwIdeal
public import proofs.«01_k».proof.Proof.Gen.KernelProjRwIdeal.Skeleton
public import proofs.«01_k».proof.Proof.Gen.KernelProjRwIdeal.Launch
public import proofs.«01_k».proof.Proof.Gen.KernelProjRwIdeal.Points
public import proofs.«01_k».proof.Proof.Gen.KernelProjRwIdeal.Frame
public import proofs.«01_k».proof.Proof.Gen.KernelProjRwIdeal.Value
public import proofs.«01_k».proof.Proof.Gen.ReferenceProjRwIdeal
public import proofs.«01_k».proof.Proof.Gen.ReferenceProjRwIdeal.Run
public import proofs.«01_k».proof.Proof.Gen.KernelProjRt
public import proofs.«01_k».proof.Proof.Gen.KernelProjRt.Skeleton
public import proofs.«01_k».proof.Proof.Gen.KernelProjRt.Launch
public import proofs.«01_k».proof.Proof.Gen.KernelProjRt.Points
public import proofs.«01_k».proof.Proof.Gen.KernelProjRt.Frame
public import proofs.«01_k».proof.Proof.Gen.KernelProjRtIdeal
public import proofs.«01_k».proof.Proof.Gen.KernelProjRtIdeal.Skeleton
public import proofs.«01_k».proof.Proof.Gen.KernelProjRtIdeal.Launch
public import proofs.«01_k».proof.Proof.Gen.KernelProjRtIdeal.Points
public import proofs.«01_k».proof.Proof.Gen.KernelProjRtIdeal.Frame
public import proofs.«01_k».proof.Proof.Gen.KernelProjRtIdeal.Value
public import proofs.«01_k».proof.Proof.Gen.ReferenceProjRtIdeal
public import proofs.«01_k».proof.Proof.Gen.ReferenceProjRtIdeal.Run
public import proofs.«01_k».proof.Proof.Gen.KernelProjSd
public import proofs.«01_k».proof.Proof.Gen.KernelProjSd.Skeleton
public import proofs.«01_k».proof.Proof.Gen.KernelProjSd.Launch
public import proofs.«01_k».proof.Proof.Gen.KernelProjSd.Points
public import proofs.«01_k».proof.Proof.Gen.KernelProjSd.Frame
public import proofs.«01_k».proof.Proof.Gen.KernelProjSdIdeal
public import proofs.«01_k».proof.Proof.Gen.KernelProjSdIdeal.Skeleton
public import proofs.«01_k».proof.Proof.Gen.KernelProjSdIdeal.Launch
public import proofs.«01_k».proof.Proof.Gen.KernelProjSdIdeal.Points
public import proofs.«01_k».proof.Proof.Gen.KernelProjSdIdeal.Frame
public import proofs.«01_k».proof.Proof.Gen.KernelProjSdIdeal.Value
public import proofs.«01_k».proof.Proof.Gen.ReferenceProjSdIdeal
public import proofs.«01_k».proof.Proof.Gen.ReferenceProjSdIdeal.Run
public import proofs.«01_k».proof.Proof.Gen.KernelProjGd
public import proofs.«01_k».proof.Proof.Gen.KernelProjGd.Skeleton
public import proofs.«01_k».proof.Proof.Gen.KernelProjGd.Launch
public import proofs.«01_k».proof.Proof.Gen.KernelProjGd.Points
public import proofs.«01_k».proof.Proof.Gen.KernelProjGd.Frame
public import proofs.«01_k».proof.Proof.Gen.KernelProjGdIdeal
public import proofs.«01_k».proof.Proof.Gen.KernelProjGdIdeal.Skeleton
public import proofs.«01_k».proof.Proof.Gen.KernelProjGdIdeal.Launch
public import proofs.«01_k».proof.Proof.Gen.KernelProjGdIdeal.Points
public import proofs.«01_k».proof.Proof.Gen.KernelProjGdIdeal.Frame
public import proofs.«01_k».proof.Proof.Gen.KernelProjGdIdeal.Value
public import proofs.«01_k».proof.Proof.Gen.ReferenceProjGdIdeal
public import proofs.«01_k».proof.Proof.Gen.ReferenceProjGdIdeal.Run
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelMergeLast
public import proofs.«01_k».proof.Proof.Gen.KernelMergeLast.Skeleton
public import proofs.«01_k».proof.Proof.Gen.KernelMergeLast.Launch
public import proofs.«01_k».proof.Proof.Gen.KernelMergeLast.Points
public import proofs.«01_k».proof.Proof.Gen.KernelMergeLast.Frame
public import proofs.«01_k».proof.Proof.Gen.KernelMergeLastIdeal
public import proofs.«01_k».proof.Proof.Gen.KernelMergeLastIdeal.Skeleton
public import proofs.«01_k».proof.Proof.Gen.KernelMergeLastIdeal.Launch
public import proofs.«01_k».proof.Proof.Gen.KernelMergeLastIdeal.Points
public import proofs.«01_k».proof.Proof.Gen.KernelMergeLastIdeal.Frame
public import proofs.«01_k».proof.Proof.Gen.KernelMergeLastIdeal.Value
public import proofs.«01_k».proof.Proof.Gen.ReferenceMergeLastIdeal
public import proofs.«01_k».proof.Proof.Gen.ReferenceMergeLastIdeal.Run
public import proofs.«01_k».proof.Proof.ProjRw
public import proofs.«01_k».proof.Proof.ProjRt
public import proofs.«01_k».proof.Proof.ProjSd
public import proofs.«01_k».proof.Proof.ProjGd
public import proofs.«01_k».proof.Proof.Merge
public import proofs.«01_k».proof.Proof.MergeLast
public import proofs.«01_k».proof.Proof.RetRun
public import proofs.«01_k».proof.Proof.RetAlgebraic
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference program of `ProjRw` ends on every run, with its arguments unchanged and every counter at zero. -/
theorem frame_ReferenceProjRw : Cert.quiescent_ReferenceProjRwIdeal (hReferenceProjRwIdeal := Cert.ReferenceProjRwIdeal.Gen.facts) := by
  intro m g _
  run_from Cert.ReferenceProjRwIdeal.Value.run m g
  · intro c
    and_intros <;> trivial
  · exact sem_eq_zero_of_no_sems (sig := Cert.ReferenceProjRwIdeal.sig) rfl _

/-- The reference program of `ProjRt` ends on every run, with its arguments unchanged and every counter at zero. -/
theorem frame_ReferenceProjRt : Cert.quiescent_ReferenceProjRtIdeal (hReferenceProjRtIdeal := Cert.ReferenceProjRtIdeal.Gen.facts) := by
  intro m g _
  run_from Cert.ReferenceProjRtIdeal.Value.run m g
  · intro c
    and_intros <;> trivial
  · exact sem_eq_zero_of_no_sems (sig := Cert.ReferenceProjRtIdeal.sig) rfl _

/-- The reference program of `ProjSd` ends on every run, with its arguments unchanged and every counter at zero. -/
theorem frame_ReferenceProjSd : Cert.quiescent_ReferenceProjSdIdeal (hReferenceProjSdIdeal := Cert.ReferenceProjSdIdeal.Gen.facts) := by
  intro m g _
  run_from Cert.ReferenceProjSdIdeal.Value.run m g
  · intro c
    and_intros <;> trivial
  · exact sem_eq_zero_of_no_sems (sig := Cert.ReferenceProjSdIdeal.sig) rfl _

/-- The reference program of `ProjGd` ends on every run, with its arguments unchanged and every counter at zero. -/
theorem frame_ReferenceProjGd : Cert.quiescent_ReferenceProjGdIdeal (hReferenceProjGdIdeal := Cert.ReferenceProjGdIdeal.Gen.facts) := by
  intro m g _
  run_from Cert.ReferenceProjGdIdeal.Value.run m g
  · intro c
    and_intros <;> trivial
  · exact sem_eq_zero_of_no_sems (sig := Cert.ReferenceProjGdIdeal.sig) rfl _

/-- The reference program of `Merge` ends on every run, with its arguments unchanged and every counter at zero. -/
theorem frame_ReferenceMerge : Cert.quiescent_ReferenceMergeIdeal (hReferenceMergeIdeal := Cert.ReferenceMergeIdeal.Gen.facts) := by
  intro m g _
  run_from Cert.ReferenceMergeIdeal.Value.run m g
  · intro c
    and_intros <;> trivial
  · exact sem_eq_zero_of_no_sems (sig := Cert.ReferenceMergeIdeal.sig) rfl _

/-- The reference program of `MergeLast` ends on every run, with its arguments unchanged and every counter at zero. -/
theorem frame_ReferenceMergeLast : Cert.quiescent_ReferenceMergeLastIdeal (hReferenceMergeLastIdeal := Cert.ReferenceMergeLastIdeal.Gen.facts) := by
  intro m g _
  run_from Cert.ReferenceMergeLastIdeal.Value.run m g
  · intro c
    and_intros <;> trivial
  · exact sem_eq_zero_of_no_sems (sig := Cert.ReferenceMergeLastIdeal.sig) rfl _

/-- Every claim of the certificate. -/
theorem claim : Cert.Claim := by
  refine ⟨Cert.Kernel.Gen.facts, Cert.KernelIdeal.Gen.facts, Cert.ReferenceIdeal.Gen.facts, Cert.KernelProjRw.Gen.facts, Cert.KernelProjRwIdeal.Gen.facts, Cert.ReferenceProjRwIdeal.Gen.facts, Cert.KernelProjRt.Gen.facts, Cert.KernelProjRtIdeal.Gen.facts, Cert.ReferenceProjRtIdeal.Gen.facts, Cert.KernelProjSd.Gen.facts, Cert.KernelProjSdIdeal.Gen.facts, Cert.ReferenceProjSdIdeal.Gen.facts, Cert.KernelProjGd.Gen.facts, Cert.KernelProjGdIdeal.Gen.facts, Cert.ReferenceProjGdIdeal.Gen.facts, Cert.KernelMerge.Gen.facts, Cert.KernelMergeIdeal.Gen.facts, Cert.ReferenceMergeIdeal.Gen.facts, Cert.KernelMergeLast.Gen.facts, Cert.KernelMergeLastIdeal.Gen.facts, Cert.ReferenceMergeLastIdeal.Gen.facts, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact frame_ReferenceIdeal
  · exact fun m ρ _ => Cert.KernelProjRw.Gen.frame m ρ
  · exact fun m ρ _ => Cert.KernelProjRwIdeal.Gen.frame m ρ
  · exact frame_ReferenceProjRw
  · exact fun m ρ _ => Cert.KernelProjRt.Gen.frame m ρ
  · exact fun m ρ _ => Cert.KernelProjRtIdeal.Gen.frame m ρ
  · exact frame_ReferenceProjRt
  · exact fun m ρ _ => Cert.KernelProjSd.Gen.frame m ρ
  · exact fun m ρ _ => Cert.KernelProjSdIdeal.Gen.frame m ρ
  · exact frame_ReferenceProjSd
  · exact fun m ρ _ => Cert.KernelProjGd.Gen.frame m ρ
  · exact fun m ρ _ => Cert.KernelProjGdIdeal.Gen.frame m ρ
  · exact frame_ReferenceProjGd
  · exact fun m ρ _ => Cert.KernelMerge.Gen.frame m ρ
  · exact fun m ρ _ => Cert.KernelMergeIdeal.Gen.frame m ρ
  · exact frame_ReferenceMerge
  · exact fun m ρ _ => Cert.KernelMergeLast.Gen.frame m ρ
  · exact fun m ρ _ => Cert.KernelMergeLastIdeal.Gen.frame m ρ
  · exact frame_ReferenceMergeLast
  · trivial
  · exact algebraic_Ret
  · trivial
  · exact algebraic_ProjRw
  · trivial
  · exact algebraic_ProjRt
  · trivial
  · exact algebraic_ProjSd
  · trivial
  · exact algebraic_ProjGd
  · trivial
  · exact algebraic_Merge
  · trivial
  · exact algebraic_MergeLast

end Cert.Proof

end
